-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_LnKv (m : (ℓ : Loc Cert.LnKv.nD Cert.LnKv.τ Cert.LnKv.sig) → Buf (Elt Bits) ℓ) : Prop :=
  True

def Pre_LnKvIdeal (m : (ℓ : Loc Cert.LnKvIdeal.nD Cert.LnKvIdeal.τ Cert.LnKvIdeal.sig) → Buf (Elt Ideal) ℓ) : Prop :=
  True

def Pre_LnKvReferenceIdeal (m : (ℓ : Loc Cert.LnKvReferenceIdeal.nD Cert.LnKvReferenceIdeal.τ Cert.LnKvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_LnKv [hLnKv : Cert.LnKv.Facts] : Prop :=
  ∀ (m : (ℓ : Loc Cert.LnKv.nD Cert.LnKv.τ Cert.LnKv.sig) → Buf (Elt Bits) ℓ) (g : Dev Cert.LnKv.nD → PrngReg), Pre_LnKv m →
    θ_run (Cert.LnKv.defs (F := Bits)) (onTc (τ := Cert.LnKv.τ) (Cert.LnKv.main (F := Bits))) ⟨m, fun _ => 0, g⟩ (fun r => (∀ c : Dev Cert.LnKv.nD,
      r.2.mem ((c.tc : Thread Cert.LnKv.nD Cert.LnKv.τ).loc Cert.LnKv.main_arg0) = m ((c.tc : Thread Cert.LnKv.nD Cert.LnKv.τ).loc Cert.LnKv.main_arg0)
      ∧ r.2.mem ((c.tc : Thread Cert.LnKv.nD Cert.LnKv.τ).loc Cert.LnKv.main_arg1) = m ((c.tc : Thread Cert.LnKv.nD Cert.LnKv.τ).loc Cert.LnKv.main_arg1)
      ∧ r.2.mem ((c.tc : Thread Cert.LnKv.nD Cert.LnKv.τ).loc Cert.LnKv.main_arg2) = m ((c.tc : Thread Cert.LnKv.nD Cert.LnKv.τ).loc Cert.LnKv.main_arg2)
      ∧ r.2.mem ((c.tc : Thread Cert.LnKv.nD Cert.LnKv.τ).loc Cert.LnKv.main_arg3) = m ((c.tc : Thread Cert.LnKv.nD Cert.LnKv.τ).loc Cert.LnKv.main_arg3)
      ∧ r.2.mem ((c.tc : Thread Cert.LnKv.nD Cert.LnKv.τ).loc Cert.LnKv.main_arg4) = m ((c.tc : Thread Cert.LnKv.nD Cert.LnKv.τ).loc Cert.LnKv.main_arg4)
      ∧ r.2.mem ((c.tc : Thread Cert.LnKv.nD Cert.LnKv.τ).loc Cert.LnKv.main_arg5) = m ((c.tc : Thread Cert.LnKv.nD Cert.LnKv.τ).loc Cert.LnKv.main_arg5)
      ∧ r.2.mem ((c.tc : Thread Cert.LnKv.nD Cert.LnKv.τ).loc Cert.LnKv.main_arg6) = m ((c.tc : Thread Cert.LnKv.nD Cert.LnKv.τ).loc Cert.LnKv.main_arg6)
      ∧ r.2.mem ((c.tc : Thread Cert.LnKv.nD Cert.LnKv.τ).loc Cert.LnKv.main_arg7) = m ((c.tc : Thread Cert.LnKv.nD Cert.LnKv.τ).loc Cert.LnKv.main_arg7)
      ∧ r.2.mem ((c.tc : Thread Cert.LnKv.nD Cert.LnKv.τ).loc Cert.LnKv.main_arg8) = m ((c.tc : Thread Cert.LnKv.nD Cert.LnKv.τ).loc Cert.LnKv.main_arg8))
      ∧ r.2.sem = fun _ => 0)

def quiescent_LnKvIdeal [hLnKvIdeal : Cert.LnKvIdeal.Facts] : Prop :=
  ∀ (m : (ℓ : Loc Cert.LnKvIdeal.nD Cert.LnKvIdeal.τ Cert.LnKvIdeal.sig) → Buf (Elt Ideal) ℓ) (g : Dev Cert.LnKvIdeal.nD → PrngReg), Pre_LnKvIdeal m →
    θ_run (Cert.LnKvIdeal.defs (F := Ideal)) (onTc (τ := Cert.LnKvIdeal.τ) (Cert.LnKvIdeal.main (F := Ideal))) ⟨m, fun _ => 0, g⟩ (fun r => (∀ c : Dev Cert.LnKvIdeal.nD,
      r.2.mem ((c.tc : Thread Cert.LnKvIdeal.nD Cert.LnKvIdeal.τ).loc Cert.LnKvIdeal.main_arg0) = m ((c.tc : Thread Cert.LnKvIdeal.nD Cert.LnKvIdeal.τ).loc Cert.LnKvIdeal.main_arg0)
      ∧ r.2.mem ((c.tc : Thread Cert.LnKvIdeal.nD Cert.LnKvIdeal.τ).loc Cert.LnKvIdeal.main_arg1) = m ((c.tc : Thread Cert.LnKvIdeal.nD Cert.LnKvIdeal.τ).loc Cert.LnKvIdeal.main_arg1)
      ∧ r.2.mem ((c.tc : Thread Cert.LnKvIdeal.nD Cert.LnKvIdeal.τ).loc Cert.LnKvIdeal.main_arg2) = m ((c.tc : Thread Cert.LnKvIdeal.nD Cert.LnKvIdeal.τ).loc Cert.LnKvIdeal.main_arg2)
      ∧ r.2.mem ((c.tc : Thread Cert.LnKvIdeal.nD Cert.LnKvIdeal.τ).loc Cert.LnKvIdeal.main_arg3) = m ((c.tc : Thread Cert.LnKvIdeal.nD Cert.LnKvIdeal.τ).loc Cert.LnKvIdeal.main_arg3)
      ∧ r.2.mem ((c.tc : Thread Cert.LnKvIdeal.nD Cert.LnKvIdeal.τ).loc Cert.LnKvIdeal.main_arg4) = m ((c.tc : Thread Cert.LnKvIdeal.nD Cert.LnKvIdeal.τ).loc Cert.LnKvIdeal.main_arg4)
      ∧ r.2.mem ((c.tc : Thread Cert.LnKvIdeal.nD Cert.LnKvIdeal.τ).loc Cert.LnKvIdeal.main_arg5) = m ((c.tc : Thread Cert.LnKvIdeal.nD Cert.LnKvIdeal.τ).loc Cert.LnKvIdeal.main_arg5)
      ∧ r.2.mem ((c.tc : Thread Cert.LnKvIdeal.nD Cert.LnKvIdeal.τ).loc Cert.LnKvIdeal.main_arg6) = m ((c.tc : Thread Cert.LnKvIdeal.nD Cert.LnKvIdeal.τ).loc Cert.LnKvIdeal.main_arg6)
      ∧ r.2.mem ((c.tc : Thread Cert.LnKvIdeal.nD Cert.LnKvIdeal.τ).loc Cert.LnKvIdeal.main_arg7) = m ((c.tc : Thread Cert.LnKvIdeal.nD Cert.LnKvIdeal.τ).loc Cert.LnKvIdeal.main_arg7)
      ∧ r.2.mem ((c.tc : Thread Cert.LnKvIdeal.nD Cert.LnKvIdeal.τ).loc Cert.LnKvIdeal.main_arg8) = m ((c.tc : Thread Cert.LnKvIdeal.nD Cert.LnKvIdeal.τ).loc Cert.LnKvIdeal.main_arg8))
      ∧ r.2.sem = fun _ => 0)

def quiescent_LnKvReferenceIdeal [hLnKvReferenceIdeal : Cert.LnKvReferenceIdeal.Facts] : Prop :=
  ∀ (m : (ℓ : Loc Cert.LnKvReferenceIdeal.nD Cert.LnKvReferenceIdeal.τ Cert.LnKvReferenceIdeal.sig) → Buf (Elt Ideal) ℓ) (g : Dev Cert.LnKvReferenceIdeal.nD → PrngReg), Pre_LnKvReferenceIdeal m →
    θ_run (Cert.LnKvReferenceIdeal.defs (F := Ideal)) (onTc (τ := Cert.LnKvReferenceIdeal.τ) (Cert.LnKvReferenceIdeal.main (F := Ideal))) ⟨m, fun _ => 0, g⟩ (fun r => (∀ c : Dev Cert.LnKvReferenceIdeal.nD,
      r.2.mem ((c.tc : Thread Cert.LnKvReferenceIdeal.nD Cert.LnKvReferenceIdeal.τ).loc Cert.LnKvReferenceIdeal.main_arg0) = m ((c.tc : Thread Cert.LnKvReferenceIdeal.nD Cert.LnKvReferenceIdeal.τ).loc Cert.LnKvReferenceIdeal.main_arg0)
      ∧ r.2.mem ((c.tc : Thread Cert.LnKvReferenceIdeal.nD Cert.LnKvReferenceIdeal.τ).loc Cert.LnKvReferenceIdeal.main_arg1) = m ((c.tc : Thread Cert.LnKvReferenceIdeal.nD Cert.LnKvReferenceIdeal.τ).loc Cert.LnKvReferenceIdeal.main_arg1)
      ∧ r.2.mem ((c.tc : Thread Cert.LnKvReferenceIdeal.nD Cert.LnKvReferenceIdeal.τ).loc Cert.LnKvReferenceIdeal.main_arg2) = m ((c.tc : Thread Cert.LnKvReferenceIdeal.nD Cert.LnKvReferenceIdeal.τ).loc Cert.LnKvReferenceIdeal.main_arg2)
      ∧ r.2.mem ((c.tc : Thread Cert.LnKvReferenceIdeal.nD Cert.LnKvReferenceIdeal.τ).loc Cert.LnKvReferenceIdeal.main_arg3) = m ((c.tc : Thread Cert.LnKvReferenceIdeal.nD Cert.LnKvReferenceIdeal.τ).loc Cert.LnKvReferenceIdeal.main_arg3)
      ∧ r.2.mem ((c.tc : Thread Cert.LnKvReferenceIdeal.nD Cert.LnKvReferenceIdeal.τ).loc Cert.LnKvReferenceIdeal.main_arg4) = m ((c.tc : Thread Cert.LnKvReferenceIdeal.nD Cert.LnKvReferenceIdeal.τ).loc Cert.LnKvReferenceIdeal.main_arg4)
      ∧ r.2.mem ((c.tc : Thread Cert.LnKvReferenceIdeal.nD Cert.LnKvReferenceIdeal.τ).loc Cert.LnKvReferenceIdeal.main_arg5) = m ((c.tc : Thread Cert.LnKvReferenceIdeal.nD Cert.LnKvReferenceIdeal.τ).loc Cert.LnKvReferenceIdeal.main_arg5)
      ∧ r.2.mem ((c.tc : Thread Cert.LnKvReferenceIdeal.nD Cert.LnKvReferenceIdeal.τ).loc Cert.LnKvReferenceIdeal.main_arg6) = m ((c.tc : Thread Cert.LnKvReferenceIdeal.nD Cert.LnKvReferenceIdeal.τ).loc Cert.LnKvReferenceIdeal.main_arg6)
      ∧ r.2.mem ((c.tc : Thread Cert.LnKvReferenceIdeal.nD Cert.LnKvReferenceIdeal.τ).loc Cert.LnKvReferenceIdeal.main_arg7) = m ((c.tc : Thread Cert.LnKvReferenceIdeal.nD Cert.LnKvReferenceIdeal.τ).loc Cert.LnKvReferenceIdeal.main_arg7)
      ∧ r.2.mem ((c.tc : Thread Cert.LnKvReferenceIdeal.nD Cert.LnKvReferenceIdeal.τ).loc Cert.LnKvReferenceIdeal.main_arg8) = m ((c.tc : Thread Cert.LnKvReferenceIdeal.nD Cert.LnKvReferenceIdeal.τ).loc Cert.LnKvReferenceIdeal.main_arg8))
      ∧ r.2.sem = fun _ => 0)

def preserves_Kernel_KernelIdeal : Prop :=
  IdealRules.named_const.Statement Cert.KernelIdeal.κ "log2_e4m3_max" .f32 0x410CEAED#32 (((Real.log 448) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)) (v2 : (c : Dev Cert.OutProjIdeal.nD) → Buf (Elt Ideal) ((c.tc : Thread Cert.OutProjIdeal.nD Cert.OutProjIdeal.τ).loc Cert.OutProjIdeal.main_v4_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_v4_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4_0) = v0 c
          ∧ r.2.mem ((c.tc : Thread Cert.OutProjReferenceIdeal.nD Cert.OutProjReferenceIdeal.τ).loc Cert.OutProjReferenceIdeal.main_v4_1) = v1 c
          ∧ r.2.mem ((c.tc : Thread Cert.OutProjReferenceIdeal.nD Cert.OutProjReferenceIdeal.τ).loc Cert.OutProjReferenceIdeal.main_v4_2) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_LnKv_LnKvIdeal : Prop :=
  True

def algebraic_LnKvIdeal_LnKvReferenceIdeal [hLnKvIdeal : Cert.LnKvIdeal.Facts] [hLnKvReferenceIdeal : Cert.LnKvReferenceIdeal.Facts] : Prop :=
  ∀ (m : (ℓ : Loc Cert.LnKvIdeal.nD Cert.LnKvIdeal.τ Cert.LnKvIdeal.sig) → Buf (Elt Ideal) ℓ) (g : Dev Cert.LnKvIdeal.nD → PrngReg)
    (m' : (ℓ : Loc Cert.LnKvReferenceIdeal.nD Cert.LnKvReferenceIdeal.τ Cert.LnKvReferenceIdeal.sig) → Buf (Elt Ideal) ℓ) (g' : Dev Cert.LnKvReferenceIdeal.nD → PrngReg), Pre_LnKvIdeal m →
    (∀ c : Dev Cert.LnKvIdeal.nD,
      m' ((c.tc : Thread Cert.LnKvReferenceIdeal.nD Cert.LnKvReferenceIdeal.τ).loc Cert.LnKvReferenceIdeal.main_arg0) = m ((c.tc : Thread Cert.LnKvIdeal.nD Cert.LnKvIdeal.τ).loc Cert.LnKvIdeal.main_arg0)
      ∧ m' ((c.tc : Thread Cert.LnKvReferenceIdeal.nD Cert.LnKvReferenceIdeal.τ).loc Cert.LnKvReferenceIdeal.main_arg1) = m ((c.tc : Thread Cert.LnKvIdeal.nD Cert.LnKvIdeal.τ).loc Cert.LnKvIdeal.main_arg1)
      ∧ m' ((c.tc : Thread Cert.LnKvReferenceIdeal.nD Cert.LnKvReferenceIdeal.τ).loc Cert.LnKvReferenceIdeal.main_arg2) = m ((c.tc : Thread Cert.LnKvIdeal.nD Cert.LnKvIdeal.τ).loc Cert.LnKvIdeal.main_arg2)
      ∧ m' ((c.tc : Thread Cert.LnKvReferenceIdeal.nD Cert.LnKvReferenceIdeal.τ).loc Cert.LnKvReferenceIdeal.main_arg3) = m ((c.tc : Thread Cert.LnKvIdeal.nD Cert.LnKvIdeal.τ).loc Cert.LnKvIdeal.main_arg3)
      ∧ m' ((c.tc : Thread Cert.LnKvReferenceIdeal.nD Cert.LnKvReferenceIdeal.τ).loc Cert.LnKvReferenceIdeal.main_arg4) = m ((c.tc : Thread Cert.LnKvIdeal.nD Cert.LnKvIdeal.τ).loc Cert.LnKvIdeal.main_arg4)
      ∧ m' ((c.tc : Thread Cert.LnKvReferenceIdeal.nD Cert.LnKvReferenceIdeal.τ).loc Cert.LnKvReferenceIdeal.main_arg5) = m ((c.tc : Thread Cert.LnKvIdeal.nD Cert.LnKvIdeal.τ).loc Cert.LnKvIdeal.main_arg5)
      ∧ m' ((c.tc : Thread Cert.LnKvReferenceIdeal.nD Cert.LnKvReferenceIdeal.τ).loc Cert.LnKvReferenceIdeal.main_arg6) = m ((c.tc : Thread Cert.LnKvIdeal.nD Cert.LnKvIdeal.τ).loc Cert.LnKvIdeal.main_arg6)
      ∧ m' ((c.tc : Thread Cert.LnKvReferenceIdeal.nD Cert.LnKvReferenceIdeal.τ).loc Cert.LnKvReferenceIdeal.main_arg7) = m ((c.tc : Thread Cert.LnKvIdeal.nD Cert.LnKvIdeal.τ).loc Cert.LnKvIdeal.main_arg7)
      ∧ m' ((c.tc : Thread Cert.LnKvReferenceIdeal.nD Cert.LnKvReferenceIdeal.τ).loc Cert.LnKvReferenceIdeal.main_arg8) = m ((c.tc : Thread Cert.LnKvIdeal.nD Cert.LnKvIdeal.τ).loc Cert.LnKvIdeal.main_arg8)) →
    ∃ (v0 : (c : Dev Cert.LnKvIdeal.nD) → Buf (Elt Ideal) ((c.tc : Thread Cert.LnKvIdeal.nD Cert.LnKvIdeal.τ).loc Cert.LnKvIdeal.main_v9_0)) (v1 : (c : Dev Cert.LnKvIdeal.nD) → Buf (Elt Ideal) ((c.tc : Thread Cert.LnKvIdeal.nD Cert.LnKvIdeal.τ).loc Cert.LnKvIdeal.main_v9_1)) (v2 : (c : Dev Cert.LnKvIdeal.nD) → Buf (Elt Ideal) ((c.tc : Thread Cert.LnKvIdeal.nD Cert.LnKvIdeal.τ).loc Cert.LnKvIdeal.main_v9_2)) (v3 : (c : Dev Cert.LnKvIdeal.nD) → Buf (Elt Ideal) ((c.tc : Thread Cert.LnKvIdeal.nD Cert.LnKvIdeal.τ).loc Cert.LnKvIdeal.main_v9_3)),
      θ_run (Cert.LnKvIdeal.defs (F := Ideal)) (onTc (τ := Cert.LnKvIdeal.τ) (Cert.LnKvIdeal.main (F := Ideal))) ⟨m, fun _ => 0, g⟩ (fun r => ∀ c : Dev Cert.LnKvIdeal.nD,
          r.2.mem ((c.tc : Thread Cert.LnKvIdeal.nD Cert.LnKvIdeal.τ).loc Cert.LnKvIdeal.main_v9_0) = v0 c
          ∧ r.2.mem ((c.tc : Thread Cert.LnKvIdeal.nD Cert.LnKvIdeal.τ).loc Cert.LnKvIdeal.main_v9_1) = v1 c
          ∧ r.2.mem ((c.tc : Thread Cert.LnKvIdeal.nD Cert.LnKvIdeal.τ).loc Cert.LnKvIdeal.main_v9_2) = v2 c
          ∧ r.2.mem ((c.tc : Thread Cert.LnKvIdeal.nD Cert.LnKvIdeal.τ).loc Cert.LnKvIdeal.main_v9_3) = v3 c
          ∧ r.2.mem ((c.tc : Thread Cert.LnKvIdeal.nD Cert.LnKvIdeal.τ).loc Cert.LnKvIdeal.main_arg0) = m ((c.tc : Thread Cert.LnKvIdeal.nD Cert.LnKvIdeal.τ).loc Cert.LnKvIdeal.main_arg0)
          ∧ r.2.mem ((c.tc : Thread Cert.LnKvIdeal.nD Cert.LnKvIdeal.τ).loc Cert.LnKvIdeal.main_arg1) = m ((c.tc : Thread Cert.LnKvIdeal.nD Cert.LnKvIdeal.τ).loc Cert.LnKvIdeal.main_arg1)
          ∧ r.2.mem ((c.tc : Thread Cert.LnKvIdeal.nD Cert.LnKvIdeal.τ).loc Cert.LnKvIdeal.main_arg2) = m ((c.tc : Thread Cert.LnKvIdeal.nD Cert.LnKvIdeal.τ).loc Cert.LnKvIdeal.main_arg2)
          ∧ r.2.mem ((c.tc : Thread Cert.LnKvIdeal.nD Cert.LnKvIdeal.τ).loc Cert.LnKvIdeal.main_arg3) = m ((c.tc : Thread Cert.LnKvIdeal.nD Cert.LnKvIdeal.τ).loc Cert.LnKvIdeal.main_arg3)
          ∧ r.2.mem ((c.tc : Thread Cert.LnKvIdeal.nD Cert.LnKvIdeal.τ).loc Cert.LnKvIdeal.main_arg4) = m ((c.tc : Thread Cert.LnKvIdeal.nD Cert.LnKvIdeal.τ).loc Cert.LnKvIdeal.main_arg4)
          ∧ r.2.mem ((c.tc : Thread Cert.LnKvIdeal.nD Cert.LnKvIdeal.τ).loc Cert.LnKvIdeal.main_arg5) = m ((c.tc : Thread Cert.LnKvIdeal.nD Cert.LnKvIdeal.τ).loc Cert.LnKvIdeal.main_arg5)
          ∧ r.2.mem ((c.tc : Thread Cert.LnKvIdeal.nD Cert.LnKvIdeal.τ).loc Cert.LnKvIdeal.main_arg6) = m ((c.tc : Thread Cert.LnKvIdeal.nD Cert.LnKvIdeal.τ).loc Cert.LnKvIdeal.main_arg6)
          ∧ r.2.mem ((c.tc : Thread Cert.LnKvIdeal.nD Cert.LnKvIdeal.τ).loc Cert.LnKvIdeal.main_arg7) = m ((c.tc : Thread Cert.LnKvIdeal.nD Cert.LnKvIdeal.τ).loc Cert.LnKvIdeal.main_arg7)
          ∧ r.2.mem ((c.tc : Thread Cert.LnKvIdeal.nD Cert.LnKvIdeal.τ).loc Cert.LnKvIdeal.main_arg8) = m ((c.tc : Thread Cert.LnKvIdeal.nD Cert.LnKvIdeal.τ).loc Cert.LnKvIdeal.main_arg8))
      ∧ θ_run (Cert.LnKvReferenceIdeal.defs (F := Ideal)) (onTc (τ := Cert.LnKvReferenceIdeal.τ) (Cert.LnKvReferenceIdeal.main (F := Ideal))) ⟨m', fun _ => 0, g'⟩ (fun r => ∀ c : Dev Cert.LnKvReferenceIdeal.nD,
          r.2.mem ((c.tc : Thread Cert.LnKvReferenceIdeal.nD Cert.LnKvReferenceIdeal.τ).loc Cert.LnKvReferenceIdeal.main_v9_0) = v0 c
          ∧ r.2.mem ((c.tc : Thread Cert.LnKvReferenceIdeal.nD Cert.LnKvReferenceIdeal.τ).loc Cert.LnKvReferenceIdeal.main_v9_1) = v1 c
          ∧ r.2.mem ((c.tc : Thread Cert.LnKvReferenceIdeal.nD Cert.LnKvReferenceIdeal.τ).loc Cert.LnKvReferenceIdeal.main_v9_2) = v2 c
          ∧ r.2.mem ((c.tc : Thread Cert.LnKvReferenceIdeal.nD Cert.LnKvReferenceIdeal.τ).loc Cert.LnKvReferenceIdeal.main_v9_3) = v3 c
          ∧ r.2.mem ((c.tc : Thread Cert.LnKvReferenceIdeal.nD Cert.LnKvReferenceIdeal.τ).loc Cert.LnKvReferenceIdeal.main_arg0) = m' ((c.tc : Thread Cert.LnKvReferenceIdeal.nD Cert.LnKvReferenceIdeal.τ).loc Cert.LnKvReferenceIdeal.main_arg0)
          ∧ r.2.mem ((c.tc : Thread Cert.LnKvReferenceIdeal.nD Cert.LnKvReferenceIdeal.τ).loc Cert.LnKvReferenceIdeal.main_arg1) = m' ((c.tc : Thread Cert.LnKvReferenceIdeal.nD Cert.LnKvReferenceIdeal.τ).loc Cert.LnKvReferenceIdeal.main_arg1)
          ∧ r.2.mem ((c.tc : Thread Cert.LnKvReferenceIdeal.nD Cert.LnKvReferenceIdeal.τ).loc Cert.LnKvReferenceIdeal.main_arg2) = m' ((c.tc : Thread Cert.LnKvReferenceIdeal.nD Cert.LnKvReferenceIdeal.τ).loc Cert.LnKvReferenceIdeal.main_arg2)
          ∧ r.2.mem ((c.tc : Thread Cert.LnKvReferenceIdeal.nD Cert.LnKvReferenceIdeal.τ).loc Cert.LnKvReferenceIdeal.main_arg3) = m' ((c.tc : Thread Cert.LnKvReferenceIdeal.nD Cert.LnKvReferenceIdeal.τ).loc Cert.LnKvReferenceIdeal.main_arg3)
          ∧ r.2.mem ((c.tc : Thread Cert.LnKvReferenceIdeal.nD Cert.LnKvReferenceIdeal.τ).loc Cert.LnKvReferenceIdeal.main_arg4) = m' ((c.tc : Thread Cert.LnKvReferenceIdeal.nD Cert.LnKvReferenceIdeal.τ).loc Cert.LnKvReferenceIdeal.main_arg4)
          ∧ r.2.mem ((c.tc : Thread Cert.LnKvReferenceIdeal.nD Cert.LnKvReferenceIdeal.τ).loc Cert.LnKvReferenceIdeal.main_arg5) = m' ((c.tc : Thread Cert.LnKvReferenceIdeal.nD Cert.LnKvReferenceIdeal.τ).loc Cert.LnKvReferenceIdeal.main_arg5)
          ∧ r.2.mem ((c.tc : Thread Cert.LnKvReferenceIdeal.nD Cert.LnKvReferenceIdeal.τ).loc Cert.LnKvReferenceIdeal.main_arg6) = m' ((c.tc : Thread Cert.LnKvReferenceIdeal.nD Cert.LnKvReferenceIdeal.τ).loc Cert.LnKvReferenceIdeal.main_arg6)
          ∧ r.2.mem ((c.tc : Thread Cert.LnKvReferenceIdeal.nD Cert.LnKvReferenceIdeal.τ).loc Cert.LnKvReferenceIdeal.main_arg7) = m' ((c.tc : Thread Cert.LnKvReferenceIdeal.nD Cert.LnKvReferenceIdeal.τ).loc Cert.LnKvReferenceIdeal.main_arg7)
          ∧ r.2.mem ((c.tc : Thread Cert.LnKvReferenceIdeal.nD Cert.LnKvReferenceIdeal.τ).loc Cert.LnKvReferenceIdeal.main_arg8) = m' ((c.tc : Thread Cert.LnKvReferenceIdeal.nD Cert.LnKvReferenceIdeal.τ).loc Cert.LnKvReferenceIdeal.main_arg8))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjReferenceIdeal : Cert.OutProjReferenceIdeal.Facts) (hLnKv : Cert.LnKv.Facts) (hLnKvIdeal : Cert.LnKvIdeal.Facts) (hLnKvReferenceIdeal : Cert.LnKvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_LnKv (hLnKv := hLnKv)
    ∧ quiescent_LnKvIdeal (hLnKvIdeal := hLnKvIdeal)
    ∧ quiescent_LnKvReferenceIdeal (hLnKvReferenceIdeal := hLnKvReferenceIdeal)
    ∧ preserves_Kernel_KernelIdeal
    ∧ algebraic_KernelIdeal_ReferenceIdeal (hKernelIdeal := hKernelIdeal) (hReferenceIdeal := hReferenceIdeal)
    ∧ preserves_OutProj_OutProjIdeal
    ∧ algebraic_OutProjIdeal_OutProjReferenceIdeal (hOutProjIdeal := hOutProjIdeal) (hOutProjReferenceIdeal := hOutProjReferenceIdeal)
    ∧ preserves_LnKv_LnKvIdeal
    ∧ algebraic_LnKvIdeal_LnKvReferenceIdeal (hLnKvIdeal := hLnKvIdeal) (hLnKvReferenceIdeal := hLnKvReferenceIdeal)
-- ==== Kernel.lean ====
abbrev S24x15360x128 : Shape := ⟨3, ![24, 15360, 128]⟩
abbrev S24x3840x128 : Shape := ⟨3, ![24, 3840, 128]⟩
abbrev S24x15x128x1024 : Shape := ⟨4, ![24, 15, 128, 1024]⟩
abbrev S24x15x1x128 : Shape := ⟨4, ![24, 15, 1, 128]⟩
abbrev S24x15x8x120x128 : Shape := ⟨5, ![24, 15, 8, 120, 128]⟩
abbrev S24x1x128 : Shape := ⟨3, ![24, 1, 128]⟩
abbrev S24x1x15360 : Shape := ⟨3, ![24, 1, 15360]⟩
abbrev S2x15360x1536 : Shape := ⟨3, ![2, 15360, 1536]⟩
abbrev S1x256x128 : Shape := ⟨3, ![1, 256, 128]⟩
abbrev S1x64x128 : Shape := ⟨3, ![1, 64, 128]⟩
abbrev S1x15x128x1024 : Shape := ⟨4, ![1, 15, 128, 1024]⟩
abbrev S1x15x1x128 : Shape := ⟨4, ![1, 15, 1, 128]⟩
abbrev S1x15x8x8x128 : Shape := ⟨5, ![1, 15, 8, 8, 128]⟩
abbrev S1x15360x128 : Shape := ⟨3, ![1, 15360, 128]⟩
abbrev S1x1x128 : Shape := ⟨3, ![1, 1, 128]⟩
abbrev S1x1x256 : Shape := ⟨3, ![1, 1, 256]⟩
abbrev S15x256x1024 : Shape := ⟨3, ![15, 256, 1024]⟩
abbrev S256x128 : Shape := ⟨2, ![256, 128]⟩
abbrev S64x128 : Shape := ⟨2, ![64, 128]⟩
abbrev S8x1x8x128 : Shape := ⟨4, ![8, 1, 8, 128]⟩
abbrev S256x1024 : Shape := ⟨2, ![256, 1024]⟩
abbrev S1x1024x128 : Shape := ⟨3, ![1, 1024, 128]⟩
abbrev S1024x128 : Shape := ⟨2, ![1024, 128]⟩
abbrev S1x1x128x1024 : Shape := ⟨4, ![1, 1, 128, 1024]⟩
abbrev S128x1024 : Shape := ⟨2, ![128, 1024]⟩
abbrev S1x1x1x128 : Shape := ⟨4, ![1, 1, 1, 128]⟩
abbrev S1x128 : Shape := ⟨2, ![1, 128]⟩
abbrev S8x4x8x128 : Shape := ⟨4, ![8, 4, 8, 128]⟩
abbrev S2x128x128 : Shape := ⟨3, ![2, 128, 128]⟩
abbrev S1x128x128 : Shape := ⟨3, ![1, 128, 128]⟩
abbrev S128x128 : Shape := ⟨2, ![128, 128]⟩
abbrev S1x1x1x1x128 : Shape := ⟨5, ![1, 1, 1, 1, 128]⟩
abbrev S256 : Shape := ⟨1, ![256]⟩
abbrev S256x1 : Shape := ⟨2, ![256, 1]⟩
abbrev S1x256 : Shape := ⟨2, ![1, 256]⟩

abbrev nBuf : Space → Nat
  | .hbm => 12
  | .vmem => 29
  | .smem => 0
  | _ => 0

abbrev bufTy : (tb : Table) → Fin (tcTables nBuf tb) → BufTy
  | .hbm, ⟨0, _⟩ => ⟨S24x15360x128, .i8⟩
  | .hbm, ⟨1, _⟩ => ⟨S24x3840x128, .f32⟩
  | .hbm, ⟨2, _⟩ => ⟨S24x15x128x1024, .bf16⟩
  | .hbm, ⟨3, _⟩ => ⟨S24x15x1x128, .f32⟩
  | .hbm, ⟨4, _⟩ => ⟨S24x15x8x120x128, .f32⟩
  | .hbm, ⟨5, _⟩ => ⟨S24x15360x128, .fp8e4m3⟩
  | .hbm, ⟨6, _⟩ => ⟨S24x1x128, .f32⟩
  | .hbm, ⟨7, _⟩ => ⟨S24x1x128, .f32⟩
  | .hbm, ⟨8, _⟩ => ⟨S24x1x15360, .f32⟩
  | .hbm, ⟨9, _⟩ => ⟨S24x15360x128, .bf16⟩
  | .hbm, ⟨10, _⟩ => ⟨S2x15360x1536, .f32⟩
  | .hbm, ⟨11, _⟩ => ⟨S24x1x15360, .f32⟩
  | .local _ .vmem, ⟨0, _⟩ => ⟨S1x256x128, .i8⟩
  | .local _ .vmem, ⟨1, _⟩ => ⟨S1x256x128, .i8⟩
  | .local _ .vmem, ⟨2, _⟩ => ⟨S1x64x128, .f32⟩
  | .local _ .vmem, ⟨3, _⟩ => ⟨S1x64x128, .f32⟩
  | .local _ .vmem, ⟨4, _⟩ => ⟨S1x15x128x1024, .bf16⟩
  | .local _ .vmem, ⟨5, _⟩ => ⟨S1x15x128x1024, .bf16⟩
  | .local _ .vmem, ⟨6, _⟩ => ⟨S1x15x1x128, .f32⟩
  | .local _ .vmem, ⟨7, _⟩ => ⟨S1x15x1x128, .f32⟩
  | .local _ .vmem, ⟨8, _⟩ => ⟨S1x15x8x8x128, .f32⟩
  | .local _ .vmem, ⟨9, _⟩ => ⟨S1x15x8x8x128, .f32⟩
  | .local _ .vmem, ⟨10, _⟩ => ⟨S1x15360x128, .fp8e4m3⟩
  | .local _ .vmem, ⟨11, _⟩ => ⟨S1x15360x128, .fp8e4m3⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x256, .f32⟩
  | .local _ .vmem, ⟨17, _⟩ => ⟨S1x1x256, .f32⟩
  | .local _ .vmem, ⟨18, _⟩ => ⟨S1x256x128, .bf16⟩
  | .local _ .vmem, ⟨19, _⟩ => ⟨S1x256x128, .bf16⟩
  | .local _ .vmem, ⟨20, _⟩ => ⟨S1x256x128, .f32⟩
  | .local _ .vmem, ⟨21, _⟩ => ⟨S1x256x128, .f32⟩
  | .local _ .vmem, ⟨22, _⟩ => ⟨S1x1x256, .f32⟩
  | .local _ .vmem, ⟨23, _⟩ => ⟨S1x1x256, .f32⟩
  | .local _ .vmem, ⟨24, _⟩ => ⟨S15x256x1024, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | _, _ => ⟨S24x15360x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![1441], ![false]⟩

@[reducible] def k0_t1_loop : Scf.Loop 32 :=
  let c0_i32_15 : BitVec 32 := 0#32
  let c15_i32 : BitVec 32 := 15#32
  let v27 : BitVec 32 := Scalar.addi c0_i32_15 c15_i32
  let c1_i32 : BitVec 32 := 1#32
  ⟨c0_i32_15, v27, c1_i32⟩
def k0_off1 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v88 : Index := Scalar.indexCast arg18
  let c0_54 : Index := 0#32
  let c0_55 : Index := 0#32
  ![v88.toNat, 0, 0]
def k0_off2 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v100 : Index := Scalar.indexCast arg18
  let c0_60 : Index := 0#32
  let c128 : Index := 128#32
  ![v100.toNat, 0, 128]
def k0_off3 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v112 : Index := Scalar.indexCast arg18
  let c0_65 : Index := 0#32
  let c256 : Index := 256#32
  ![v112.toNat, 0, 256]
def k0_off4 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v124 : Index := Scalar.indexCast arg18
  let c0_70 : Index := 0#32
  let c384 : Index := 384#32
  ![v124.toNat, 0, 384]
def k0_off5 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v136 : Index := Scalar.indexCast arg18
  let c0_75 : Index := 0#32
  let c512 : Index := 512#32
  ![v136.toNat, 0, 512]
def k0_off6 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v148 : Index := Scalar.indexCast arg18
  let c0_80 : Index := 0#32
  let c640 : Index := 640#32
  ![v148.toNat, 0, 640]
def k0_off7 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v160 : Index := Scalar.indexCast arg18
  let c0_85 : Index := 0#32
  let c768 : Index := 768#32
  ![v160.toNat, 0, 768]
def k0_off8 (k0_t1 : Fin k0_t1_loop.trips) : Fin 3 → Nat :=
  let c0_i32_15 : BitVec 32 := 0#32
  let c1_i32 : BitVec 32 := 1#32
  let arg18 : BitVec 32 := Scf.iv c0_i32_15 c1_i32 k0_t1
  let v172 : Index := Scalar.indexCast arg18
  let c0_90 : Index := 0#32
  let c896 : Index := 896#32
  ![v172.toNat, 0, 896]
def k0_mult1 (k0_t1 : Fin k0_t1_loop.trips) : BitVec 32 :=
  let c0_i32_15 : BitVec 32 := 0#32
  let c1_i32 : BitVec 32 := 1#32
  let arg18 : BitVec 32 := Scf.iv c0_i32_15 c1_i32 k0_t1
  let c1024_i32 : BitVec 32 := 1024#32
  let v188 : BitVec 32 := Scalar.muli arg18 c1024_i32
  v188
def k0_off9 (k0_t1 : Fin k0_t1_loop.trips) : Fin 3 → Nat :=
  let c0_97 : Index := 0#32
  let c0_i32_15 : BitVec 32 := 0#32
  let c1_i32 : BitVec 32 := 1#32
  let arg18 : BitVec 32 := Scf.iv c0_i32_15 c1_i32 k0_t1
  let c1024_i32 : BitVec 32 := 1024#32
  let v188 : BitVec 32 := Scalar.muli arg18 c1024_i32
  let v189 : BitVec 32 := v188
  let v190 : Index := Scalar.indexCast v189
  let c0_98 : Index := 0#32
  ![0, v190.toNat, 0]
def k0_off10 (k0_t1 : Fin k0_t1_loop.trips) : Fin 4 → Nat :=
  let c0_104 : Index := 0#32
  let c0_i32_15 : BitVec 32 := 0#32
  let c1_i32 : BitVec 32 := 1#32
  let arg18 : BitVec 32 := Scf.iv c0_i32_15 c1_i32 k0_t1
  let v199 : Index := Scalar.indexCast arg18
  let c0_105 : Index := 0#32
  let c0_106 : Index := 0#32
  ![0, v199.toNat, 0, 0]
def k0_off11 (k0_t1 : Fin k0_t1_loop.trips) : Fin 4 → Nat :=
  let c0_108 : Index := 0#32
  let c0_i32_15 : BitVec 32 := 0#32
  let c1_i32 : BitVec 32 := 1#32
  let arg18 : BitVec 32 := Scf.iv c0_i32_15 c1_i32 k0_t1
  let v203 : Index := Scalar.indexCast arg18
  let c0_109 : Index := 0#32
  let c0_110 : Index := 0#32
  ![0, v203.toNat, 0, 0]
def k0_off12 (i : grid0.Coords) (k0_t1 : Fin k0_t1_loop.trips) (c0_i32_113 : BitVec 32) : Fin 5 → Nat :=
  let c0_114 : Index := 0#32
  let c0_i32_15 : BitVec 32 := 0#32
  let c1_i32 : BitVec 32 := 1#32
  let arg18 : BitVec 32 := Scf.iv c0_i32_15 c1_i32 k0_t1
  let v218 : Index := Scalar.indexCast arg18
  let c0_115 : Index := 0#32
  let arg0 : BitVec 32 := BitVec.ofNat 32 (i 0).val
  let c1439_i32 : BitVec 32 := 1439#32
  let v23 : BitVec 32 := Scalar.minsi arg0 c1439_i32
  let c60_i32 : BitVec 32 := 60#32
  let v24 : BitVec 32 := Scalar.remsi v23 c60_i32
  let c4_i32 : BitVec 32 := 4#32
  let v25 : BitVec 32 := Scalar.remsi v24 c4_i32
  let c2_i32 : BitVec 32 := 2#32
  let v26 : BitVec 32 := Scalar.muli v25 c2_i32
  let v217 : BitVec 32 := Scalar.addi v26 c0_i32_113
  let v219 : Index := Scalar.indexCast v217
  let c0_116 : Index := 0#32
  ![0, v218.toNat, 0, v219.toNat, 0]
def k0_off13 (i : grid0.Coords) (k0_t1 : Fin k0_t1_loop.trips) (c0_i32_123 : BitVec 32) : Fin 5 → Nat :=
  let c0_124 : Index := 0#32
  let c0_i32_15 : BitVec 32 := 0#32
  let c1_i32 : BitVec 32 := 1#32
  let arg18 : BitVec 32 := Scf.iv c0_i32_15 c1_i32 k0_t1
  let v247 : Index := Scalar.indexCast arg18
  let c1 : Index := 1#32
  let arg0 : BitVec 32 := BitVec.ofNat 32 (i 0).val
  let c1439_i32 : BitVec 32 := 1439#32
  let v23 : BitVec 32 := Scalar.minsi arg0 c1439_i32
  let c60_i32 : BitVec 32 := 60#32
  let v24 : BitVec 32 := Scalar.remsi v23 c60_i32
  let c4_i32 : BitVec 32 := 4#32
  let v25 : BitVec 32 := Scalar.remsi v24 c4_i32
  let c2_i32 : BitVec 32 := 2#32
  let v26 : BitVec 32 := Scalar.muli v25 c2_i32
  let v246 : BitVec 32 := Scalar.addi v26 c0_i32_123
  let v248 : Index := Scalar.indexCast v246
  let c0_125 : Index := 0#32
  ![0, v247.toNat, 1, v248.toNat, 0]
def k0_off14 (i : grid0.Coords) (k0_t1 : Fin k0_t1_loop.trips) (c0_i32_132 : BitVec 32) : Fin 5 → Nat :=
  let c0_133 : Index := 0#32
  let c0_i32_15 : BitVec 32 := 0#32
  let c1_i32 : BitVec 32 := 1#32
  let arg18 : BitVec 32 := Scf.iv c0_i32_15 c1_i32 k0_t1
  let v276 : Index := Scalar.indexCast arg18
  let c2 : Index := 2#32
  let arg0 : BitVec 32 := BitVec.ofNat 32 (i 0).val
  let c1439_i32 : BitVec 32 := 1439#32
  let v23 : BitVec 32 := Scalar.minsi arg0 c1439_i32
  let c60_i32 : BitVec 32 := 60#32
  let v24 : BitVec 32 := Scalar.remsi v23 c60_i32
  let c4_i32 : BitVec 32 := 4#32
  let v25 : BitVec 32 := Scalar.remsi v24 c4_i32
  let c2_i32 : BitVec 32 := 2#32
  let v26 : BitVec 32 := Scalar.muli v25 c2_i32
  let v275 : BitVec 32 := Scalar.addi v26 c0_i32_132
  let v277 : Index := Scalar.indexCast v275
  let c0_134 : Index := 0#32
  ![0, v276.toNat, 2, v277.toNat, 0]
def k0_off15 (i : grid0.Coords) (k0_t1 : Fin k0_t1_loop.trips) (c0_i32_141 : BitVec 32) : Fin 5 → Nat :=
  let c0_142 : Index := 0#32
  let c0_i32_15 : BitVec 32 := 0#32
  let c1_i32 : BitVec 32 := 1#32
  let arg18 : BitVec 32 := Scf.iv c0_i32_15 c1_i32 k0_t1
  let v305 : Index := Scalar.indexCast arg18
  let c3 : Index := 3#32
  let arg0 : BitVec 32 := BitVec.ofNat 32 (i 0).val
  let c1439_i32 : BitVec 32 := 1439#32
  let v23 : BitVec 32 := Scalar.minsi arg0 c1439_i32
  let c60_i32 : BitVec 32 := 60#32
  let v24 : BitVec 32 := Scalar.remsi v23 c60_i32
  let c4_i32 : BitVec 32 := 4#32
  let v25 : BitVec 32 := Scalar.remsi v24 c4_i32
  let c2_i32 : BitVec 32 := 2#32
  let v26 : BitVec 32 := Scalar.muli v25 c2_i32
  let v304 : BitVec 32 := Scalar.addi v26 c0_i32_141
  let v306 : Index := Scalar.indexCast v304
  let c0_143 : Index := 0#32
  ![0, v305.toNat, 3, v306.toNat, 0]
def k0_off16 (i : grid0.Coords) (k0_t1 : Fin k0_t1_loop.trips) (c0_i32_150 : BitVec 32) : Fin 5 → Nat :=
  let c0_151 : Index := 0#32
  let c0_i32_15 : BitVec 32 := 0#32
  let c1_i32 : BitVec 32 := 1#32
  let arg18 : BitVec 32 := Scf.iv c0_i32_15 c1_i32 k0_t1
  let v334 : Index := Scalar.indexCast arg18
  let c4 : Index := 4#32
  let arg0 : BitVec 32 := BitVec.ofNat 32 (i 0).val
  let c1439_i32 : BitVec 32 := 1439#32
  let v23 : BitVec 32 := Scalar.minsi arg0 c1439_i32
  let c60_i32 : BitVec 32 := 60#32
  let v24 : BitVec 32 := Scalar.remsi v23 c60_i32
  let c4_i32 : BitVec 32 := 4#32
  let v25 : BitVec 32 := Scalar.remsi v24 c4_i32
  let c2_i32 : BitVec 32 := 2#32
  let v26 : BitVec 32 := Scalar.muli v25 c2_i32
  let v333 : BitVec 32 := Scalar.addi v26 c0_i32_150
  let v335 : Index := Scalar.indexCast v333
  let c0_152 : Index := 0#32
  ![0, v334.toNat, 4, v335.toNat, 0]
def k0_off17 (i : grid0.Coords) (k0_t1 : Fin k0_t1_loop.trips) (c0_i32_159 : BitVec 32) : Fin 5 → Nat :=
  let c0_160 : Index := 0#32
  let c0_i32_15 : BitVec 32 := 0#32
  let c1_i32 : BitVec 32 := 1#32
  let arg18 : BitVec 32 := Scf.iv c0_i32_15 c1_i32 k0_t1
  let v363 : Index := Scalar.indexCast arg18
  let c5 : Index := 5#32
  let arg0 : BitVec 32 := BitVec.ofNat 32 (i 0).val
  let c1439_i32 : BitVec 32 := 1439#32
  let v23 : BitVec 32 := Scalar.minsi arg0 c1439_i32
  let c60_i32 : BitVec 32 := 60#32
  let v24 : BitVec 32 := Scalar.remsi v23 c60_i32
  let c4_i32 : BitVec 32 := 4#32
  let v25 : BitVec 32 := Scalar.remsi v24 c4_i32
  let c2_i32 : BitVec 32 := 2#32
  let v26 : BitVec 32 := Scalar.muli v25 c2_i32
  let v362 : BitVec 32 := Scalar.addi v26 c0_i32_159
  let v364 : Index := Scalar.indexCast v362
  let c0_161 : Index := 0#32
  ![0, v363.toNat, 5, v364.toNat, 0]
def k0_off18 (i : grid0.Coords) (k0_t1 : Fin k0_t1_loop.trips) (c0_i32_168 : BitVec 32) : Fin 5 → Nat :=
  let c0_169 : Index := 0#32
  let c0_i32_15 : BitVec 32 := 0#32
  let c1_i32 : BitVec 32 := 1#32
  let arg18 : BitVec 32 := Scf.iv c0_i32_15 c1_i32 k0_t1
  let v392 : Index := Scalar.indexCast arg18
  let c6 : Index := 6#32
  let arg0 : BitVec 32 := BitVec.ofNat 32 (i 0).val
  let c1439_i32 : BitVec 32 := 1439#32
  let v23 : BitVec 32 := Scalar.minsi arg0 c1439_i32
  let c60_i32 : BitVec 32 := 60#32
  let v24 : BitVec 32 := Scalar.remsi v23 c60_i32
  let c4_i32 : BitVec 32 := 4#32
  let v25 : BitVec 32 := Scalar.remsi v24 c4_i32
  let c2_i32 : BitVec 32 := 2#32
  let v26 : BitVec 32 := Scalar.muli v25 c2_i32
  let v391 : BitVec 32 := Scalar.addi v26 c0_i32_168
  let v393 : Index := Scalar.indexCast v391
  let c0_170 : Index := 0#32
  ![0, v392.toNat, 6, v393.toNat, 0]
def k0_off19 (i : grid0.Coords) (k0_t1 : Fin k0_t1_loop.trips) (c0_i32_177 : BitVec 32) : Fin 5 → Nat :=
  let c0_178 : Index := 0#32
  let c0_i32_15 : BitVec 32 := 0#32
  let c1_i32 : BitVec 32 := 1#32
  let arg18 : BitVec 32 := Scf.iv c0_i32_15 c1_i32 k0_t1
  let v421 : Index := Scalar.indexCast arg18
  let c7 : Index := 7#32
  let arg0 : BitVec 32 := BitVec.ofNat 32 (i 0).val
  let c1439_i32 : BitVec 32 := 1439#32
  let v23 : BitVec 32 := Scalar.minsi arg0 c1439_i32
  let c60_i32 : BitVec 32 := 60#32
  let v24 : BitVec 32 := Scalar.remsi v23 c60_i32
  let c4_i32 : BitVec 32 := 4#32
  let v25 : BitVec 32 := Scalar.remsi v24 c4_i32
  let c2_i32 : BitVec 32 := 2#32
  let v26 : BitVec 32 := Scalar.muli v25 c2_i32
  let v420 : BitVec 32 := Scalar.addi v26 c0_i32_177
  let v422 : Index := Scalar.indexCast v420
  let c0_179 : Index := 0#32
  ![0, v421.toNat, 7, v422.toNat, 0]
def cc0_transform_0 (i : grid0.Coords) : Fin 3 → Nat :=
  let arg0 : BitVec 32 := BitVec.ofNat 32 (i 0).val
  let c1439_i32 : BitVec 32 := 1439#32
  let v0 : BitVec 32 := Scalar.minsi arg0 c1439_i32
  let c60_i32 : BitVec 32 := 60#32
  let v1 : BitVec 32 := Scalar.divsi v0 c60_i32
  let c1439_i32_0 : BitVec 32 := 1439#32
  let v2 : BitVec 32 := Scalar.minsi arg0 c1439_i32_0
  let c60_i32_1 : BitVec 32 := 60#32
  let v3 : BitVec 32 := Scalar.remsi v2 c60_i32_1
  let c0_i32 : BitVec 32 := 0#32
  let c0_i32_2 : BitVec 32 := 0#32
  ![v1.toNat, v3.toNat, c0_i32.toNat]

def cc0_transform_1 (i : grid0.Coords) : Fin 3 → Nat :=
  let arg0 : BitVec 32 := BitVec.ofNat 32 (i 0).val
  let c1439_i32 : BitVec 32 := 1439#32
  let v0 : BitVec 32 := Scalar.minsi arg0 c1439_i32
  let c60_i32 : BitVec 32 := 60#32
  let v1 : BitVec 32 := Scalar.divsi v0 c60_i32
  let c1439_i32_0 : BitVec 32 := 1439#32
  let v2 : BitVec 32 := Scalar.minsi arg0 c1439_i32_0
  let c60_i32_1 : BitVec 32 := 60#32
  let v3 : BitVec 32 := Scalar.remsi v2 c60_i32_1
  let c0_i32 : BitVec 32 := 0#32
  let c0_i32_2 : BitVec 32 := 0#32
  ![v1.toNat, v3.toNat, c0_i32.toNat]

def cc0_transform_2 (i : grid0.Coords) : Fin 4 → Nat :=
  let arg0 : BitVec 32 := BitVec.ofNat 32 (i 0).val
  let c1439_i32 : BitVec 32 := 1439#32
  let v0 : BitVec 32 := Scalar.minsi arg0 c1439_i32
  let c60_i32 : BitVec 32 := 60#32
  let v1 : BitVec 32 := Scalar.divsi v0 c60_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 4 → Nat :=
  let arg0 : BitVec 32 := BitVec.ofNat 32 (i 0).val
  let c1439_i32 : BitVec 32 := 1439#32
  let v0 : BitVec 32 := Scalar.minsi arg0 c1439_i32
  let c60_i32 : BitVec 32 := 60#32
  let v1 : BitVec 32 := Scalar.divsi v0 c60_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 5 → Nat :=
  let arg0 : BitVec 32 := BitVec.ofNat 32 (i 0).val
  let c1439_i32 : BitVec 32 := 1439#32
  let v0 : BitVec 32 := Scalar.minsi arg0 c1439_i32
  let c60_i32 : BitVec 32 := 60#32
  let v1 : BitVec 32 := Scalar.divsi v0 c60_i32
  let c1439_i32_0 : BitVec 32 := 1439#32
  let v2 : BitVec 32 := Scalar.minsi arg0 c1439_i32_0
  let c60_i32_1 : BitVec 32 := 60#32
  let v3 : BitVec 32 := Scalar.remsi v2 c60_i32_1
  let c4_i32 : BitVec 32 := 4#32
  let v4 : BitVec 32 := Scalar.divsi v3 c4_i32
  let c0_i32 : BitVec 32 := 0#32
  let c0_i32_2 : BitVec 32 := 0#32
  let c0_i32_3 : BitVec 32 := 0#32
  let c0_i32_4 : BitVec 32 := 0#32
  ![v1.toNat, c0_i32.toNat, c0_i32_2.toNat, v4.toNat, c0_i32_3.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c60_i32 : BitVec 32 := 60#32
  let v2 : BitVec 32 := Scalar.divsi v1 c60_i32
  let c0_i32_0 : BitVec 32 := 0#32
  let c0_i32_1 : BitVec 32 := 0#32
  let c0_i32_2 : BitVec 32 := 0#32
  ![v2.toNat, c0_i32_0.toNat, c0_i32_1.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c60_i32 : BitVec 32 := 60#32
  let v2 : BitVec 32 := Scalar.divsi v1 c60_i32
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c60_i32 : BitVec 32 := 60#32
  let v2 : BitVec 32 := Scalar.divsi v1 c60_i32
  let c0_i32_0 : BitVec 32 := 0#32
  let c0_i32_1 : BitVec 32 := 0#32
  let c0_i32_2 : BitVec 32 := 0#32
  ![v2.toNat, c0_i32_0.toNat, c0_i32_1.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c60_i32 : BitVec 32 := 60#32
  let v2 : BitVec 32 := Scalar.divsi v1 c60_i32
  let c1_i32_0 : BitVec 32 := 1#32
  let v3 : BitVec 32 := Scalar.subi arg0 c1_i32_0
  let c0_i32_1 : BitVec 32 := 0#32
  let v4 : BitVec 32 := Scalar.maxsi v3 c0_i32_1
  let c60_i32_2 : BitVec 32 := 60#32
  let v5 : BitVec 32 := Scalar.remsi v4 c60_i32_2
  let c0_i32_3 : BitVec 32 := 0#32
  let c0_i32_4 : BitVec 32 := 0#32
  ![v2.toNat, c0_i32_3.toNat, v5.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c60_i32 : BitVec 32 := 60#32
  let v2 : BitVec 32 := Scalar.divsi v1 c60_i32
  let c1_i32_0 : BitVec 32 := 1#32
  let v3 : BitVec 32 := Scalar.subi arg0 c1_i32_0
  let c0_i32_1 : BitVec 32 := 0#32
  let v4 : BitVec 32 := Scalar.maxsi v3 c0_i32_1
  let c60_i32_2 : BitVec 32 := 60#32
  let v5 : BitVec 32 := Scalar.remsi v4 c60_i32_2
  let c0_i32_3 : BitVec 32 := 0#32
  let c0_i32_4 : BitVec 32 := 0#32
  ![v2.toNat, v5.toNat, c0_i32_3.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c60_i32 : BitVec 32 := 60#32
  let v2 : BitVec 32 := Scalar.divsi v1 c60_i32
  let c12_i32 : BitVec 32 := 12#32
  let v3 : BitVec 32 := Scalar.divsi v2 c12_i32
  let c1_i32_0 : BitVec 32 := 1#32
  let v4 : BitVec 32 := Scalar.subi arg0 c1_i32_0
  let c0_i32_1 : BitVec 32 := 0#32
  let v5 : BitVec 32 := Scalar.maxsi v4 c0_i32_1
  let c60_i32_2 : BitVec 32 := 60#32
  let v6 : BitVec 32 := Scalar.remsi v5 c60_i32_2
  let c1_i32_3 : BitVec 32 := 1#32
  let v7 : BitVec 32 := Scalar.subi arg0 c1_i32_3
  let c0_i32_4 : BitVec 32 := 0#32
  let v8 : BitVec 32 := Scalar.maxsi v7 c0_i32_4
  let c60_i32_5 : BitVec 32 := 60#32
  let v9 : BitVec 32 := Scalar.divsi v8 c60_i32_5
  let c12_i32_6 : BitVec 32 := 12#32
  let v10 : BitVec 32 := Scalar.remsi v9 c12_i32_6
  let c0_i32_7 : BitVec 32 := 0#32
  ![v3.toNat, v6.toNat, v10.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c60_i32 : BitVec 32 := 60#32
  let v2 : BitVec 32 := Scalar.divsi v1 c60_i32
  let c1_i32_0 : BitVec 32 := 1#32
  let v3 : BitVec 32 := Scalar.subi arg0 c1_i32_0
  let c0_i32_1 : BitVec 32 := 0#32
  let v4 : BitVec 32 := Scalar.maxsi v3 c0_i32_1
  let c60_i32_2 : BitVec 32 := 60#32
  let v5 : BitVec 32 := Scalar.remsi v4 c60_i32_2
  let c0_i32_3 : BitVec 32 := 0#32
  let c0_i32_4 : BitVec 32 := 0#32
  ![v2.toNat, c0_i32_3.toNat, v5.toNat]

abbrev stage0_0 : Fin 2 → Memref sig .tc .vmem S1x256x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x15x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x15x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x15x8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x15360x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log2_e4m3_max" => some (((Real.log 448) * (Real.log 2)⁻¹ : ℝ) : EReal)
  | _ => none
-- ==== ReferenceIdeal.lean ====
abbrev S24x15360x128 : Shape := ⟨3, ![24, 15360, 128]⟩
abbrev S24x3840x128 : Shape := ⟨3, ![24, 3840, 128]⟩
abbrev S24x15x128x1024 : Shape := ⟨4, ![24, 15, 128, 1024]⟩
abbrev S24x15x1x128 : Shape := ⟨4, ![24, 15, 1, 128]⟩
abbrev S24x15x8x120x128 : Shape := ⟨5, ![24, 15, 8, 120, 128]⟩
abbrev S24x1x128 : Shape := ⟨3, ![24, 1, 128]⟩
abbrev S24x1x15360 : Shape := ⟨3, ![24, 1, 15360]⟩
abbrev S24x15x1024x128 : Shape := ⟨4, ![24, 15, 1024, 128]⟩
abbrev S24x480x1x8x1x128 : Shape := ⟨6, ![24, 480, 1, 8, 1, 128]⟩
abbrev S24x480x4x8x120x128 : Shape := ⟨6, ![24, 480, 4, 8, 120, 128]⟩
abbrev S24x15360x15360 : Shape := ⟨3, ![24, 15360, 15360]⟩
abbrev S24x15x8x128 : Shape := ⟨4, ![24, 15, 8, 128]⟩
abbrev S24x120x15x8x128 : Shape := ⟨5, ![24, 120, 15, 8, 128]⟩
abbrev S24x120x1x15360 : Shape := ⟨4, ![24, 120, 1, 15360]⟩
abbrev S24x120x128x15360 : Shape := ⟨4, ![24, 120, 128, 15360]⟩
abbrev S2x15360x1536 : Shape := ⟨3, ![2, 15360, 1536]⟩
abbrev S24x15360 : Shape := ⟨2, ![24, 15360]⟩
abbrev S24x15360x1 : Shape := ⟨3, ![24, 15360, 1]⟩
abbrev S2x12x15360x128 : Shape := ⟨4, ![2, 12, 15360, 128]⟩
abbrev S2x15360x12x128 : Shape := ⟨4, ![2, 15360, 12, 128]⟩

abbrev nBuf : Space → Nat
  | .hbm => 23
  | .vmem => 12
  | .smem => 0
  | _ => 0

abbrev bufTy : (tb : Table) → Fin (tcTables nBuf tb) → BufTy
  | .hbm, ⟨0, _⟩ => ⟨S24x15360x128, .i8⟩
  | .hbm, ⟨1, _⟩ => ⟨S24x3840x128, .f32⟩
  | .hbm, ⟨2, _⟩ => ⟨S24x15x128x1024, .bf16⟩
  | .hbm, ⟨3, _⟩ => ⟨S24x15x1x128, .f32⟩
  | .hbm, ⟨4, _⟩ => ⟨S24x15x8x120x128, .f32⟩
  | .hbm, ⟨5, _⟩ => ⟨S24x15360x128, .fp8e4m3⟩
  | .hbm, ⟨6, _⟩ => ⟨S24x1x128, .f32⟩
  | .hbm, ⟨7, _⟩ => ⟨S24x1x128, .f32⟩
  | .hbm, ⟨8, _⟩ => ⟨S24x1x15360, .f32⟩
  | .hbm, ⟨9, _⟩ => ⟨S24x15x1024x128, .bf16⟩
  | .hbm, ⟨10, _⟩ => ⟨S24x15360x128, .bf16⟩
  | .hbm, ⟨11, _⟩ => ⟨S24x480x1x8x1x128, .f32⟩
  | .hbm, ⟨12, _⟩ => ⟨S24x480x4x8x120x128, .f32⟩
  | .hbm, ⟨13, _⟩ => ⟨S24x15360x15360, .f32⟩
  | .hbm, ⟨14, _⟩ => ⟨S24x15x8x128, .f32⟩
  | .hbm, ⟨15, _⟩ => ⟨S24x1x15360, .f32⟩
  | .hbm, ⟨16, _⟩ => ⟨S24x120x15x8x128, .f32⟩
  | .hbm, ⟨17, _⟩ => ⟨S24x120x1x15360, .f32⟩
  | .hbm, ⟨18, _⟩ => ⟨S24x120x128x15360, .f32⟩
  | .hbm, ⟨19, _⟩ => ⟨S24x15360x15360, .f32⟩
  | .hbm, ⟨20, _⟩ => ⟨S24x15360x128, .bf16⟩
  | .hbm, ⟨21, _⟩ => ⟨S2x15360x1536, .f32⟩
  | .hbm, ⟨22, _⟩ => ⟨S24x1x15360, .f32⟩
  | .local _ .vmem, ⟨0, _⟩ => ⟨S24x15360x128, .i8⟩
  | .local _ .vmem, ⟨1, _⟩ => ⟨S24x15360x15360, .f32⟩
  | .local _ .vmem, ⟨2, _⟩ => ⟨S24x15360x128, .bf16⟩
  | .local _ .vmem, ⟨3, _⟩ => ⟨S24x1x15360, .f32⟩
  | .local _ .vmem, ⟨4, _⟩ => ⟨S24x15360x15360, .f32⟩
  | .local _ .vmem, ⟨5, _⟩ => ⟨S24x15360x128, .fp8e4m3⟩
  | .local _ .vmem, ⟨6, _⟩ => ⟨S24x1x128, .f32⟩
  | .local _ .vmem, ⟨7, _⟩ => ⟨S24x1x128, .f32⟩
  | .local _ .vmem, ⟨8, _⟩ => ⟨S24x1x15360, .f32⟩
  | .local _ .vmem, ⟨9, _⟩ => ⟨S24x15360x128, .bf16⟩
  | .local _ .vmem, ⟨10, _⟩ => ⟨S2x15360x1536, .f32⟩
  | .local _ .vmem, ⟨11, _⟩ => ⟨S24x1x15360, .f32⟩
  | _, _ => ⟨S24x15360x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S24x15360x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x15360x15360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x15360x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1x15360 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x15360x15360 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x15360x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1x15360 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x15360x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x15360x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x1x15360 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== OutProj.lean ====
abbrev S2x15360x1536 : Shape := ⟨3, ![2, 15360, 1536]⟩
abbrev S2x1536 : Shape := ⟨2, ![2, 1536]⟩
abbrev S12x128x1536 : Shape := ⟨3, ![12, 128, 1536]⟩
abbrev S1536 : Shape := ⟨1, ![1536]⟩
abbrev S2x1x1536 : Shape := ⟨3, ![2, 1, 1536]⟩
abbrev S1536x1536 : Shape := ⟨2, ![1536, 1536]⟩
abbrev S1x1536 : Shape := ⟨2, ![1, 1536]⟩
abbrev S2x1x15360 : Shape := ⟨3, ![2, 1, 15360]⟩
abbrev S1x512x1536 : Shape := ⟨3, ![1, 512, 1536]⟩
abbrev S1x1x1536 : Shape := ⟨3, ![1, 1, 1536]⟩
abbrev S1x1x512 : Shape := ⟨3, ![1, 1, 512]⟩
abbrev S512x1536 : Shape := ⟨2, ![512, 1536]⟩
abbrev S512 : Shape := ⟨1, ![512]⟩
abbrev S512x1 : Shape := ⟨2, ![512, 1]⟩
abbrev S512x128 : Shape := ⟨2, ![512, 128]⟩
abbrev S128x128 : Shape := ⟨2, ![128, 128]⟩
abbrev S1x128 : Shape := ⟨2, ![1, 128]⟩
abbrev S1x512 : Shape := ⟨2, ![1, 512]⟩

abbrev nBuf : Space → Nat
  | .hbm => 13
  | .vmem => 15
  | .smem => 0
  | _ => 0

abbrev bufTy : (tb : Table) → Fin (tcTables nBuf tb) → BufTy
  | .hbm, ⟨0, _⟩ => ⟨S2x15360x1536, .f32⟩
  | .hbm, ⟨1, _⟩ => ⟨S2x15360x1536, .bf16⟩
  | .hbm, ⟨2, _⟩ => ⟨S2x1536, .f32⟩
  | .hbm, ⟨3, _⟩ => ⟨S12x128x1536, .i8⟩
  | .hbm, ⟨4, _⟩ => ⟨S1536, .f32⟩
  | .hbm, ⟨5, _⟩ => ⟨S1536, .f32⟩
  | .hbm, ⟨6, _⟩ => ⟨S2x1x1536, .f32⟩
  | .hbm, ⟨7, _⟩ => ⟨S1536x1536, .i8⟩
  | .hbm, ⟨8, _⟩ => ⟨S1x1536, .f32⟩
  | .hbm, ⟨9, _⟩ => ⟨S1x1536, .f32⟩
  | .hbm, ⟨10, _⟩ => ⟨S2x15360x1536, .bf16⟩
  | .hbm, ⟨11, _⟩ => ⟨S2x15360x1536, .i8⟩
  | .hbm, ⟨12, _⟩ => ⟨S2x1x15360, .f32⟩
  | .local _ .vmem, ⟨0, _⟩ => ⟨S1x512x1536, .f32⟩
  | .local _ .vmem, ⟨1, _⟩ => ⟨S1x512x1536, .f32⟩
  | .local _ .vmem, ⟨2, _⟩ => ⟨S1x512x1536, .bf16⟩
  | .local _ .vmem, ⟨3, _⟩ => ⟨S1x512x1536, .bf16⟩
  | .local _ .vmem, ⟨4, _⟩ => ⟨S1x1x1536, .f32⟩
  | .local _ .vmem, ⟨5, _⟩ => ⟨S1x1x1536, .f32⟩
  | .local _ .vmem, ⟨6, _⟩ => ⟨S1536x1536, .i8⟩
  | .local _ .vmem, ⟨7, _⟩ => ⟨S1x1536, .f32⟩
  | .local _ .vmem, ⟨8, _⟩ => ⟨S1x1536, .f32⟩
  | .local _ .vmem, ⟨9, _⟩ => ⟨S1x512x1536, .bf16⟩
  | .local _ .vmem, ⟨10, _⟩ => ⟨S1x512x1536, .bf16⟩
  | .local _ .vmem, ⟨11, _⟩ => ⟨S1x512x1536, .i8⟩
  | .local _ .vmem, ⟨12, _⟩ => ⟨S1x512x1536, .i8⟩
  | .local _ .vmem, ⟨13, _⟩ => ⟨S1x1x512, .f32⟩
  | .local _ .vmem, ⟨14, _⟩ => ⟨S1x1x512, .f32⟩
  | _, _ => ⟨S2x15360x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 30], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1536x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1536 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutProjReferenceIdeal.lean ====
abbrev S2x15360x1536 : Shape := ⟨3, ![2, 15360, 1536]⟩
abbrev S2x1536 : Shape := ⟨2, ![2, 1536]⟩
abbrev S12x128x1536 : Shape := ⟨3, ![12, 128, 1536]⟩
abbrev S1536 : Shape := ⟨1, ![1536]⟩
abbrev S2x1x1536 : Shape := ⟨3, ![2, 1, 1536]⟩
abbrev S1536x1536 : Shape := ⟨2, ![1536, 1536]⟩
abbrev S1x1x1536 : Shape := ⟨3, ![1, 1, 1536]⟩
abbrev S2x1x15360 : Shape := ⟨3, ![2, 1, 15360]⟩
abbrev S2x15360 : Shape := ⟨2, ![2, 15360]⟩
abbrev S2x15360x1 : Shape := ⟨3, ![2, 15360, 1]⟩

abbrev nBuf : Space → Nat
  | .hbm => 13
  | .vmem => 9
  | .smem => 0
  | _ => 0

abbrev bufTy : (tb : Table) → Fin (tcTables nBuf tb) → BufTy
  | .hbm, ⟨0, _⟩ => ⟨S2x15360x1536, .f32⟩
  | .hbm, ⟨1, _⟩ => ⟨S2x15360x1536, .bf16⟩
  | .hbm, ⟨2, _⟩ => ⟨S2x1536, .f32⟩
  | .hbm, ⟨3, _⟩ => ⟨S12x128x1536, .i8⟩
  | .hbm, ⟨4, _⟩ => ⟨S1536, .f32⟩
  | .hbm, ⟨5, _⟩ => ⟨S1536, .f32⟩
  | .hbm, ⟨6, _⟩ => ⟨S2x1x1536, .f32⟩
  | .hbm, ⟨7, _⟩ => ⟨S1536x1536, .i8⟩
  | .hbm, ⟨8, _⟩ => ⟨S1x1x1536, .f32⟩
  | .hbm, ⟨9, _⟩ => ⟨S1x1x1536, .f32⟩
  | .hbm, ⟨10, _⟩ => ⟨S2x15360x1536, .bf16⟩
  | .hbm, ⟨11, _⟩ => ⟨S2x15360x1536, .i8⟩
  | .hbm, ⟨12, _⟩ => ⟨S2x1x15360, .f32⟩
  | .local _ .vmem, ⟨0, _⟩ => ⟨S2x15360x1536, .f32⟩
  | .local _ .vmem, ⟨1, _⟩ => ⟨S2x15360x1536, .bf16⟩
  | .local _ .vmem, ⟨2, _⟩ => ⟨S2x1x1536, .f32⟩
  | .local _ .vmem, ⟨3, _⟩ => ⟨S1536x1536, .i8⟩
  | .local _ .vmem, ⟨4, _⟩ => ⟨S1x1x1536, .f32⟩
  | .local _ .vmem, ⟨5, _⟩ => ⟨S1x1x1536, .f32⟩
  | .local _ .vmem, ⟨6, _⟩ => ⟨S2x15360x1536, .bf16⟩
  | .local _ .vmem, ⟨7, _⟩ => ⟨S2x15360x1536, .i8⟩
  | .local _ .vmem, ⟨8, _⟩ => ⟨S2x1x15360, .f32⟩
  | _, _ => ⟨S2x15360x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x15360x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x15360x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x15360x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x15360x1536 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x15360 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== LnKv.lean ====
abbrev S2x15360x1536 : Shape := ⟨3, ![2, 15360, 1536]⟩
abbrev S2x1536 : Shape := ⟨2, ![2, 1536]⟩
abbrev S1536x3x12x128 : Shape := ⟨4, ![1536, 3, 12, 128]⟩
abbrev S3x12x128 : Shape := ⟨3, ![3, 12, 128]⟩
abbrev S12x128 : Shape := ⟨2, ![12, 128]⟩
abbrev S2x15360x64 : Shape := ⟨3, ![2, 15360, 64]⟩
abbrev S1536x4608 : Shape := ⟨2, ![1536, 4608]⟩
abbrev S1x4608 : Shape := ⟨2, ![1, 4608]⟩
abbrev S2x1x1536 : Shape := ⟨3, ![2, 1, 1536]⟩
abbrev S1536x3072 : Shape := ⟨2, ![1536, 3072]⟩
abbrev S1x3072 : Shape := ⟨2, ![1, 3072]⟩
abbrev S1x1536 : Shape := ⟨2, ![1, 1536]⟩
abbrev S2x1x15360 : Shape := ⟨3, ![2, 1, 15360]⟩
abbrev S2x12x15360x128 : Shape := ⟨4, ![2, 12, 15360, 128]⟩
abbrev S2x12x128 : Shape := ⟨3, ![2, 12, 128]⟩
abbrev S1x512x1536 : Shape := ⟨3, ![1, 512, 1536]⟩
abbrev S1x1x1536 : Shape := ⟨3, ![1, 1, 1536]⟩
abbrev S1x512x64 : Shape := ⟨3, ![1, 512, 64]⟩
abbrev S1x1x512 : Shape := ⟨3, ![1, 1, 512]⟩
abbrev S1x12x512x128 : Shape := ⟨4, ![1, 12, 512, 128]⟩
abbrev S1x12x128 : Shape := ⟨3, ![1, 12, 128]⟩
abbrev S512x1536 : Shape := ⟨2, ![512, 1536]⟩
abbrev S512 : Shape := ⟨1, ![512]⟩
abbrev S512x1 : Shape := ⟨2, ![512, 1]⟩
abbrev S512x128 : Shape := ⟨2, ![512, 128]⟩
abbrev S128x128 : Shape := ⟨2, ![128, 128]⟩
abbrev S1x128 : Shape := ⟨2, ![1, 128]⟩
abbrev S1x512 : Shape := ⟨2, ![1, 512]⟩
abbrev S512x3072 : Shape := ⟨2, ![512, 3072]⟩
abbrev S512x64 : Shape := ⟨2, ![512, 64]⟩
abbrev S512x128x1 : Shape := ⟨3, ![512, 128, 1]⟩
abbrev S1x1x512x128 : Shape := ⟨4, ![1, 1, 512, 128]⟩
abbrev S128 : Shape := ⟨1, ![128]⟩

abbrev nBuf : Space → Nat
  | .hbm => 26
  | .vmem => 30
  | .smem => 0
  | _ => 0

abbrev bufTy : (tb : Table) → Fin (tcTables nBuf tb) → BufTy
  | .hbm, ⟨0, _⟩ => ⟨S2x15360x1536, .bf16⟩
  | .hbm, ⟨1, _⟩ => ⟨S2x1536, .f32⟩
  | .hbm, ⟨2, _⟩ => ⟨S2x1536, .f32⟩
  | .hbm, ⟨3, _⟩ => ⟨S1536x3x12x128, .i8⟩
  | .hbm, ⟨4, _⟩ => ⟨S3x12x128, .f32⟩
  | .hbm, ⟨5, _⟩ => ⟨S3x12x128, .f32⟩
  | .hbm, ⟨6, _⟩ => ⟨S12x128, .f32⟩
  | .hbm, ⟨7, _⟩ => ⟨S2x15360x64, .f32⟩
  | .hbm, ⟨8, _⟩ => ⟨S2x15360x64, .f32⟩
  | .hbm, ⟨9, _⟩ => ⟨S1536x4608, .i8⟩
  | .hbm, ⟨10, _⟩ => ⟨S1x4608, .f32⟩
  | .hbm, ⟨11, _⟩ => ⟨S1x4608, .f32⟩
  | .hbm, ⟨12, _⟩ => ⟨S2x1x1536, .f32⟩
  | .hbm, ⟨13, _⟩ => ⟨S2x1x1536, .f32⟩
  | .hbm, ⟨14, _⟩ => ⟨S1536x3072, .i8⟩
  | .hbm, ⟨15, _⟩ => ⟨S1x3072, .f32⟩
  | .hbm, ⟨16, _⟩ => ⟨S1x3072, .f32⟩
  | .hbm, ⟨17, _⟩ => ⟨S1x1536, .f32⟩
  | .hbm, ⟨18, _⟩ => ⟨S2x15360x1536, .i8⟩
  | .hbm, ⟨19, _⟩ => ⟨S2x1x15360, .f32⟩
  | .hbm, ⟨20, _⟩ => ⟨S2x12x15360x128, .f32⟩
  | .hbm, ⟨21, _⟩ => ⟨S2x12x15360x128, .f32⟩
  | .hbm, ⟨22, _⟩ => ⟨S2x12x128, .f32⟩
  | .hbm, ⟨23, _⟩ => ⟨S2x12x128, .f32⟩
  | .hbm, ⟨24, _⟩ => ⟨S2x12x128, .f32⟩
  | .hbm, ⟨25, _⟩ => ⟨S2x12x128, .f32⟩
  | .local _ .vmem, ⟨0, _⟩ => ⟨S1x512x1536, .bf16⟩
  | .local _ .vmem, ⟨1, _⟩ => ⟨S1x512x1536, .bf16⟩
  | .local _ .vmem, ⟨2, _⟩ => ⟨S1x1x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x1x1536, .f32⟩
  | .local _ .vmem, ⟨6, _⟩ => ⟨S1536x3072, .i8⟩
  | .local _ .vmem, ⟨7, _⟩ => ⟨S1x3072, .f32⟩
  | .local _ .vmem, ⟨8, _⟩ => ⟨S1x3072, .f32⟩
  | .local _ .vmem, ⟨9, _⟩ => ⟨S1x1536, .f32⟩
  | .local _ .vmem, ⟨10, _⟩ => ⟨S1x512x64, .f32⟩
  | .local _ .vmem, ⟨11, _⟩ => ⟨S1x512x64, .f32⟩
  | .local _ .vmem, ⟨12, _⟩ => ⟨S1x512x64, .f32⟩
  | .local _ .vmem, ⟨13, _⟩ => ⟨S1x512x64, .f32⟩
  | .local _ .vmem, ⟨14, _⟩ => ⟨S1x512x1536, .i8⟩
  | .local _ .vmem, ⟨15, _⟩ => ⟨S1x512x1536, .i8⟩
  | .local _ .vmem, ⟨16, _⟩ => ⟨S1x1x512, .f32⟩
  | .local _ .vmem, ⟨17, _⟩ => ⟨S1x1x512, .f32⟩
  | .local _ .vmem, ⟨18, _⟩ => ⟨S1x12x512x128, .f32⟩
  | .local _ .vmem, ⟨19, _⟩ => ⟨S1x12x512x128, .f32⟩
  | .local _ .vmem, ⟨20, _⟩ => ⟨S1x12x512x128, .f32⟩
  | .local _ .vmem, ⟨21, _⟩ => ⟨S1x12x512x128, .f32⟩
  | .local _ .vmem, ⟨22, _⟩ => ⟨S1x12x128, .f32⟩
  | .local _ .vmem, ⟨23, _⟩ => ⟨S1x12x128, .f32⟩
  | .local _ .vmem, ⟨24, _⟩ => ⟨S1x12x128, .f32⟩
  | .local _ .vmem, ⟨25, _⟩ => ⟨S1x12x128, .f32⟩
  | .local _ .vmem, ⟨26, _⟩ => ⟨S1x12x128, .f32⟩
  | .local _ .vmem, ⟨27, _⟩ => ⟨S1x12x128, .f32⟩
  | .local _ .vmem, ⟨28, _⟩ => ⟨S1x12x128, .f32⟩
  | .local _ .vmem, ⟨29, _⟩ => ⟨S1x12x128, .f32⟩
  | _, _ => ⟨S2x15360x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev main_v9_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 30], ![false, false]⟩

def k0_cond1 (i : grid0.Coords) : BitVec 1 :=
  let arg1 : BitVec 32 := BitVec.ofNat 32 (i 1).val
  let c0_i32_228 : BitVec 32 := 0#32
  let v586 : BitVec 1 := Scalar.cmpi .eq arg1 c0_i32_228
  let v587 : BitVec 32 := Scalar.extui v586
  let c0_i32_229 : BitVec 32 := 0#32
  let v588 : BitVec 1 := Scalar.cmpi .ne v587 c0_i32_229
  v588

def k0_cond2 (i : grid0.Coords) : BitVec 1 :=
  let arg1 : BitVec 32 := BitVec.ofNat 32 (i 1).val
  let c0_i32_230 : BitVec 32 := 0#32
  let v589 : BitVec 1 := Scalar.cmpi .ne arg1 c0_i32_230
  let v590 : BitVec 32 := Scalar.extui v589
  let c0_i32_231 : BitVec 32 := 0#32
  let v591 : BitVec 1 := Scalar.cmpi .ne v590 c0_i32_231
  v591

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1536x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1536 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x12x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x12x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x12x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x12x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x12x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x12x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== LnKvReferenceIdeal.lean ====
abbrev S2x15360x1536 : Shape := ⟨3, ![2, 15360, 1536]⟩
abbrev S2x1536 : Shape := ⟨2, ![2, 1536]⟩
abbrev S1536x3x12x128 : Shape := ⟨4, ![1536, 3, 12, 128]⟩
abbrev S3x12x128 : Shape := ⟨3, ![3, 12, 128]⟩
abbrev S12x128 : Shape := ⟨2, ![12, 128]⟩
abbrev S2x15360x64 : Shape := ⟨3, ![2, 15360, 64]⟩
abbrev S2x1x1536 : Shape := ⟨3, ![2, 1, 1536]⟩
abbrev S1536x4608 : Shape := ⟨2, ![1536, 4608]⟩
abbrev S1536x3072 : Shape := ⟨2, ![1536, 3072]⟩
abbrev S1x1x4608 : Shape := ⟨3, ![1, 1, 4608]⟩
abbrev S1x1x3072 : Shape := ⟨3, ![1, 1, 3072]⟩
abbrev S1x1x1536 : Shape := ⟨3, ![1, 1, 1536]⟩
abbrev S2x1x15360 : Shape := ⟨3, ![2, 1, 15360]⟩
abbrev S2x12x15360x128 : Shape := ⟨4, ![2, 12, 15360, 128]⟩
abbrev S2x15360 : Shape := ⟨2, ![2, 15360]⟩
abbrev S2x15360x1 : Shape := ⟨3, ![2, 15360, 1]⟩
abbrev S2x15360x3072 : Shape := ⟨3, ![2, 15360, 3072]⟩
abbrev S2x15360x12x64x2 : Shape := ⟨5, ![2, 15360, 12, 64, 2]⟩
abbrev S2x15360x12x64x1 : Shape := ⟨5, ![2, 15360, 12, 64, 1]⟩
abbrev S2x15360x12x64 : Shape := ⟨4, ![2, 15360, 12, 64]⟩
abbrev S2x15360x1x64 : Shape := ⟨4, ![2, 15360, 1, 64]⟩
abbrev S2x15360x12x128 : Shape := ⟨4, ![2, 15360, 12, 128]⟩

abbrev nBuf : Space → Nat
  | .hbm => 22
  | .vmem => 13
  | .smem => 0
  | _ => 0

abbrev bufTy : (tb : Table) → Fin (tcTables nBuf tb) → BufTy
  | .hbm, ⟨0, _⟩ => ⟨S2x15360x1536, .bf16⟩
  | .hbm, ⟨1, _⟩ => ⟨S2x1536, .f32⟩
  | .hbm, ⟨2, _⟩ => ⟨S2x1536, .f32⟩
  | .hbm, ⟨3, _⟩ => ⟨S1536x3x12x128, .i8⟩
  | .hbm, ⟨4, _⟩ => ⟨S3x12x128, .f32⟩
  | .hbm, ⟨5, _⟩ => ⟨S3x12x128, .f32⟩
  | .hbm, ⟨6, _⟩ => ⟨S12x128, .f32⟩
  | .hbm, ⟨7, _⟩ => ⟨S2x15360x64, .f32⟩
  | .hbm, ⟨8, _⟩ => ⟨S2x15360x64, .f32⟩
  | .hbm, ⟨9, _⟩ => ⟨S2x1x1536, .f32⟩
  | .hbm, ⟨10, _⟩ => ⟨S2x1x1536, .f32⟩
  | .hbm, ⟨11, _⟩ => ⟨S1536x4608, .i8⟩
  | .hbm, ⟨12, _⟩ => ⟨S1536x3072, .i8⟩
  | .hbm, ⟨13, _⟩ => ⟨S1x1x4608, .f32⟩
  | .hbm, ⟨14, _⟩ => ⟨S1x1x3072, .f32⟩
  | .hbm, ⟨15, _⟩ => ⟨S1x1x4608, .f32⟩
  | .hbm, ⟨16, _⟩ => ⟨S1x1x3072, .f32⟩
  | .hbm, ⟨17, _⟩ => ⟨S1x1x1536, .f32⟩
  | .hbm, ⟨18, _⟩ => ⟨S2x15360x1536, .i8⟩
  | .hbm, ⟨19, _⟩ => ⟨S2x1x15360, .f32⟩
  | .hbm, ⟨20, _⟩ => ⟨S2x12x15360x128, .f32⟩
  | .hbm, ⟨21, _⟩ => ⟨S2x12x15360x128, .f32⟩
  | .local _ .vmem, ⟨0, _⟩ => ⟨S2x15360x1536, .bf16⟩
  | .local _ .vmem, ⟨1, _⟩ => ⟨S2x1x1536, .f32⟩
  | .local _ .vmem, ⟨2, _⟩ => ⟨S2x1x1536, .f32⟩
  | .local _ .vmem, ⟨3, _⟩ => ⟨S1536x3072, .i8⟩
  | .local _ .vmem, ⟨4, _⟩ => ⟨S1x1x3072, .f32⟩
  | .local _ .vmem, ⟨5, _⟩ => ⟨S1x1x3072, .f32⟩
  | .local _ .vmem, ⟨6, _⟩ => ⟨S1x1x1536, .f32⟩
  | .local _ .vmem, ⟨7, _⟩ => ⟨S2x15360x64, .f32⟩
  | .local _ .vmem, ⟨8, _⟩ => ⟨S2x15360x64, .f32⟩
  | .local _ .vmem, ⟨9, _⟩ => ⟨S2x15360x1536, .i8⟩
  | .local _ .vmem, ⟨10, _⟩ => ⟨S2x1x15360, .f32⟩
  | .local _ .vmem, ⟨11, _⟩ => ⟨S2x12x15360x128, .f32⟩
  | .local _ .vmem, ⟨12, _⟩ => ⟨S2x12x15360x128, .f32⟩
  | _, _ => ⟨S2x15360x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2x15360x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x15360x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x15360x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x15360x1536 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x15360 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x12x15360x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x12x15360x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Equation.lean ====
/-
  The equation between the two ways in which one row of attention is normalised, over the extended reals, with no condition
  on the scores. One way shifts the scores by the rounded maximum less `log₂ 448`, the maximum floored at a finite number, so
  that the weights are the fp8 codes themselves; the other shifts by the rounded maximum and scales the weights by `448`
  afterwards. The quotient of the weighted sum by the sum of the weights, and the logarithm of the sum of exponentials, are
  the same.
-/
module

public import Idealize.ShloMosaic.PureOps.Ideal
public import Mathlib.Analysis.SpecialFunctions.Pow.Real

@[expose] public section

noncomputable section

namespace Cert.Row

open Idealize.ShloMosaic

variable {K : Type} [Fintype K]

/-- `log₂ 448`, as the kernel's named constant reads. -/
abbrev L : ℝ := Real.log 448 * (Real.log 2)⁻¹

/-- The maximum of a row of scores. -/
abbrev top (u : K → EReal) : EReal := Finset.univ.sup u

/-- Clipping to the range of the codes. -/
abbrev clip (x : EReal) : EReal := min ((448 : ℝ) : EReal) (max ((-448 : ℝ) : EReal) x)

/-- The kernel's shift of a row whose maximum is `x`, floored at `n`. -/
abbrev shiftOf (n : ℝ) (x : EReal) : EReal := Ideal.liftRound Int.ceil (max (n : EReal) x) - ((L : ℝ) : EReal)

/-- The sum of the weights of a row under the shift `M`. -/
abbrev den (u : K → EReal) (M : EReal) : EReal := ∑ k, Ideal.exp2 (u k - M)

/-- The weighted sum of the values `w` by the clipped weights of the row under the shift `M`. -/
abbrev acc (u w : K → EReal) (M : EReal) : EReal := ∑ k, clip (Ideal.exp2 (u k - M)) * w k

/-- The reference's weighted sum: the weights scaled by `448`, then clipped. -/
abbrev racc (u w : K → EReal) (M : EReal) : EReal := ∑ k, clip (Ideal.exp2 (u k - M) * ((448 : ℝ) : EReal)) * w k

theorem rpow_L : (2 : ℝ) ^ L = 448 := by
  have h2 : (0 : ℝ) < 2 := by norm_num
  have hl : Real.log 2 ≠ 0 := (Real.log_pos (by norm_num)).ne'
  rw [Real.rpow_def_of_pos h2, L, mul_comm (Real.log 448), ← mul_assoc, mul_inv_cancel₀ hl, one_mul,
    Real.exp_log (by norm_num)]

/-- A positive real factor passes through a finite sum of extended reals. -/
theorem coe_mul_sum {c : ℝ} (hc : 0 ≤ c) (f : K → EReal) : (c : EReal) * ∑ k, f k = ∑ k, (c : EReal) * f k := by
  classical
  induction (Finset.univ : Finset K) using Finset.induction_on with
  | empty => simp
  | insert a s ha ih =>
    rw [Finset.sum_insert ha, Finset.sum_insert ha, ← ih]
    exact EReal.left_distrib_of_nonneg_of_ne_top (by exact_mod_cast hc) (EReal.coe_ne_top c) _ _

theorem exp2_nonneg (x : EReal) : 0 ≤ Ideal.exp2 x := by
  induction x with
  | bot => simp
  | top => simp
  | coe r => simpa using (Real.rpow_pos_of_pos (by norm_num : (0 : ℝ) < 2) r).le

theorem clip_of_mem {x : EReal} (h0 : 0 ≤ x) (h1 : x ≤ ((448 : ℝ) : EReal)) : clip x = x := by
  rw [clip, max_eq_right (le_trans (by exact_mod_cast (by norm_num : (-448 : ℝ) ≤ 0)) h0), min_eq_right h1]

/-- The weight under the kernel's shift is the reference's times a real factor. -/
theorem exp2_shift (u : EReal) (hu : u ≠ ⊤) (a b : ℝ) :
    Ideal.exp2 (u - (a : EReal)) = (((2 : ℝ) ^ (b - a) : ℝ) : EReal) * Ideal.exp2 (u - (b : EReal)) := by
  induction u with
  | bot => simp
  | top => exact absurd rfl hu
  | coe r =>
    rw [← EReal.coe_sub, ← EReal.coe_sub, Ideal.exp2_coe, Ideal.exp2_coe, ← EReal.coe_mul]
    congr 1
    show (2 : ℝ) ^ (r - a) = 2 ^ (b - a) * 2 ^ (r - b)
    rw [← Real.rpow_add (by norm_num)]; congr 1; ring

theorem exp2_le {u : EReal} {a b : ℝ} (h : u ≤ (a : EReal)) : Ideal.exp2 (u - (b : EReal)) ≤ (((2 : ℝ) ^ (a - b) : ℝ) : EReal) := by
  induction u with
  | bot => simpa using (Real.rpow_pos_of_pos (by norm_num : (0 : ℝ) < 2) _).le
  | top => exact absurd (lt_of_le_of_lt h (EReal.coe_lt_top a)) (lt_irrefl _)
  | coe r =>
    rw [← EReal.coe_sub, Ideal.exp2_coe]
    have h' : r ≤ a := by exact_mod_cast h
    exact_mod_cast Real.rpow_le_rpow_of_exponent_le (by norm_num : (1 : ℝ) ≤ 2) (by linarith : r - b ≤ a - b)

theorem le_top (u : K → EReal) (k : K) : u k ≤ top u := Finset.le_sup (f := u) (Finset.mem_univ k)

/-- With an infinite maximum every weight is zero: under any shift that is `⊤`. -/
theorem exp2_sub_top (x : EReal) : Ideal.exp2 (x - ⊤) = 0 := by
  induction x <;> simp [EReal.sub_top]

theorem exp2_bot_sub (y : EReal) : Ideal.exp2 (⊥ - y) = 0 := by simp [EReal.bot_sub]

/-- The reference's sum of weights of a row with a finite maximum is a positive real. -/
theorem den_pos (u : K → EReal) {x : ℝ} (hx : top u = (x : EReal)) : ∃ d : ℝ, 0 < d ∧ den u ((⌈x⌉ : ℝ) : EReal) = (d : EReal) := by
  classical
  have hreal : ∀ k, ∃ p : ℝ, 0 ≤ p ∧ Ideal.exp2 (u k - ((⌈x⌉ : ℝ) : EReal)) = (p : EReal) := fun k => by
    have h := le_top u k
    rw [hx] at h
    generalize u k = y at h
    induction y with
    | bot => exact ⟨0, le_rfl, by simp⟩
    | top => exact absurd (lt_of_le_of_lt h (EReal.coe_lt_top x)) (lt_irrefl _)
    | coe r => exact ⟨_, (Real.rpow_pos_of_pos (by norm_num : (0 : ℝ) < 2) (r - ⌈x⌉)).le, by rw [← EReal.coe_sub, Ideal.exp2_coe]; rfl⟩
  choose p hp0 hp using hreal
  have hne : (Finset.univ : Finset K).Nonempty := by
    by_contra h
    rw [Finset.not_nonempty_iff_eq_empty] at h
    rw [top, h, Finset.sup_empty] at hx
    exact EReal.bot_ne_coe x hx
  obtain ⟨k0, -, hk0⟩ := Finset.exists_mem_eq_sup _ hne u
  refine ⟨∑ k, p k, ?_, ?_⟩
  · refine Finset.sum_pos' (fun k _ => hp0 k) ⟨k0, Finset.mem_univ _, ?_⟩
    have h := hp k0
    rw [← hk0, show Finset.univ.sup u = (x : EReal) from hx, ← EReal.coe_sub, Ideal.exp2_coe] at h
    have : p k0 = (2 : ℝ) ^ (x - ⌈x⌉) := by exact_mod_cast h.symm
    rw [this]; exact Real.rpow_pos_of_pos (by norm_num) _
  · rw [den, Finset.sum_congr rfl (fun k _ => hp k)]
    exact (map_sum (⟨⟨fun r : ℝ => (r : EReal), EReal.coe_zero⟩, EReal.coe_add⟩ : ℝ →+ EReal) p Finset.univ).symm

/-- Case of a finite maximum: the kernel's shift is a real, its sums are the reference's times one positive real factor. -/
theorem finite_case (n : ℝ) (u w : K → EReal) {x : ℝ} (hx : top u = (x : EReal)) :
    ∃ δ : ℝ, 0 < δ ∧ shiftOf n (top u) = (((⌈x⌉ : ℝ) - Real.log (δ * 448) * (Real.log 2)⁻¹ : ℝ) : EReal)
      ∧ den u (shiftOf n (top u)) = ((δ * 448 : ℝ) : EReal) * den u ((⌈x⌉ : ℝ) : EReal)
      ∧ acc u w (shiftOf n (top u)) = (δ : EReal) * racc u w ((⌈x⌉ : ℝ) : EReal) := by
  have hu : ∀ k, u k ≠ ⊤ := fun k h => by
    have := le_top u k
    rw [hx, h] at this
    exact absurd (lt_of_le_of_lt this (EReal.coe_lt_top x)) (lt_irrefl _)
  have hl : Real.log 2 ≠ 0 := (Real.log_pos (by norm_num)).ne'
  set M : ℝ := (⌈max n x⌉ : ℝ) - L with hM
  have hsh : shiftOf n (top u) = (M : EReal) := by
    rw [shiftOf, hx, ← EReal.coe_strictMono.monotone.map_max, Ideal.liftRound_coe, ← EReal.coe_sub]
  set δ : ℝ := (2 : ℝ) ^ ((⌈x⌉ : ℝ) - ⌈max n x⌉) with hδ
  have hδ0 : 0 < δ := Real.rpow_pos_of_pos (by norm_num) _
  have hfac : (2 : ℝ) ^ ((⌈x⌉ : ℝ) - M) = δ * 448 := by
    rw [hM, hδ, ← rpow_L, ← Real.rpow_add (by norm_num)]; congr 1; ring
  have hp : ∀ k, Ideal.exp2 (u k - (M : EReal)) = ((δ * 448 : ℝ) : EReal) * Ideal.exp2 (u k - ((⌈x⌉ : ℝ) : EReal)) := fun k => by
    rw [exp2_shift (u k) (hu k) M (⌈x⌉ : ℝ), hfac]
  have hux : ∀ k, u k ≤ (x : EReal) := fun k => hx ▸ le_top u k
  refine ⟨δ, hδ0, ?_, ?_, ?_⟩
  · rw [hsh, Real.log_mul hδ0.ne' (by norm_num), hδ, Real.log_rpow (by norm_num), add_mul, mul_assoc, mul_inv_cancel₀ hl, hM]
    congr 1; ring
  · rw [hsh, den, den, coe_mul_sum (by positivity)]
    exact Finset.sum_congr rfl fun k _ => hp k
  · rw [hsh, acc, racc, coe_mul_sum hδ0.le]
    refine Finset.sum_congr rfl fun k _ => ?_
    have h1 : Ideal.exp2 (u k - (M : EReal)) ≤ ((448 : ℝ) : EReal) := by
      refine (exp2_le (b := M) ((hux k).trans (show (x : EReal) ≤ ((⌈max n x⌉ : ℝ) : EReal) from ?_))).trans ?_
      · exact_mod_cast (le_max_right n x).trans (Int.le_ceil _)
      · rw [hM, sub_sub_cancel, rpow_L]
    have h2 : Ideal.exp2 (u k - ((⌈x⌉ : ℝ) : EReal)) * ((448 : ℝ) : EReal) ≤ ((448 : ℝ) : EReal) := by
      have h := exp2_le (b := (⌈x⌉ : ℝ)) ((hux k).trans (show (x : EReal) ≤ ((⌈x⌉ : ℝ) : EReal) by exact_mod_cast Int.le_ceil x))
      rw [sub_self, Real.rpow_zero, EReal.coe_one] at h
      calc _ ≤ (1 : EReal) * ((448 : ℝ) : EReal) := mul_le_mul_of_nonneg_right h (by exact_mod_cast (by norm_num : (0 : ℝ) ≤ 448))
        _ = _ := one_mul _
    rw [clip_of_mem (exp2_nonneg _) h1,
      clip_of_mem (mul_nonneg (exp2_nonneg _) (by exact_mod_cast (by norm_num : (0 : ℝ) ≤ 448))) h2, hp k, EReal.coe_mul]
    ac_rfl

/-- With the maximum infinite every weight vanishes under both shifts. -/
theorem weights_zero (n : ℝ) (u : K → EReal) (h : top u = ⊤ ∨ top u = ⊥) (k : K) :
    Ideal.exp2 (u k - shiftOf n (top u)) = 0 ∧ Ideal.exp2 (u k - Ideal.liftRound Int.ceil (top u)) = 0 := by
  rcases h with h | h
  · rw [h, shiftOf, max_eq_right _root_.le_top, Ideal.liftRound_top, EReal.top_sub_coe]
    exact ⟨exp2_sub_top _, exp2_sub_top _⟩
  · have hk : u k = ⊥ := le_bot_iff.1 (h ▸ le_top u k)
    rw [hk]; exact ⟨exp2_bot_sub _, exp2_bot_sub _⟩

theorem top_cases (u : K → EReal) : (∃ x : ℝ, top u = (x : EReal)) ∨ top u = ⊤ ∨ top u = ⊥ := by
  generalize top u = y
  induction y with
  | bot => exact .inr (.inr rfl)
  | top => exact .inr (.inl rfl)
  | coe r => exact .inl ⟨r, rfl⟩

/-- The two quotients agree: the kernel's weighted sum, times a scale, over its sum of weights, is the reference's over its
    own times `448`. -/
theorem quotient_eq (n : ℝ) (u w : K → EReal) (s : EReal) :
    Ideal.div (acc u w (shiftOf n (top u)) * s) (den u (shiftOf n (top u)))
      = Ideal.div (racc u w (Ideal.liftRound Int.ceil (top u)) * s)
          (den u (Ideal.liftRound Int.ceil (top u)) * ((448 : ℝ) : EReal)) := by
  rcases top_cases u with ⟨x, hx⟩ | h
  · obtain ⟨δ, hδ, -, hd, ha⟩ := finite_case n u w hx
    obtain ⟨d, hd0, hd'⟩ := den_pos u hx
    have hc : Ideal.liftRound Int.ceil (top u) = ((⌈x⌉ : ℝ) : EReal) := by rw [hx, Ideal.liftRound_coe]
    rw [hc, hd, ha, hd', ← EReal.coe_mul, ← EReal.coe_mul, Ideal.div_coe (by positivity), Ideal.div_coe (by positivity)]
    generalize racc u w _ = A
    have : ((1 / (d * 448) : ℝ) : EReal) = (δ : EReal) * ((1 / (δ * 448 * d) : ℝ) : EReal) := by
      rw [← EReal.coe_mul]; congr 1; field_simp
    rw [this]; ac_rfl
  · have hz := weights_zero n u h
    have hc0 : clip 0 = 0 := clip_of_mem le_rfl (by exact_mod_cast (by norm_num : (0 : ℝ) ≤ 448))
    have h1 : acc u w (shiftOf n (top u)) = 0 := Finset.sum_eq_zero fun k _ => by rw [(hz k).1, hc0, zero_mul]
    have h2 : den u (shiftOf n (top u)) = 0 := Finset.sum_eq_zero fun k _ => (hz k).1
    have h3 : racc u w (Ideal.liftRound Int.ceil (top u)) = 0 :=
      Finset.sum_eq_zero fun k _ => by rw [(hz k).2, zero_mul, hc0, zero_mul]
    have h4 : den u (Ideal.liftRound Int.ceil (top u)) = 0 := Finset.sum_eq_zero fun k _ => (hz k).2
    rw [h1, h2, h3, h4, zero_mul, zero_mul]

/-- The two logarithms of the sum of exponentials, to base two, agree. -/
theorem log_eq (n : ℝ) (u : K → EReal) :
    shiftOf n (top u) + Ideal.div (Ideal.log (den u (shiftOf n (top u)))) (Ideal.log ((2 : ℝ) : EReal))
      = Ideal.liftRound Int.ceil (top u)
        + Ideal.div (Ideal.log (den u (Ideal.liftRound Int.ceil (top u)))) (Ideal.log ((2 : ℝ) : EReal)) := by
  have hl : Real.log 2 ≠ 0 := (Real.log_pos (by norm_num)).ne'
  have hlog2 : Ideal.log ((2 : ℝ) : EReal) = ((Real.log 2 : ℝ) : EReal) := by rw [Ideal.log_coe, if_neg (by norm_num)]
  rw [hlog2, Ideal.div_coe hl, Ideal.div_coe hl]
  rcases top_cases u with ⟨x, hx⟩ | h
  · obtain ⟨δ, hδ, hs, hd, -⟩ := finite_case n u u hx
    obtain ⟨d, hd0, hd'⟩ := den_pos u hx
    have hc : Ideal.liftRound Int.ceil (top u) = ((⌈x⌉ : ℝ) : EReal) := by rw [hx, Ideal.liftRound_coe]
    have hδ' : 0 < δ * 448 := by positivity
    rw [hc, hd, hs, hd', ← EReal.coe_mul, Ideal.log_coe, Ideal.log_coe, if_neg (not_le.2 (by positivity)), if_neg (not_le.2 hd0),
      ← EReal.coe_mul, ← EReal.coe_mul, ← EReal.coe_add, ← EReal.coe_add, Real.log_mul hδ'.ne' hd0.ne']
    congr 1; ring
  · have hz := weights_zero n u h
    have h2 : den u (shiftOf n (top u)) = 0 := Finset.sum_eq_zero fun k _ => (hz k).1
    have h4 : den u (Ideal.liftRound Int.ceil (top u)) = 0 := Finset.sum_eq_zero fun k _ => (hz k).2
    have hb : Ideal.log (0 : EReal) * ((1 / Real.log 2 : ℝ) : EReal) = ⊥ := by
      rw [← EReal.coe_zero, Ideal.log_coe, if_pos le_rfl]
      exact EReal.bot_mul_coe_of_pos (by have := Real.log_pos (by norm_num : (1 : ℝ) < 2); positivity)
    rw [h2, h4, hb, EReal.add_bot, EReal.add_bot]

end Cert.Row

end
-- ==== Proof.Scores.lean ====
/-
  The pure part of one trip of the kernel's loop, element by element over the extended reals: a tile of scores, the weights
  of a tile and their clipped codes, what a trip adds to the lane sums, to the running maximum and to the weighted sum, and
  what the last operations of a block compute.
-/
module

public import proofs.«01_k».proof.Proof.Gen.KernelIdeal.Skeleton
public import proofs.«01_k».proof.Proof.Equation
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

/-- One score of a tile: the product of the code row and the key column, scaled, plus the correction of the row's half. -/
def tile (q : Vec Ideal S1x256x128 .i8) (qw : Vec Ideal S1x64x128 .f32) (kt : Vec Ideal S1x1x128x1024 .bf16)
    (ks : Vec Ideal S1x1x1x128 .f32) (c0 c1 : Vec Ideal S1x1x1x1x128 .f32) (n : Fin 8) (r : Fin 256) (l : Fin 128) : EReal :=
  (∑ x : Fin 128, FloatOps.sitofp (F := Ideal) .bf16 (q (ix3 0 r x)) * kt (ix4 0 0 x ⟨128 * n.val + l.val, by omega⟩))
      * (qw (ix3 0 ⟨r.val / 32 * 8 + r.val % 8, by omega⟩ l) * Ideal.ofBits .f32 0x3E0293EE#32 * ks (ix4 0 0 0 l))
    + if r.val < 128 then c0 (ix5 0 0 0 0 l) else c1 (ix5 0 0 0 0 l)

section Tiles

variable (q : Vec Ideal S1x256x128 .i8) (qw : Vec Ideal S1x64x128 .f32) (kt : Vec Ideal S1x1x128x1024 .bf16)
  (ks : Vec Ideal S1x1x1x128 .f32) (c0 c1 : Vec Ideal S1x1x1x1x128 .f32)

/-- The score read half by half, as the kernel's concatenation of the two halves of the rows gives it. -/
theorem tile_halves (n : Fin 8) (r : Fin 256) (l : Fin 128) :
    (if h : r.val < 128 then
        (∑ x : Fin 128, FloatOps.sitofp (F := Ideal) .bf16 (q (ix3 0 r x)) * kt (ix4 0 0 x ⟨128 * n.val + l.val, by omega⟩))
          * (qw (ix3 0 ⟨r.val / 32 * 8 + r.val % 8, by omega⟩ l) * Ideal.ofBits .f32 0x3E0293EE#32 * ks (ix4 0 0 0 l))
        + c0 (ix5 0 0 0 0 l)
      else
        (∑ x : Fin 128, FloatOps.sitofp (F := Ideal) .bf16
              (q (ix3 0 ⟨(4 + (r.val - 128) / 32) * 32 + (r.val - 128) / 8 % 4 * 8 + (r.val - 128) % 8, by omega⟩ x))
            * kt (ix4 0 0 x ⟨128 * n.val + l.val, by omega⟩))
          * (qw (ix3 0 ⟨(4 + (r.val - 128) / 32) * 8 + (r.val - 128) % 8, by omega⟩ l) * Ideal.ofBits .f32 0x3E0293EE#32
              * ks (ix4 0 0 0 l))
        + c1 (ix5 0 0 0 0 l)) = tile q qw kt ks c0 c1 n r l := by
  unfold tile
  by_cases h : r.val < 128
  · rw [dif_pos h, if_pos h]
  · have e1 : ∀ hh, (⟨(4 + (r.val - 128) / 32) * 32 + (r.val - 128) / 8 % 4 * 8 + (r.val - 128) % 8, hh⟩ : Fin 256) = r :=
      fun _ => Fin.ext (by simp only; omega)
    have e2 : ∀ hh hh', (⟨(4 + (r.val - 128) / 32) * 8 + (r.val - 128) % 8, hh⟩ : Fin 64) = ⟨r.val / 32 * 8 + r.val % 8, hh'⟩ :=
      fun _ _ => Fin.ext (by simp only; omega)
    rw [dif_neg h, if_neg h, e1]
    simp only [e2 _ (by omega)]

theorem tile0_apply (r : Fin 256) (l : Fin 128) : k0_pay24 (k0_pay57 q) (k0_pay58 qw) kt ks c0 c1 (ix2 r l) = tile q qw kt ks c0 c1 0 r l := by
  pointwise [k0_pay22, k0_pay23, k0_pay24, k0_pay57, k0_pay58]
  simpa only [Fin.val_zero, Nat.mul_zero, Nat.zero_add] using tile_halves q qw kt ks c0 c1 0 r l

theorem tile1_apply (r : Fin 256) (l : Fin 128) : k0_pay28 (k0_pay27 (k0_pay57 q) (k0_pay58 qw) kt ks) c0 c1 (ix2 r l) = tile q qw kt ks c0 c1 1 r l := by
  pointwise [k0_pay22, k0_pay23, k0_pay27, k0_pay28, k0_pay57, k0_pay58]
  exact tile_halves q qw kt ks c0 c1 1 r l

theorem tile2_apply (r : Fin 256) (l : Fin 128) : k0_pay34 (k0_pay32 (k0_pay22 (k0_pay57 q) kt) (k0_pay23 (k0_pay58 qw) ks) c0) (k0_pay33 (k0_pay22 (k0_pay57 q) kt) (k0_pay23 (k0_pay58 qw) ks)) c1 (ix2 r l) = tile q qw kt ks c0 c1 2 r l := by
  pointwise [k0_pay22, k0_pay23, k0_pay31, k0_pay32, k0_pay33, k0_pay34, k0_pay57, k0_pay58]
  exact tile_halves q qw kt ks c0 c1 2 r l

theorem tile3_apply (r : Fin 256) (l : Fin 128) : k0_pay36 (k0_pay22 (k0_pay57 q) kt) (k0_pay23 (k0_pay58 qw) ks) c0 c1 (ix2 r l) = tile q qw kt ks c0 c1 3 r l := by
  pointwise [k0_pay22, k0_pay23, k0_pay36, k0_pay57, k0_pay58]
  exact tile_halves q qw kt ks c0 c1 3 r l

theorem tile4_apply (r : Fin 256) (l : Fin 128) : k0_pay40 (k0_pay39 (k0_pay22 (k0_pay57 q) kt) (k0_pay23 (k0_pay58 qw) ks)) c0 c1 (ix2 r l) = tile q qw kt ks c0 c1 4 r l := by
  pointwise [k0_pay22, k0_pay23, k0_pay39, k0_pay40, k0_pay57, k0_pay58]
  exact tile_halves q qw kt ks c0 c1 4 r l

theorem tile5_apply (r : Fin 256) (l : Fin 128) : k0_pay46 (k0_pay44 (k0_pay22 (k0_pay57 q) kt) (k0_pay23 (k0_pay58 qw) ks) c0) (k0_pay45 (k0_pay22 (k0_pay57 q) kt) (k0_pay23 (k0_pay58 qw) ks)) c1 (ix2 r l) = tile q qw kt ks c0 c1 5 r l := by
  pointwise [k0_pay22, k0_pay23, k0_pay43, k0_pay44, k0_pay45, k0_pay46, k0_pay57, k0_pay58]
  exact tile_halves q qw kt ks c0 c1 5 r l

theorem tile6_apply (r : Fin 256) (l : Fin 128) : k0_pay48 (k0_pay22 (k0_pay57 q) kt) (k0_pay23 (k0_pay58 qw) ks) c0 c1 (ix2 r l) = tile q qw kt ks c0 c1 6 r l := by
  pointwise [k0_pay22, k0_pay23, k0_pay48, k0_pay57, k0_pay58]
  exact tile_halves q qw kt ks c0 c1 6 r l

theorem tile7_apply (r : Fin 256) (l : Fin 128) : k0_pay59 (k0_pay51 (k0_pay22 (k0_pay57 q) kt) (k0_pay23 (k0_pay58 qw) ks)) c0 c1 (ix2 r l) = tile q qw kt ks c0 c1 7 r l := by
  pointwise [k0_pay22, k0_pay23, k0_pay51, k0_pay57, k0_pay58, k0_pay59]
  exact tile_halves q qw kt ks c0 c1 7 r l

end Tiles

/-- What a trip leaves in the lane sums: the eight tiles' weights added. -/
theorem laneSum_apply (x : Fin 8 → Vec Ideal S1x256x128 .f32) (d m : Vec Ideal S256x128 .f32) (r : Fin 256) (l : Fin 128) :
    k0_pay20 (k0_pay15 (k0_pay8 d (x 0) m (x 1) m (x 2) m) (x 3) m (x 4) m (x 5) m) (k0_pay17 (x 6)) m (x 7) m (ix2 r l)
      = d (ix2 r l) + ∑ n : Fin 8, Ideal.exp2 (x n (ix3 0 r l) - m (ix2 r l)) := by
  pointwise [k0_pay20, k0_pay15, k0_pay8, k0_pay17, k0_pay3, k0_pay5, k0_pay7, k0_pay10, k0_pay12, k0_pay14, k0_pay18, k0_pay19]
  rw [Fin.sum_univ_eight]
  simp only [add_assoc]
  rfl

/-- The running maximum after a trip, as the payloads build it. -/
theorem laneMax_apply (t : Fin 8 → EReal) (a : EReal) :
    max (max (max (max (max (max (max (max a (t 0)) (t 1)) (t 2)) (t 3)) (t 4)) (t 5)) (t 6)) (t 7)
      = max a (Finset.univ.sup t) := by
  rw [show (Finset.univ : Finset (Fin 8)) = {0, 1, 2, 3, 4, 5, 6, 7} by decide]
  simp only [Finset.sup_insert, Finset.sup_singleton, max_assoc]

theorem f32_448 : Ideal.ofBits .f32 0x43E00000#32 = ((448 : ℝ) : EReal) := by
  simp [Ideal.ofBits, Ideal.ieee]; rw [← EReal.coe_mul]; norm_num

theorem f32_neg448 : Ideal.ofBits .f32 0xC3E00000#32 = ((-448 : ℝ) : EReal) := by
  simp [Ideal.ofBits, Ideal.ieee]; rw [← EReal.coe_mul]; norm_num

/-- A sum over the columns of a chunk is the sum over its tiles of the sums over their lanes. -/
theorem sum_tiles (f : Fin 1024 → EReal) : ∑ j, f j = ∑ n : Fin 8, ∑ l : Fin 128, f ⟨128 * n.val + l.val, by omega⟩ := by
  rw [← Finset.sum_product', Finset.univ_product_univ]
  exact (Equiv.sum_comp (finProdFinEquiv (m := 8) (n := 128)) f).symm.trans
    (Finset.sum_congr rfl fun p _ => congrArg f (Fin.ext (Nat.add_comm _ _)))

/-- What a trip leaves in the weighted sum: the clipped weights of the eight tiles times the rows of the values. -/
theorem weighted_apply (x : Fin 8 → Vec Ideal S1x256x128 .f32) (a m : Vec Ideal S256x128 .f32) (v : Vec Ideal S1x1024x128 .fp8e4m3)
    (r : Fin 256) (d : Fin 128) :
    k0_pay21 (k0_pay4 (x 0) m) (k0_pay6 (x 1) m) (k0_pay9 (x 2) m) (k0_pay11 (x 3) m) (k0_pay13 (x 4) m) (k0_pay16 (x 5) m)
        (k0_pay17 (x 6)) m (x 7) m v a (ix2 r d)
      = a (ix2 r d) + ∑ n : Fin 8, ∑ l : Fin 128,
          Row.clip (Ideal.exp2 (x n (ix3 0 r l) - m (ix2 r l))) * v (ix3 0 ⟨128 * n.val + l.val, by omega⟩ d) := by
  pointwise [k0_pay21, k0_pay4, k0_pay6, k0_pay9, k0_pay11, k0_pay13, k0_pay16, k0_pay17, k0_pay3, k0_pay5, k0_pay7, k0_pay10, k0_pay12, k0_pay14, k0_pay18, k0_pay19]
  simp only [f32_448, f32_neg448]
  rw [sum_tiles]
  refine congrArg (a (ix2 r d) + ·) (Finset.sum_congr rfl fun n _ => Finset.sum_congr rfl fun l _ => ?_)
  have hl := l.isLt
  refine congrArg (· * v (ix3 0 ⟨128 * n.val + l.val, by omega⟩ d)) ?_
  fin_cases n
  all_goals
    dsimp only
    repeat (first | rw [dif_pos (by omega)] | rw [dif_neg (by omega)])
    refine congrArg Row.clip (congrArg Ideal.exp2 (congrArg (fun i => x _ (ix3 0 r i) - m (ix2 r i)) (Fin.ext ?_)))
    dsimp only; omega

/-- What the block's end leaves as the shift of the block just scored. -/
theorem shift_apply (v : Vec Ideal S256x128 .f32) (r : Fin 256) (l : Fin 128) :
    k0_pay2 v (ix2 r l) = Ideal.liftRound Int.ceil (Finset.univ.sup fun x : Fin 128 => v (ix2 r x)) - ((Row.L : ℝ) : EReal) := by
  pointwise [k0_pay2]
  rfl

/-- The attention output of a block: the weighted sum, times the scale of the values' column, over the sum of the lanes. -/
theorem attn_apply (d a : Vec Ideal S256x128 .f32) (vs : Vec Ideal S1x1x128 .f32) (r : Fin 256) (l : Fin 128) :
    k0_pay64 d a vs (ix3 0 r l) = Ideal.div (a (ix2 r l) * vs (ix3 0 0 l)) (∑ x : Fin 128, d (ix2 r x)) := by
  pointwise [k0_pay64, k0_pay63, k0_pay62]

/-- The same before the narrowing, plus the mean of the values' column. -/
theorem out_apply (d a : Vec Ideal S256x128 .f32) (vs vm : Vec Ideal S1x1x128 .f32) (r : Fin 256) (l : Fin 128) :
    k0_pay65 d a vs vm (ix3 0 r l)
      = Ideal.div (a (ix2 r l) * vs (ix3 0 0 l)) (∑ x : Fin 128, d (ix2 r x)) + vm (ix3 0 0 l) := by
  pointwise [k0_pay65, k0_pay63, k0_pay62]

/-- The logarithm of the row's sum of exponentials, with the part of the mean key. -/
theorem lse_apply (d : Vec Ideal S256x128 .f32) (m : Vec Ideal S256x1 .f32) (qk : Vec Ideal S1x1x256 .f32) (r : Fin 256) :
    k0_pay1 (k0_pay66 d m) k0_pay67 qk (ix3 0 0 r)
      = Ideal.ofBits .f32 0x3F317218#32
          * (m (ix2 r 0) + Ideal.div (Ideal.log (∑ x : Fin 128, d (ix2 r x))) (Ideal.log (Ideal.ofBits .f32 0x40000000#32)))
        + Ideal.ofBits .f32 0x3DB504F3#32 * qk (ix3 0 0 r) - Ideal.ofBits .f32 0x411A3B7B#32 := by
  pointwise [k0_pay1, k0_pay66, k0_pay67, k0_pay62]
  by_cases h : r.val < 128
  · rw [dif_pos h]
  · have e : ∀ hh, (⟨128 + (r.val - 128), hh⟩ : Fin 256) = r := fun _ => Fin.ext (by simp only; omega)
    rw [dif_neg h, e]

end Cert.KernelIdeal.Att

end
-- ==== Proof.Trip.lean ====
/-
  One trip of the kernel's loop, as what it leaves in the four arrays that it writes: chunk `k` of the score array becomes
  the scores of the block at hand against the keys of the chunk, the lanes' running maximum takes them in, and the lane sums
  and the weighted sum take in the weights of the scores that the chunk held before.
-/
module

public import proofs.«01_k».proof.Proof.Scores
public import proofs.«01_k».proof.Proof.Gen.KernelIdeal.Loops
public import Idealize.ShloMosaic.Lib.VecWindow
public import Idealize.ShloMosaic.Lib.WritesUnit

@[expose] public section

set_option maxRecDepth 16384

noncomputable section

namespace Cert.KernelIdeal.Att

open Cert.KernelIdeal Cert.KernelIdeal.Gen Idealize.ShloMosaic Idealize.ShloMosaic.TcCoe Idealize.SL.Sem

/-- A load of one tile of the score array, at an element. -/
theorem readAt_tile (v : View sig .tc .vmem S15x256x1024 .f32) (f : v.ty.Contents (Elt Ideal)) {off : Fin 3 → ℕ} (k : Fin 15) (n : Fin 8)
    (h : off = ![k.val, 0, 128 * n.val]) (inb : ∀ a : Fin 3, off a + S1x256x128.size a ≤ S15x256x1024.size a) (r : Fin 256) (l : Fin 128) :
    v.readAt (Elt Ideal) (Rect.unit (s := S15x256x1024) off S1x256x128.size inb).toLoadRect f (ix3 0 r l)
      = v.read (Elt Ideal) f (ix3 k r ⟨128 * n.val + l.val, by omega⟩) := by
  subst h
  refine congrArg (v.read (Elt Ideal) f) (funext fun a => Fin.ext ?_)
  fin_cases a
  · show k.val + 1 * 0 = k.val; omega
  · show 0 + 1 * r.val = r.val; omega
  · show 128 * n.val + 1 * l.val = 128 * n.val + l.val; omega

/-- The tiles of chunk `k` of the score array, as the trip loads them. -/
def oldTiles (v : View sig .tc .vmem S15x256x1024 .f32) (f : v.ty.Contents (Elt Ideal)) (k : Fin k0_t1_loop.trips) :
    Fin 8 → Vec Ideal S1x256x128 .f32 :=
  ![v.readAt (Elt Ideal) (Rect.unit (s := S15x256x1024) (k0_off1 k) S1x256x128.size (k0_off1_inb k)).toLoadRect f, v.readAt (Elt Ideal) (Rect.unit (s := S15x256x1024) (k0_off2 k) S1x256x128.size (k0_off2_inb k)).toLoadRect f, v.readAt (Elt Ideal) (Rect.unit (s := S15x256x1024) (k0_off3 k) S1x256x128.size (k0_off3_inb k)).toLoadRect f, v.readAt (Elt Ideal) (Rect.unit (s := S15x256x1024) (k0_off4 k) S1x256x128.size (k0_off4_inb k)).toLoadRect f, v.readAt (Elt Ideal) (Rect.unit (s := S15x256x1024) (k0_off5 k) S1x256x128.size (k0_off5_inb k)).toLoadRect f, v.readAt (Elt Ideal) (Rect.unit (s := S15x256x1024) (k0_off6 k) S1x256x128.size (k0_off6_inb k)).toLoadRect f, v.readAt (Elt Ideal) (Rect.unit (s := S15x256x1024) (k0_off7 k) S1x256x128.size (k0_off7_inb k)).toLoadRect f, v.readAt (Elt Ideal) (Rect.unit (s := S15x256x1024) (k0_off8 k) S1x256x128.size (k0_off8_inb k)).toLoadRect f]

/-- The trips are fifteen. -/
theorem trip_lt (k : Fin k0_t1_loop.trips) : k.val < 15 := Nat.lt_of_lt_of_le k.isLt k0_t1_abs.2.1

/-- A trip as a chunk number. -/
abbrev chunk (k : Fin k0_t1_loop.trips) : Fin 15 := ⟨k.val, trip_lt k⟩

theorem oldTiles_apply (v : View sig .tc .vmem S15x256x1024 .f32) (f : v.ty.Contents (Elt Ideal)) (k : Fin k0_t1_loop.trips)
    (n : Fin 8) (r : Fin 256) (l : Fin 128) :
    oldTiles v f k n (ix3 0 r l) = v.read (Elt Ideal) f (ix3 (chunk k) r ⟨128 * n.val + l.val, by omega⟩) := by
  fin_cases n
  · exact readAt_tile v f (chunk k) 0 (k0_off1_eq k) (k0_off1_inb k) r l
  · exact readAt_tile v f (chunk k) 1 (k0_off2_eq k) (k0_off2_inb k) r l
  · exact readAt_tile v f (chunk k) 2 (k0_off3_eq k) (k0_off3_inb k) r l
  · exact readAt_tile v f (chunk k) 3 (k0_off4_eq k) (k0_off4_inb k) r l
  · exact readAt_tile v f (chunk k) 4 (k0_off5_eq k) (k0_off5_inb k) r l
  · exact readAt_tile v f (chunk k) 5 (k0_off6_eq k) (k0_off6_inb k) r l
  · exact readAt_tile v f (chunk k) 6 (k0_off7_eq k) (k0_off7_inb k) r l
  · exact readAt_tile v f (chunk k) 7 (k0_off8_eq k) (k0_off8_inb k) r l

/-- The rows of the correction that a trip loads for the first 128 rows of its block, by tile. -/
def corr0 (v : View sig .tc .vmem S1x15x8x8x128 .f32) (f : v.ty.Contents (Elt Ideal)) (i : grid0.Coords) (k : Fin k0_t1_loop.trips) :
    Fin 8 → Vec Ideal S1x1x1x1x128 .f32 :=
  ![v.readAt (Elt Ideal) (Rect.unit (s := S1x15x8x8x128) (k0_off12 i k 0#32) S1x1x1x1x128.size (k0_off12_inb i k 0)).toLoadRect f, v.readAt (Elt Ideal) (Rect.unit (s := S1x15x8x8x128) (k0_off13 i k 0#32) S1x1x1x1x128.size (k0_off13_inb i k 0)).toLoadRect f, v.readAt (Elt Ideal) (Rect.unit (s := S1x15x8x8x128) (k0_off14 i k 0#32) S1x1x1x1x128.size (k0_off14_inb i k 0)).toLoadRect f, v.readAt (Elt Ideal) (Rect.unit (s := S1x15x8x8x128) (k0_off15 i k 0#32) S1x1x1x1x128.size (k0_off15_inb i k 0)).toLoadRect f, v.readAt (Elt Ideal) (Rect.unit (s := S1x15x8x8x128) (k0_off16 i k 0#32) S1x1x1x1x128.size (k0_off16_inb i k 0)).toLoadRect f, v.readAt (Elt Ideal) (Rect.unit (s := S1x15x8x8x128) (k0_off17 i k 0#32) S1x1x1x1x128.size (k0_off17_inb i k 0)).toLoadRect f, v.readAt (Elt Ideal) (Rect.unit (s := S1x15x8x8x128) (k0_off18 i k 0#32) S1x1x1x1x128.size (k0_off18_inb i k 0)).toLoadRect f, v.readAt (Elt Ideal) (Rect.unit (s := S1x15x8x8x128) (k0_off19 i k 0#32) S1x1x1x1x128.size (k0_off19_inb i k 0)).toLoadRect f]

/-- The rows of the correction that a trip loads for the last 128 rows of its block, by tile. -/
def corr1 (v : View sig .tc .vmem S1x15x8x8x128 .f32) (f : v.ty.Contents (Elt Ideal)) (i : grid0.Coords) (k : Fin k0_t1_loop.trips) :
    Fin 8 → Vec Ideal S1x1x1x1x128 .f32 :=
  ![v.readAt (Elt Ideal) (Rect.unit (s := S1x15x8x8x128) (k0_off12 i k 1#32) S1x1x1x1x128.size (k0_off12_inb i k 1)).toLoadRect f, v.readAt (Elt Ideal) (Rect.unit (s := S1x15x8x8x128) (k0_off13 i k 1#32) S1x1x1x1x128.size (k0_off13_inb i k 1)).toLoadRect f, v.readAt (Elt Ideal) (Rect.unit (s := S1x15x8x8x128) (k0_off14 i k 1#32) S1x1x1x1x128.size (k0_off14_inb i k 1)).toLoadRect f, v.readAt (Elt Ideal) (Rect.unit (s := S1x15x8x8x128) (k0_off15 i k 1#32) S1x1x1x1x128.size (k0_off15_inb i k 1)).toLoadRect f, v.readAt (Elt Ideal) (Rect.unit (s := S1x15x8x8x128) (k0_off16 i k 1#32) S1x1x1x1x128.size (k0_off16_inb i k 1)).toLoadRect f, v.readAt (Elt Ideal) (Rect.unit (s := S1x15x8x8x128) (k0_off17 i k 1#32) S1x1x1x1x128.size (k0_off17_inb i k 1)).toLoadRect f, v.readAt (Elt Ideal) (Rect.unit (s := S1x15x8x8x128) (k0_off18 i k 1#32) S1x1x1x1x128.size (k0_off18_inb i k 1)).toLoadRect f, v.readAt (Elt Ideal) (Rect.unit (s := S1x15x8x8x128) (k0_off19 i k 1#32) S1x1x1x1x128.size (k0_off19_inb i k 1)).toLoadRect f]

/-- Which quarter of the eight rows of a correction block belongs to the block of queries of a point. -/
def quarter (i : grid0.Coords) : Fin 4 := ⟨min (i 0).val 1439 % 60 % 4, Nat.mod_lt _ (by omega)⟩

/-- A load of one row of the correction, at an element. -/
theorem readAt_corr (v : View sig .tc .vmem S1x15x8x8x128 .f32) (f : v.ty.Contents (Elt Ideal)) {off : Fin 5 → ℕ} (k : Fin 15) (n : Fin 8)
    (b : ℕ) (hb : b < 8) (h : off = ![0, k.val, n.val, b, 0])
    (inb : ∀ a : Fin 5, off a + S1x1x1x1x128.size a ≤ S1x15x8x8x128.size a) (l : Fin 128) :
    v.readAt (Elt Ideal) (Rect.unit (s := S1x15x8x8x128) off S1x1x1x1x128.size inb).toLoadRect f (ix5 0 0 0 0 l)
      = v.read (Elt Ideal) f (ix5 0 k n ⟨b, hb⟩ l) := by
  subst h
  refine congrArg (v.read (Elt Ideal) f) (funext fun a => Fin.ext ?_)
  fin_cases a
  · show 0 + 1 * 0 = 0; omega
  · show k.val + 1 * 0 = k.val; omega
  · show n.val + 1 * 0 = n.val; omega
  · show b + 1 * 0 = b; omega
  · show 0 + 1 * l.val = l.val; omega

theorem corr0_apply (v : View sig .tc .vmem S1x15x8x8x128 .f32) (f : v.ty.Contents (Elt Ideal)) (i : grid0.Coords)
    (k : Fin k0_t1_loop.trips) (n : Fin 8) (l : Fin 128) :
    corr0 v f i k n (ix5 0 0 0 0 l) = v.read (Elt Ideal) f (ix5 0 (chunk k) n ⟨2 * (quarter i).val, by omega⟩ l) := by
  have hq := (quarter i).isLt
  fin_cases n
  · exact readAt_corr v f (chunk k) 0 _ (by omega) (k0_off12_eq i k 0) (k0_off12_inb i k 0) l
  · exact readAt_corr v f (chunk k) 1 _ (by omega) (k0_off13_eq i k 0) (k0_off13_inb i k 0) l
  · exact readAt_corr v f (chunk k) 2 _ (by omega) (k0_off14_eq i k 0) (k0_off14_inb i k 0) l
  · exact readAt_corr v f (chunk k) 3 _ (by omega) (k0_off15_eq i k 0) (k0_off15_inb i k 0) l
  · exact readAt_corr v f (chunk k) 4 _ (by omega) (k0_off16_eq i k 0) (k0_off16_inb i k 0) l
  · exact readAt_corr v f (chunk k) 5 _ (by omega) (k0_off17_eq i k 0) (k0_off17_inb i k 0) l
  · exact readAt_corr v f (chunk k) 6 _ (by omega) (k0_off18_eq i k 0) (k0_off18_inb i k 0) l
  · exact readAt_corr v f (chunk k) 7 _ (by omega) (k0_off19_eq i k 0) (k0_off19_inb i k 0) l

theorem corr1_apply (v : View sig .tc .vmem S1x15x8x8x128 .f32) (f : v.ty.Contents (Elt Ideal)) (i : grid0.Coords)
    (k : Fin k0_t1_loop.trips) (n : Fin 8) (l : Fin 128) :
    corr1 v f i k n (ix5 0 0 0 0 l) = v.read (Elt Ideal) f (ix5 0 (chunk k) n ⟨2 * (quarter i).val + 1, by omega⟩ l) := by
  have hq := (quarter i).isLt
  fin_cases n
  · exact readAt_corr v f (chunk k) 0 _ (by omega) (k0_off12_eq i k 1) (k0_off12_inb i k 1) l
  · exact readAt_corr v f (chunk k) 1 _ (by omega) (k0_off13_eq i k 1) (k0_off13_inb i k 1) l
  · exact readAt_corr v f (chunk k) 2 _ (by omega) (k0_off14_eq i k 1) (k0_off14_inb i k 1) l
  · exact readAt_corr v f (chunk k) 3 _ (by omega) (k0_off15_eq i k 1) (k0_off15_inb i k 1) l
  · exact readAt_corr v f (chunk k) 4 _ (by omega) (k0_off16_eq i k 1) (k0_off16_inb i k 1) l
  · exact readAt_corr v f (chunk k) 5 _ (by omega) (k0_off17_eq i k 1) (k0_off17_inb i k 1) l
  · exact readAt_corr v f (chunk k) 6 _ (by omega) (k0_off18_eq i k 1) (k0_off18_inb i k 1) l
  · exact readAt_corr v f (chunk k) 7 _ (by omega) (k0_off19_eq i k 1) (k0_off19_inb i k 1) l

/-- The score of row `r` of a block of queries against key `128 n + l` of chunk `a`, off the arrays that the loop reads. -/
def score (q : Vec Ideal S1x256x128 .i8) (qw : Vec Ideal S1x64x128 .f32) (kk : Vec Ideal S1x15x128x1024 .bf16)
    (ks : Vec Ideal S1x15x1x128 .f32) (co : Vec Ideal S1x15x8x8x128 .f32) (e : Fin 4) (a : Fin 15) (n : Fin 8) (r : Fin 256) (l : Fin 128) : EReal :=
  (∑ x : Fin 128, FloatOps.sitofp (F := Ideal) .bf16 (q (ix3 0 r x)) * kk (ix4 0 a x ⟨128 * n.val + l.val, by omega⟩))
      * (qw (ix3 0 ⟨r.val / 32 * 8 + r.val % 8, by omega⟩ l) * Ideal.ofBits .f32 0x3E0293EE#32 * ks (ix4 0 a 0 l))
    + co (ix5 0 a n ⟨2 * e.val + r.val / 128, by omega⟩ l)

section Stores

variable (v15 : Vec Ideal S1x256x128 .i8) (v18 : Vec Ideal S1x64x128 .f32) (kt : Vec Ideal S1x1x128x1024 .bf16)
  (ks : Vec Ideal S1x1x1x128 .f32) (c0 c1 : Fin 8 → Vec Ideal S1x1x1x1x128 .f32)

/-- The eight tiles of scores that a trip stores. -/
def newTiles : Fin 8 → Vec Ideal S1x256x128 .f32 :=
  ![k0_pay26 (k0_pay57 v15) (k0_pay58 v18) kt ks (c0 0) (c1 0),
    k0_pay30 (k0_pay27 (k0_pay57 v15) (k0_pay58 v18) kt ks) (c0 1) (c1 1),
    k0_pay35 (k0_pay32 (k0_pay22 (k0_pay57 v15) kt) (k0_pay23 (k0_pay58 v18) ks) (c0 2)) (k0_pay33 (k0_pay22 (k0_pay57 v15) kt) (k0_pay23 (k0_pay58 v18) ks)) (c1 2),
    k0_pay38 (k0_pay22 (k0_pay57 v15) kt) (k0_pay23 (k0_pay58 v18) ks) (c0 3) (c1 3),
    k0_pay42 (k0_pay39 (k0_pay22 (k0_pay57 v15) kt) (k0_pay23 (k0_pay58 v18) ks)) (c0 4) (c1 4),
    k0_pay47 (k0_pay44 (k0_pay22 (k0_pay57 v15) kt) (k0_pay23 (k0_pay58 v18) ks) (c0 5)) (k0_pay45 (k0_pay22 (k0_pay57 v15) kt) (k0_pay23 (k0_pay58 v18) ks)) (c1 5),
    k0_pay50 (k0_pay22 (k0_pay57 v15) kt) (k0_pay23 (k0_pay58 v18) ks) (c0 6) (c1 6),
    k0_pay60 (k0_pay51 (k0_pay22 (k0_pay57 v15) kt) (k0_pay23 (k0_pay58 v18) ks)) (c0 7) (c1 7)]

theorem newTiles_apply (n : Fin 8) (r : Fin 256) (l : Fin 128) :
    newTiles v15 v18 kt ks c0 c1 n (ix3 0 r l) = tile v15 v18 kt ks (c0 n) (c1 n) n r l := by
  fin_cases n
  · show (k0_pay26 (k0_pay57 v15) (k0_pay58 v18) kt ks (c0 0) (c1 0)) (ix3 0 r l) = _
    pointwise [k0_pay26]
    exact tile0_apply v15 v18 kt ks (c0 0) (c1 0) r l
  · show (k0_pay30 (k0_pay27 (k0_pay57 v15) (k0_pay58 v18) kt ks) (c0 1) (c1 1)) (ix3 0 r l) = _
    pointwise [k0_pay30]
    exact tile1_apply v15 v18 kt ks (c0 1) (c1 1) r l
  · show (k0_pay35 (k0_pay32 (k0_pay22 (k0_pay57 v15) kt) (k0_pay23 (k0_pay58 v18) ks) (c0 2)) (k0_pay33 (k0_pay22 (k0_pay57 v15) kt) (k0_pay23 (k0_pay58 v18) ks)) (c1 2)) (ix3 0 r l) = _
    pointwise [k0_pay35]
    exact tile2_apply v15 v18 kt ks (c0 2) (c1 2) r l
  · show (k0_pay38 (k0_pay22 (k0_pay57 v15) kt) (k0_pay23 (k0_pay58 v18) ks) (c0 3) (c1 3)) (ix3 0 r l) = _
    pointwise [k0_pay38]
    exact tile3_apply v15 v18 kt ks (c0 3) (c1 3) r l
  · show (k0_pay42 (k0_pay39 (k0_pay22 (k0_pay57 v15) kt) (k0_pay23 (k0_pay58 v18) ks)) (c0 4) (c1 4)) (ix3 0 r l) = _
    pointwise [k0_pay42]
    exact tile4_apply v15 v18 kt ks (c0 4) (c1 4) r l
  · show (k0_pay47 (k0_pay44 (k0_pay22 (k0_pay57 v15) kt) (k0_pay23 (k0_pay58 v18) ks) (c0 5)) (k0_pay45 (k0_pay22 (k0_pay57 v15) kt) (k0_pay23 (k0_pay58 v18) ks)) (c1 5)) (ix3 0 r l) = _
    pointwise [k0_pay47]
    exact tile5_apply v15 v18 kt ks (c0 5) (c1 5) r l
  · show (k0_pay50 (k0_pay22 (k0_pay57 v15) kt) (k0_pay23 (k0_pay58 v18) ks) (c0 6) (c1 6)) (ix3 0 r l) = _
    pointwise [k0_pay50]
    exact tile6_apply v15 v18 kt ks (c0 6) (c1 6) r l
  · show (k0_pay60 (k0_pay51 (k0_pay22 (k0_pay57 v15) kt) (k0_pay23 (k0_pay58 v18) ks)) (c0 7) (c1 7)) (ix3 0 r l) = _
    pointwise [k0_pay60]
    exact tile7_apply v15 v18 kt ks (c0 7) (c1 7) r l

/-- The running maximum that a trip stores. -/
theorem newMax_apply (a : Vec Ideal S256x128 .f32) (r : Fin 256) (l : Fin 128) :
    (k0_pay61 (k0_pay49 (k0_pay22 (k0_pay57 v15) kt) (k0_pay23 (k0_pay58 v18) ks) (k0_pay41 (k0_pay37 (k0_pay22 (k0_pay57 v15) kt) (k0_pay23 (k0_pay58 v18) ks) (k0_pay29 (k0_pay25 (k0_pay57 v15) (k0_pay58 v18) kt ks a (c0 0) (c1 0)) (k0_pay27 (k0_pay57 v15) (k0_pay58 v18) kt ks) (c0 1) (c1 1)) (k0_pay32 (k0_pay22 (k0_pay57 v15) kt) (k0_pay23 (k0_pay58 v18) ks) (c0 2)) (k0_pay33 (k0_pay22 (k0_pay57 v15) kt) (k0_pay23 (k0_pay58 v18) ks)) (c1 2) (c0 3) (c1 3)) (k0_pay39 (k0_pay22 (k0_pay57 v15) kt) (k0_pay23 (k0_pay58 v18) ks)) (c0 4) (c1 4)) (k0_pay44 (k0_pay22 (k0_pay57 v15) kt) (k0_pay23 (k0_pay58 v18) ks) (c0 5)) (k0_pay45 (k0_pay22 (k0_pay57 v15) kt) (k0_pay23 (k0_pay58 v18) ks)) (c1 5) (c0 6) (c1 6)) (k0_pay51 (k0_pay22 (k0_pay57 v15) kt) (k0_pay23 (k0_pay58 v18) ks)) (c0 7) (c1 7)) (ix2 r l)
      = max (a (ix2 r l)) (Finset.univ.sup fun n => tile v15 v18 kt ks (c0 n) (c1 n) n r l) := by
  rw [← laneMax_apply]
  pointwise [k0_pay25, k0_pay29, k0_pay37, k0_pay41, k0_pay49, k0_pay61]
  rw [tile0_apply, tile1_apply, tile2_apply, tile3_apply, tile4_apply, tile5_apply, tile6_apply, tile7_apply]

end Stores

/-- A load through a unit-stride rectangle, at an element: the array at the element shifted by the offset. -/
theorem readAt_shift {S : Shape} {e : EltTy} (v : View sig .tc .vmem S e) (f : v.ty.Contents (Elt Ideal)) {off off' size : Fin S.rank → ℕ}
    (h : off = off') (inb : ∀ a : Fin S.rank, off a + size a ≤ S.size a) (x : (Rect.unit (s := S) off size inb).shape.Idx) (y : S.Idx)
    (hy : ∀ a, (y a).val = off' a + (x a).val) :
    v.readAt (Elt Ideal) (Rect.unit (s := S) off size inb).toLoadRect f x = v.read (Elt Ideal) f y := by
  subst h
  refine congrArg (v.read (Elt Ideal) f) (funext fun a => Fin.ext ?_)
  show off a + 1 * (x a).val = (y a).val
  rw [hy a, Nat.one_mul]

section Trip

variable (arg1 : Memref sig .tc .vmem S1x256x128 .i8) (harg1 : arg1.IsWhole) (arg2 : Memref sig .tc .vmem S1x64x128 .f32) (harg2 : arg2.IsWhole) (arg3 : Memref sig .tc .vmem S1x15x128x1024 .bf16) (harg3 : arg3.IsWhole) (arg4 : Memref sig .tc .vmem S1x15x1x128 .f32) (harg4 : arg4.IsWhole) (arg5 : Memref sig .tc .vmem S1x15x8x8x128 .f32) (harg5 : arg5.IsWhole) (arg6 : Memref sig .tc .vmem S1x15360x128 .fp8e4m3) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x256 .f32) (harg9 : arg9.IsWhole) (arg10 : Memref sig .tc .vmem S1x256x128 .bf16) (harg10 : arg10.IsWhole) (arg11 : Memref sig .tc .vmem S1x256x128 .f32) (harg11 : arg11.IsWhole) (arg12 : Memref sig .tc .vmem S1x1x256 .f32) (harg12 : arg12.IsWhole) (arg13 : Memref sig .tc .vmem S15x256x1024 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole)
  (𝒱 : Variants) (c : Dev nD) (bd : Option 𝒱.V) (i : grid0.Coords)  (v15 : Vec Ideal S1x256x128 .i8) (v18 : Vec Ideal S1x64x128 .f32) (v26 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg15 : BufTy.Contents (Elt Ideal) arg15.view.ty) (k : Fin k0_t1_loop.trips)
  (f13 : BufTy.Contents (Elt Ideal) arg13.view.ty) (f14 : BufTy.Contents (Elt Ideal) arg14.view.ty) (f16 : BufTy.Contents (Elt Ideal) arg16.view.ty) (f17 : BufTy.Contents (Elt Ideal) arg17.view.ty)

/-- The keys of the trip's chunk. -/
theorem readAt_kt (x : Fin 128) (j : Fin 1024) : (arg3.view.readAt (Elt Ideal) (Rect.unit (s := S1x15x128x1024) (k0_off10 k) S1x1x128x1024.size (k0_off10_inb k)).toLoadRect X_arg3) (ix4 0 0 x j) = arg3.view.read (Elt Ideal) X_arg3 (ix4 0 (chunk k) x j) := by
  refine readAt_shift arg3.view X_arg3 (k0_off10_eq k) (k0_off10_inb k) _ _ fun a => ?_
  fin_cases a
  · show 0 = 0 + 0; omega
  · show k.val = k.val + 0; omega
  · show x.val = 0 + x.val; omega
  · show j.val = 0 + j.val; omega

/-- The scales of the trip's chunk. -/
theorem readAt_ks (l : Fin 128) : (arg4.view.readAt (Elt Ideal) (Rect.unit (s := S1x15x1x128) (k0_off11 k) S1x1x1x128.size (k0_off11_inb k)).toLoadRect X_arg4) (ix4 0 0 0 l) = arg4.view.read (Elt Ideal) X_arg4 (ix4 0 (chunk k) 0 l) := by
  refine readAt_shift arg4.view X_arg4 (k0_off11_eq k) (k0_off11_inb k) _ _ fun a => ?_
  fin_cases a
  · show 0 = 0 + 0; omega
  · show k.val = k.val + 0; omega
  · show 0 = 0 + 0; omega
  · show l.val = 0 + l.val; omega

/-- The values of the trip's chunk. -/
theorem readAt_v (j : Fin 1024) (d : Fin 128) : (arg6.view.readAt (Elt Ideal) (Rect.unit (s := S1x15360x128) (k0_off9 k) S1x1024x128.size (k0_off9_inb k)).toLoadRect X_arg6) (ix3 0 j d)
    = arg6.view.read (Elt Ideal) X_arg6 (ix3 0 ⟨1024 * (chunk k).val + j.val, by omega⟩ d) := by
  refine readAt_shift arg6.view X_arg6 (k0_off9_eq k) (k0_off9_inb k) _ _ fun a => ?_
  fin_cases a
  · show 0 = 0 + 0; omega
  · show 1024 * k.val + j.val = 1024 * k.val + j.val; omega
  · show d.val = 0 + d.val; omega

/-- A tile of the trip is the scores against its chunk. -/
theorem tile_score (n : Fin 8) (r : Fin 256) (l : Fin 128) :
    tile v15 v18 (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (corr0 arg5.view X_arg5 i k n) (corr1 arg5.view X_arg5 i k n) n r l
      = score v15 v18 (arg3.view.read (Elt Ideal) X_arg3) (arg4.view.read (Elt Ideal) X_arg4) (arg5.view.read (Elt Ideal) X_arg5)
          (quarter i) (chunk k) n r l := by
  have hq := (quarter i).isLt
  unfold tile score
  refine congrArg₂ (· + ·) (congrArg₂ (· * ·) (Finset.sum_congr rfl fun x _ => congrArg₂ (· * ·) rfl (readAt_kt ..))
    (congrArg₂ (· * ·) rfl (readAt_ks ..))) ?_
  rw [corr0_apply, corr1_apply]
  split
  · exact congrArg (arg5.view.read (Elt Ideal) X_arg5) (congrArg (fun b => ix5 0 (chunk k) n b l) (Fin.ext (by show 2 * (quarter i).val = 2 * (quarter i).val + r.val / 128; omega)))
  · exact congrArg (arg5.view.read (Elt Ideal) X_arg5) (congrArg (fun b => ix5 0 (chunk k) n b l) (Fin.ext (by show 2 * (quarter i).val + 1 = 2 * (quarter i).val + r.val / 128; omega)))

set_option maxHeartbeats 1000000 in
/-- What a trip stores in the lane sums. -/
theorem trip_pieces16 : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 k f13 f14 f16 f17).2.2.1
    = [⟨Rect.unit ![0, 0] S256x128.size inb_S256x128_S256x128_0_0,
        k0_pay20 (k0_pay15 (k0_pay8 (arg16.view.readAt (Elt Ideal) (Rect.unit ![0, 0] S256x128.size inb_S256x128_S256x128_0_0).toLoadRect f16)
          (oldTiles arg13.view f13 k 0) (arg15.view.readAt (Elt Ideal) (Rect.unit ![0, 0] S256x128.size inb_S256x128_S256x128_0_0).toLoadRect X_arg15) (oldTiles arg13.view f13 k 1) (arg15.view.readAt (Elt Ideal) (Rect.unit ![0, 0] S256x128.size inb_S256x128_S256x128_0_0).toLoadRect X_arg15) (oldTiles arg13.view f13 k 2) (arg15.view.readAt (Elt Ideal) (Rect.unit ![0, 0] S256x128.size inb_S256x128_S256x128_0_0).toLoadRect X_arg15)) (oldTiles arg13.view f13 k 3) (arg15.view.readAt (Elt Ideal) (Rect.unit ![0, 0] S256x128.size inb_S256x128_S256x128_0_0).toLoadRect X_arg15) (oldTiles arg13.view f13 k 4) (arg15.view.readAt (Elt Ideal) (Rect.unit ![0, 0] S256x128.size inb_S256x128_S256x128_0_0).toLoadRect X_arg15) (oldTiles arg13.view f13 k 5) (arg15.view.readAt (Elt Ideal) (Rect.unit ![0, 0] S256x128.size inb_S256x128_S256x128_0_0).toLoadRect X_arg15)) (k0_pay17 (oldTiles arg13.view f13 k 6)) (arg15.view.readAt (Elt Ideal) (Rect.unit ![0, 0] S256x128.size inb_S256x128_S256x128_0_0).toLoadRect X_arg15) (oldTiles arg13.view f13 k 7) (arg15.view.readAt (Elt Ideal) (Rect.unit ![0, 0] S256x128.size inb_S256x128_S256x128_0_0).toLoadRect X_arg15)⟩] := by
  dsimp only [tripL_k0_t1]
  unfold trip_k0_t1
  rfl

set_option maxHeartbeats 1000000 in
/-- What a trip stores in the weighted sum. -/
theorem trip_pieces17 : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 k f13 f14 f16 f17).2.2.2
    = [⟨Rect.unit ![0, 0] S256x128.size inb_S256x128_S256x128_0_0,
        k0_pay21 (k0_pay4 (oldTiles arg13.view f13 k 0) (arg15.view.readAt (Elt Ideal) (Rect.unit ![0, 0] S256x128.size inb_S256x128_S256x128_0_0).toLoadRect X_arg15)) (k0_pay6 (oldTiles arg13.view f13 k 1) (arg15.view.readAt (Elt Ideal) (Rect.unit ![0, 0] S256x128.size inb_S256x128_S256x128_0_0).toLoadRect X_arg15)) (k0_pay9 (oldTiles arg13.view f13 k 2) (arg15.view.readAt (Elt Ideal) (Rect.unit ![0, 0] S256x128.size inb_S256x128_S256x128_0_0).toLoadRect X_arg15)) (k0_pay11 (oldTiles arg13.view f13 k 3) (arg15.view.readAt (Elt Ideal) (Rect.unit ![0, 0] S256x128.size inb_S256x128_S256x128_0_0).toLoadRect X_arg15)) (k0_pay13 (oldTiles arg13.view f13 k 4) (arg15.view.readAt (Elt Ideal) (Rect.unit ![0, 0] S256x128.size inb_S256x128_S256x128_0_0).toLoadRect X_arg15)) (k0_pay16 (oldTiles arg13.view f13 k 5) (arg15.view.readAt (Elt Ideal) (Rect.unit ![0, 0] S256x128.size inb_S256x128_S256x128_0_0).toLoadRect X_arg15)) (k0_pay17 (oldTiles arg13.view f13 k 6)) (arg15.view.readAt (Elt Ideal) (Rect.unit ![0, 0] S256x128.size inb_S256x128_S256x128_0_0).toLoadRect X_arg15) (oldTiles arg13.view f13 k 7) (arg15.view.readAt (Elt Ideal) (Rect.unit ![0, 0] S256x128.size inb_S256x128_S256x128_0_0).toLoadRect X_arg15) (arg6.view.readAt (Elt Ideal) (Rect.unit (s := S1x15360x128) (k0_off9 k) S1x1024x128.size (k0_off9_inb k)).toLoadRect X_arg6) (arg17.view.readAt (Elt Ideal) (Rect.unit ![0, 0] S256x128.size inb_S256x128_S256x128_0_0).toLoadRect f17)⟩] := by
  dsimp only [tripL_k0_t1]
  unfold trip_k0_t1
  rfl

set_option maxHeartbeats 1000000 in
/-- What a trip stores in the running maximum. -/
theorem trip_pieces14 : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 k f13 f14 f16 f17).2.1
    = [⟨Rect.unit ![0, 0] S256x128.size inb_S256x128_S256x128_0_0,
        k0_pay61 (k0_pay49 (k0_pay22 (k0_pay57 v15) (arg3.view.readAt (Elt Ideal) (Rect.unit (s := S1x15x128x1024) (k0_off10 k) S1x1x128x1024.size (k0_off10_inb k)).toLoadRect X_arg3)) (k0_pay23 (k0_pay58 v18) (arg4.view.readAt (Elt Ideal) (Rect.unit (s := S1x15x1x128) (k0_off11 k) S1x1x1x128.size (k0_off11_inb k)).toLoadRect X_arg4)) (k0_pay41 (k0_pay37 (k0_pay22 (k0_pay57 v15) (arg3.view.readAt (Elt Ideal) (Rect.unit (s := S1x15x128x1024) (k0_off10 k) S1x1x128x1024.size (k0_off10_inb k)).toLoadRect X_arg3)) (k0_pay23 (k0_pay58 v18) (arg4.view.readAt (Elt Ideal) (Rect.unit (s := S1x15x1x128) (k0_off11 k) S1x1x1x128.size (k0_off11_inb k)).toLoadRect X_arg4)) (k0_pay29 (k0_pay25 (k0_pay57 v15) (k0_pay58 v18) (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (arg14.view.readAt (Elt Ideal) (Rect.unit ![0, 0] S256x128.size inb_S256x128_S256x128_0_0).toLoadRect f14) (corr0 arg5.view X_arg5 i k 0) (corr1 arg5.view X_arg5 i k 0)) (k0_pay27 (k0_pay57 v15) (k0_pay58 v18) (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4)) (corr0 arg5.view X_arg5 i k 1) (corr1 arg5.view X_arg5 i k 1)) (k0_pay32 (k0_pay22 (k0_pay57 v15) (arg3.view.readAt (Elt Ideal) (Rect.unit (s := S1x15x128x1024) (k0_off10 k) S1x1x128x1024.size (k0_off10_inb k)).toLoadRect X_arg3)) (k0_pay23 (k0_pay58 v18) (arg4.view.readAt (Elt Ideal) (Rect.unit (s := S1x15x1x128) (k0_off11 k) S1x1x1x128.size (k0_off11_inb k)).toLoadRect X_arg4)) (corr0 arg5.view X_arg5 i k 2)) (k0_pay33 (k0_pay22 (k0_pay57 v15) (arg3.view.readAt (Elt Ideal) (Rect.unit (s := S1x15x128x1024) (k0_off10 k) S1x1x128x1024.size (k0_off10_inb k)).toLoadRect X_arg3)) (k0_pay23 (k0_pay58 v18) (arg4.view.readAt (Elt Ideal) (Rect.unit (s := S1x15x1x128) (k0_off11 k) S1x1x1x128.size (k0_off11_inb k)).toLoadRect X_arg4))) (corr1 arg5.view X_arg5 i k 2) (corr0 arg5.view X_arg5 i k 3) (corr1 arg5.view X_arg5 i k 3)) (k0_pay39 (k0_pay22 (k0_pay57 v15) (arg3.view.readAt (Elt Ideal) (Rect.unit (s := S1x15x128x1024) (k0_off10 k) S1x1x128x1024.size (k0_off10_inb k)).toLoadRect X_arg3)) (k0_pay23 (k0_pay58 v18) (arg4.view.readAt (Elt Ideal) (Rect.unit (s := S1x15x1x128) (k0_off11 k) S1x1x1x128.size (k0_off11_inb k)).toLoadRect X_arg4))) (corr0 arg5.view X_arg5 i k 4) (corr1 arg5.view X_arg5 i k 4)) (k0_pay44 (k0_pay22 (k0_pay57 v15) (arg3.view.readAt (Elt Ideal) (Rect.unit (s := S1x15x128x1024) (k0_off10 k) S1x1x128x1024.size (k0_off10_inb k)).toLoadRect X_arg3)) (k0_pay23 (k0_pay58 v18) (arg4.view.readAt (Elt Ideal) (Rect.unit (s := S1x15x1x128) (k0_off11 k) S1x1x1x128.size (k0_off11_inb k)).toLoadRect X_arg4)) (corr0 arg5.view X_arg5 i k 5)) (k0_pay45 (k0_pay22 (k0_pay57 v15) (arg3.view.readAt (Elt Ideal) (Rect.unit (s := S1x15x128x1024) (k0_off10 k) S1x1x128x1024.size (k0_off10_inb k)).toLoadRect X_arg3)) (k0_pay23 (k0_pay58 v18) (arg4.view.readAt (Elt Ideal) (Rect.unit (s := S1x15x1x128) (k0_off11 k) S1x1x1x128.size (k0_off11_inb k)).toLoadRect X_arg4))) (corr1 arg5.view X_arg5 i k 5) (corr0 arg5.view X_arg5 i k 6) (corr1 arg5.view X_arg5 i k 6)) (k0_pay51 (k0_pay22 (k0_pay57 v15) (arg3.view.readAt (Elt Ideal) (Rect.unit (s := S1x15x128x1024) (k0_off10 k) S1x1x128x1024.size (k0_off10_inb k)).toLoadRect X_arg3)) (k0_pay23 (k0_pay58 v18) (arg4.view.readAt (Elt Ideal) (Rect.unit (s := S1x15x1x128) (k0_off11 k) S1x1x1x128.size (k0_off11_inb k)).toLoadRect X_arg4))) (corr0 arg5.view X_arg5 i k 7) (corr1 arg5.view X_arg5 i k 7)⟩] := by
  dsimp only [tripL_k0_t1]
  unfold trip_k0_t1
  rfl

set_option maxHeartbeats 1000000 in
/-- What a trip stores in the score array. -/
theorem trip_pieces13 : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 k f13 f14 f16 f17).1
    = [⟨Rect.unit (s := S15x256x1024) (k0_off8 k) S1x256x128.size (k0_off8_inb k), newTiles v15 v18 (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (corr0 arg5.view X_arg5 i k) (corr1 arg5.view X_arg5 i k) 7⟩,
      ⟨Rect.unit (s := S15x256x1024) (k0_off7 k) S1x256x128.size (k0_off7_inb k), newTiles v15 v18 (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (corr0 arg5.view X_arg5 i k) (corr1 arg5.view X_arg5 i k) 6⟩,
      ⟨Rect.unit (s := S15x256x1024) (k0_off6 k) S1x256x128.size (k0_off6_inb k), newTiles v15 v18 (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (corr0 arg5.view X_arg5 i k) (corr1 arg5.view X_arg5 i k) 5⟩,
      ⟨Rect.unit (s := S15x256x1024) (k0_off5 k) S1x256x128.size (k0_off5_inb k), newTiles v15 v18 (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (corr0 arg5.view X_arg5 i k) (corr1 arg5.view X_arg5 i k) 4⟩,
      ⟨Rect.unit (s := S15x256x1024) (k0_off4 k) S1x256x128.size (k0_off4_inb k), newTiles v15 v18 (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (corr0 arg5.view X_arg5 i k) (corr1 arg5.view X_arg5 i k) 3⟩,
      ⟨Rect.unit (s := S15x256x1024) (k0_off3 k) S1x256x128.size (k0_off3_inb k), newTiles v15 v18 (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (corr0 arg5.view X_arg5 i k) (corr1 arg5.view X_arg5 i k) 2⟩,
      ⟨Rect.unit (s := S15x256x1024) (k0_off2 k) S1x256x128.size (k0_off2_inb k), newTiles v15 v18 (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (corr0 arg5.view X_arg5 i k) (corr1 arg5.view X_arg5 i k) 1⟩,
      ⟨Rect.unit (s := S15x256x1024) (k0_off1 k) S1x256x128.size (k0_off1_inb k), newTiles v15 v18 (arg3.view.readAt (Elt Ideal) (Rect.unit (s := S1x15x128x1024) (k0_off10 k) S1x1x128x1024.size (k0_off10_inb k)).toLoadRect X_arg3) (arg4.view.readAt (Elt Ideal) (Rect.unit (s := S1x15x1x128) (k0_off11 k) S1x1x1x128.size (k0_off11_inb k)).toLoadRect X_arg4) (corr0 arg5.view X_arg5 i k) (corr1 arg5.view X_arg5 i k) 0⟩] := by
  dsimp only [tripL_k0_t1]
  unfold trip_k0_t1
  rfl

/-- The lane sums after a trip. -/
theorem trip_laneSum (r : Fin 256) (l : Fin 128) :
    arg16.view.read (Elt Ideal) (arg16.view.writes (Elt Ideal) f16 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 k f13 f14 f16 f17).2.2.1) (ix2 r l)
      = arg16.view.read (Elt Ideal) f16 (ix2 r l) + ∑ n : Fin 8, Ideal.exp2 (arg13.view.read (Elt Ideal) f13 (ix3 (chunk k) r ⟨128 * n.val + l.val, by omega⟩)
          - arg15.view.read (Elt Ideal) X_arg15 (ix2 r l)) := by
  rw [trip_pieces16]
  refine (congrFun (View.read_writes_full arg16.view f16 _ _ _) _).trans ?_
  refine (laneSum_apply (oldTiles arg13.view f13 k) _ _ r l).trans ?_
  rw [View.readAt_full, View.readAt_full]
  simp only [oldTiles_apply]

/-- The weighted sum after a trip. -/
theorem trip_weighted (r : Fin 256) (d : Fin 128) :
    arg17.view.read (Elt Ideal) (arg17.view.writes (Elt Ideal) f17 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 k f13 f14 f16 f17).2.2.2) (ix2 r d)
      = arg17.view.read (Elt Ideal) f17 (ix2 r d) + ∑ n : Fin 8, ∑ l : Fin 128,
          Row.clip (Ideal.exp2 (arg13.view.read (Elt Ideal) f13 (ix3 (chunk k) r ⟨128 * n.val + l.val, by omega⟩)
            - arg15.view.read (Elt Ideal) X_arg15 (ix2 r l)))
          * arg6.view.read (Elt Ideal) X_arg6 (ix3 0 ⟨1024 * (chunk k).val + (128 * n.val + l.val), by omega⟩ d) := by
  rw [trip_pieces17]
  refine (congrFun (View.read_writes_full arg17.view f17 _ _ _) _).trans ?_
  refine (weighted_apply (oldTiles arg13.view f13 k) _ _ _ r d).trans ?_
  rw [View.readAt_full, View.readAt_full]
  refine congrArg₂ (· + ·) rfl (Finset.sum_congr rfl fun n _ => Finset.sum_congr rfl fun l _ => ?_)
  refine congrArg₂ (· * ·) ?_ (readAt_v ..)
  rw [oldTiles_apply]

/-- The running maximum after a trip. -/
theorem trip_max (r : Fin 256) (l : Fin 128) :
    arg14.view.read (Elt Ideal) (arg14.view.writes (Elt Ideal) f14 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 k f13 f14 f16 f17).2.1) (ix2 r l)
      = max (arg14.view.read (Elt Ideal) f14 (ix2 r l)) (Finset.univ.sup fun n : Fin 8 =>
          score v15 v18 (arg3.view.read (Elt Ideal) X_arg3) (arg4.view.read (Elt Ideal) X_arg4) (arg5.view.read (Elt Ideal) X_arg5)
            (quarter i) (chunk k) n r l) := by
  rw [trip_pieces14]
  refine (congrFun (View.read_writes_full arg14.view f14 _ _ _) _).trans ?_
  refine (newMax_apply v15 v18 _ _ (corr0 arg5.view X_arg5 i k) (corr1 arg5.view X_arg5 i k) _ r l).trans ?_
  rw [View.readAt_full]
  exact congrArg₂ max rfl (Finset.sup_congr rfl fun n _ => tile_score ..)

/-- The chunk of the score array that a trip writes. -/
theorem trip_scores (n : Fin 8) (r : Fin 256) (l : Fin 128) :
    arg13.view.read (Elt Ideal) (arg13.view.writes (Elt Ideal) f13 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 k f13 f14 f16 f17).1) (ix3 (chunk k) r ⟨128 * n.val + l.val, by omega⟩)
      = score v15 v18 (arg3.view.read (Elt Ideal) X_arg3) (arg4.view.read (Elt Ideal) X_arg4) (arg5.view.read (Elt Ideal) X_arg5)
            (quarter i) (chunk k) n r l := by
  rw [trip_pieces13, ← tile_score, ← newTiles_apply (c0 := corr0 arg5.view X_arg5 i k) (c1 := corr1 arg5.view X_arg5 i k)]
  have hl := l.isLt
  fin_cases n
  · refine (View.read_writes_cons_unit_of_not_mem arg13.view f13 (k0_off8_inb k) _ _ _ (k0_off8_eq k) (2 : Fin 3) (Or.inl (by show 128 * 0 + l.val < 128 * 7; omega))).trans ?_
    refine (View.read_writes_cons_unit_of_not_mem arg13.view f13 (k0_off7_inb k) _ _ _ (k0_off7_eq k) (2 : Fin 3) (Or.inl (by show 128 * 0 + l.val < 128 * 6; omega))).trans ?_
    refine (View.read_writes_cons_unit_of_not_mem arg13.view f13 (k0_off6_inb k) _ _ _ (k0_off6_eq k) (2 : Fin 3) (Or.inl (by show 128 * 0 + l.val < 128 * 5; omega))).trans ?_
    refine (View.read_writes_cons_unit_of_not_mem arg13.view f13 (k0_off5_inb k) _ _ _ (k0_off5_eq k) (2 : Fin 3) (Or.inl (by show 128 * 0 + l.val < 128 * 4; omega))).trans ?_
    refine (View.read_writes_cons_unit_of_not_mem arg13.view f13 (k0_off4_inb k) _ _ _ (k0_off4_eq k) (2 : Fin 3) (Or.inl (by show 128 * 0 + l.val < 128 * 3; omega))).trans ?_
    refine (View.read_writes_cons_unit_of_not_mem arg13.view f13 (k0_off3_inb k) _ _ _ (k0_off3_eq k) (2 : Fin 3) (Or.inl (by show 128 * 0 + l.val < 128 * 2; omega))).trans ?_
    refine (View.read_writes_cons_unit_of_not_mem arg13.view f13 (k0_off2_inb k) _ _ _ (k0_off2_eq k) (2 : Fin 3) (Or.inl (by show 128 * 0 + l.val < 128 * 1; omega))).trans ?_
    exact View.read_writes_cons_unit_of_mem arg13.view f13 (k0_off1_inb k) _ _ _ (ix3 0 r l) (k0_off1_eq k) (fun a => by
        fin_cases a
        · show k.val = k.val + 0; omega
        · show r.val = 0 + r.val; omega
        · show 128 * 0 + l.val = 128 * 0 + l.val; omega)
  · refine (View.read_writes_cons_unit_of_not_mem arg13.view f13 (k0_off8_inb k) _ _ _ (k0_off8_eq k) (2 : Fin 3) (Or.inl (by show 128 * 1 + l.val < 128 * 7; omega))).trans ?_
    refine (View.read_writes_cons_unit_of_not_mem arg13.view f13 (k0_off7_inb k) _ _ _ (k0_off7_eq k) (2 : Fin 3) (Or.inl (by show 128 * 1 + l.val < 128 * 6; omega))).trans ?_
    refine (View.read_writes_cons_unit_of_not_mem arg13.view f13 (k0_off6_inb k) _ _ _ (k0_off6_eq k) (2 : Fin 3) (Or.inl (by show 128 * 1 + l.val < 128 * 5; omega))).trans ?_
    refine (View.read_writes_cons_unit_of_not_mem arg13.view f13 (k0_off5_inb k) _ _ _ (k0_off5_eq k) (2 : Fin 3) (Or.inl (by show 128 * 1 + l.val < 128 * 4; omega))).trans ?_
    refine (View.read_writes_cons_unit_of_not_mem arg13.view f13 (k0_off4_inb k) _ _ _ (k0_off4_eq k) (2 : Fin 3) (Or.inl (by show 128 * 1 + l.val < 128 * 3; omega))).trans ?_
    refine (View.read_writes_cons_unit_of_not_mem arg13.view f13 (k0_off3_inb k) _ _ _ (k0_off3_eq k) (2 : Fin 3) (Or.inl (by show 128 * 1 + l.val < 128 * 2; omega))).trans ?_
    exact View.read_writes_cons_unit_of_mem arg13.view f13 (k0_off2_inb k) _ _ _ (ix3 0 r l) (k0_off2_eq k) (fun a => by
        fin_cases a
        · show k.val = k.val + 0; omega
        · show r.val = 0 + r.val; omega
        · show 128 * 1 + l.val = 128 * 1 + l.val; omega)
  · refine (View.read_writes_cons_unit_of_not_mem arg13.view f13 (k0_off8_inb k) _ _ _ (k0_off8_eq k) (2 : Fin 3) (Or.inl (by show 128 * 2 + l.val < 128 * 7; omega))).trans ?_
    refine (View.read_writes_cons_unit_of_not_mem arg13.view f13 (k0_off7_inb k) _ _ _ (k0_off7_eq k) (2 : Fin 3) (Or.inl (by show 128 * 2 + l.val < 128 * 6; omega))).trans ?_
    refine (View.read_writes_cons_unit_of_not_mem arg13.view f13 (k0_off6_inb k) _ _ _ (k0_off6_eq k) (2 : Fin 3) (Or.inl (by show 128 * 2 + l.val < 128 * 5; omega))).trans ?_
    refine (View.read_writes_cons_unit_of_not_mem arg13.view f13 (k0_off5_inb k) _ _ _ (k0_off5_eq k) (2 : Fin 3) (Or.inl (by show 128 * 2 + l.val < 128 * 4; omega))).trans ?_
    refine (View.read_writes_cons_unit_of_not_mem arg13.view f13 (k0_off4_inb k) _ _ _ (k0_off4_eq k) (2 : Fin 3) (Or.inl (by show 128 * 2 + l.val < 128 * 3; omega))).trans ?_
    exact View.read_writes_cons_unit_of_mem arg13.view f13 (k0_off3_inb k) _ _ _ (ix3 0 r l) (k0_off3_eq k) (fun a => by
        fin_cases a
        · show k.val = k.val + 0; omega
        · show r.val = 0 + r.val; omega
        · show 128 * 2 + l.val = 128 * 2 + l.val; omega)
  · refine (View.read_writes_cons_unit_of_not_mem arg13.view f13 (k0_off8_inb k) _ _ _ (k0_off8_eq k) (2 : Fin 3) (Or.inl (by show 128 * 3 + l.val < 128 * 7; omega))).trans ?_
    refine (View.read_writes_cons_unit_of_not_mem arg13.view f13 (k0_off7_inb k) _ _ _ (k0_off7_eq k) (2 : Fin 3) (Or.inl (by show 128 * 3 + l.val < 128 * 6; omega))).trans ?_
    refine (View.read_writes_cons_unit_of_not_mem arg13.view f13 (k0_off6_inb k) _ _ _ (k0_off6_eq k) (2 : Fin 3) (Or.inl (by show 128 * 3 + l.val < 128 * 5; omega))).trans ?_
    refine (View.read_writes_cons_unit_of_not_mem arg13.view f13 (k0_off5_inb k) _ _ _ (k0_off5_eq k) (2 : Fin 3) (Or.inl (by show 128 * 3 + l.val < 128 * 4; omega))).trans ?_
    exact View.read_writes_cons_unit_of_mem arg13.view f13 (k0_off4_inb k) _ _ _ (ix3 0 r l) (k0_off4_eq k) (fun a => by
        fin_cases a
        · show k.val = k.val + 0; omega
        · show r.val = 0 + r.val; omega
        · show 128 * 3 + l.val = 128 * 3 + l.val; omega)
  · refine (View.read_writes_cons_unit_of_not_mem arg13.view f13 (k0_off8_inb k) _ _ _ (k0_off8_eq k) (2 : Fin 3) (Or.inl (by show 128 * 4 + l.val < 128 * 7; omega))).trans ?_
    refine (View.read_writes_cons_unit_of_not_mem arg13.view f13 (k0_off7_inb k) _ _ _ (k0_off7_eq k) (2 : Fin 3) (Or.inl (by show 128 * 4 + l.val < 128 * 6; omega))).trans ?_
    refine (View.read_writes_cons_unit_of_not_mem arg13.view f13 (k0_off6_inb k) _ _ _ (k0_off6_eq k) (2 : Fin 3) (Or.inl (by show 128 * 4 + l.val < 128 * 5; omega))).trans ?_
    exact View.read_writes_cons_unit_of_mem arg13.view f13 (k0_off5_inb k) _ _ _ (ix3 0 r l) (k0_off5_eq k) (fun a => by
        fin_cases a
        · show k.val = k.val + 0; omega
        · show r.val = 0 + r.val; omega
        · show 128 * 4 + l.val = 128 * 4 + l.val; omega)
  · refine (View.read_writes_cons_unit_of_not_mem arg13.view f13 (k0_off8_inb k) _ _ _ (k0_off8_eq k) (2 : Fin 3) (Or.inl (by show 128 * 5 + l.val < 128 * 7; omega))).trans ?_
    refine (View.read_writes_cons_unit_of_not_mem arg13.view f13 (k0_off7_inb k) _ _ _ (k0_off7_eq k) (2 : Fin 3) (Or.inl (by show 128 * 5 + l.val < 128 * 6; omega))).trans ?_
    exact View.read_writes_cons_unit_of_mem arg13.view f13 (k0_off6_inb k) _ _ _ (ix3 0 r l) (k0_off6_eq k) (fun a => by
        fin_cases a
        · show k.val = k.val + 0; omega
        · show r.val = 0 + r.val; omega
        · show 128 * 5 + l.val = 128 * 5 + l.val; omega)
  · refine (View.read_writes_cons_unit_of_not_mem arg13.view f13 (k0_off8_inb k) _ _ _ (k0_off8_eq k) (2 : Fin 3) (Or.inl (by show 128 * 6 + l.val < 128 * 7; omega))).trans ?_
    exact View.read_writes_cons_unit_of_mem arg13.view f13 (k0_off7_inb k) _ _ _ (ix3 0 r l) (k0_off7_eq k) (fun a => by
        fin_cases a
        · show k.val = k.val + 0; omega
        · show r.val = 0 + r.val; omega
        · show 128 * 6 + l.val = 128 * 6 + l.val; omega)
  · exact View.read_writes_cons_unit_of_mem arg13.view f13 (k0_off8_inb k) _ _ _ (ix3 0 r l) (k0_off8_eq k) (fun a => by
        fin_cases a
        · show k.val = k.val + 0; omega
        · show r.val = 0 + r.val; omega
        · show 128 * 7 + l.val = 128 * 7 + l.val; omega)

/-- The chunks of the score array that a trip leaves. -/
theorem trip_scores_of_ne (a : Fin 15) (ha : a ≠ chunk k) (r : Fin 256) (j : Fin 1024) :
    arg13.view.read (Elt Ideal) (arg13.view.writes (Elt Ideal) f13 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 k f13 f14 f16 f17).1) (ix3 a r j)
      = arg13.view.read (Elt Ideal) f13 (ix3 a r j) := by
  have ha' : a.val ≠ k.val := fun h => ha (Fin.ext h)
  rw [trip_pieces13]
  refine (View.read_writes_cons_unit_of_not_mem arg13.view f13 (k0_off8_inb k) _ _ _ (k0_off8_eq k) (0 : Fin 3) (by show a.val < k.val ∨ k.val + 1 ≤ a.val; omega)).trans ?_
  refine (View.read_writes_cons_unit_of_not_mem arg13.view f13 (k0_off7_inb k) _ _ _ (k0_off7_eq k) (0 : Fin 3) (by show a.val < k.val ∨ k.val + 1 ≤ a.val; omega)).trans ?_
  refine (View.read_writes_cons_unit_of_not_mem arg13.view f13 (k0_off6_inb k) _ _ _ (k0_off6_eq k) (0 : Fin 3) (by show a.val < k.val ∨ k.val + 1 ≤ a.val; omega)).trans ?_
  refine (View.read_writes_cons_unit_of_not_mem arg13.view f13 (k0_off5_inb k) _ _ _ (k0_off5_eq k) (0 : Fin 3) (by show a.val < k.val ∨ k.val + 1 ≤ a.val; omega)).trans ?_
  refine (View.read_writes_cons_unit_of_not_mem arg13.view f13 (k0_off4_inb k) _ _ _ (k0_off4_eq k) (0 : Fin 3) (by show a.val < k.val ∨ k.val + 1 ≤ a.val; omega)).trans ?_
  refine (View.read_writes_cons_unit_of_not_mem arg13.view f13 (k0_off3_inb k) _ _ _ (k0_off3_eq k) (0 : Fin 3) (by show a.val < k.val ∨ k.val + 1 ≤ a.val; omega)).trans ?_
  refine (View.read_writes_cons_unit_of_not_mem arg13.view f13 (k0_off2_inb k) _ _ _ (k0_off2_eq k) (0 : Fin 3) (by show a.val < k.val ∨ k.val + 1 ≤ a.val; omega)).trans ?_
  refine (View.read_writes_cons_unit_of_not_mem arg13.view f13 (k0_off1_inb k) _ _ _ (k0_off1_eq k) (0 : Fin 3) (by show a.val < k.val ∨ k.val + 1 ≤ a.val; omega)).trans ?_
  rfl

end Trip

end Cert.KernelIdeal.Att

end
-- ==== Proof.LoopValue.lean ====
/-
  The kernel's loop as a whole: after its fifteen trips the score array holds the scores of the block at hand, the running
  maximum has taken them all in, and the lane sums and the weighted sum have taken in the weights of the scores that the
  array held before the loop.
-/
module

public import proofs.«01_k».proof.Proof.Trip

@[expose] public section

set_option maxRecDepth 16384

noncomputable section

namespace Cert.KernelIdeal.Att

open Cert.KernelIdeal Cert.KernelIdeal.Gen Idealize.ShloMosaic Idealize.ShloMosaic.TcCoe Idealize.SL.Sem

/-- A quantity to which every step adds its own term. -/
theorem rec_sum (n : ℕ) (g : ℕ → EReal) (f : Fin n → EReal) (h : ∀ k : Fin n, g (k.val + 1) = g k.val + f k) :
    g n = g 0 + ∑ k, f k := by
  induction n with
  | zero => simp
  | succ n ih =>
    rw [Fin.sum_univ_castSucc, ← add_assoc, ← ih (fun k => f k.castSucc) fun k => h k.castSucc]
    exact h (Fin.last n)

/-- A quantity of which every step takes the maximum with its own term. -/
theorem rec_sup (n : ℕ) (g : ℕ → EReal) (f : Fin n → EReal) (h : ∀ k : Fin n, g (k.val + 1) = max (g k.val) (f k)) :
    g n = max (g 0) (Finset.univ.sup f) := by
  induction n with
  | zero => simp
  | succ n ih =>
    rw [Fin.univ_castSuccEmb, Finset.sup_cons, Finset.sup_map, max_comm (f _), ← max_assoc]
    refine (h (Fin.last n)).trans (congrArg (max · _) ?_)
    exact ih (fun k => f k.castSucc) fun k => h k.castSucc

theorem trips_eq : k0_t1_loop.trips = 15 := by decide +kernel

section Loop

variable (arg1 : Memref sig .tc .vmem S1x256x128 .i8) (harg1 : arg1.IsWhole) (arg2 : Memref sig .tc .vmem S1x64x128 .f32) (harg2 : arg2.IsWhole) (arg3 : Memref sig .tc .vmem S1x15x128x1024 .bf16) (harg3 : arg3.IsWhole) (arg4 : Memref sig .tc .vmem S1x15x1x128 .f32) (harg4 : arg4.IsWhole) (arg5 : Memref sig .tc .vmem S1x15x8x8x128 .f32) (harg5 : arg5.IsWhole) (arg6 : Memref sig .tc .vmem S1x15360x128 .fp8e4m3) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x256 .f32) (harg9 : arg9.IsWhole) (arg10 : Memref sig .tc .vmem S1x256x128 .bf16) (harg10 : arg10.IsWhole) (arg11 : Memref sig .tc .vmem S1x256x128 .f32) (harg11 : arg11.IsWhole) (arg12 : Memref sig .tc .vmem S1x1x256 .f32) (harg12 : arg12.IsWhole) (arg13 : Memref sig .tc .vmem S15x256x1024 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole)
  (𝒱 : Variants) (c : Dev nD) (bd : Option 𝒱.V) (i : grid0.Coords)  (v15 : Vec Ideal S1x256x128 .i8) (v18 : Vec Ideal S1x64x128 .f32) (v26 : BitVec 32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg15 : BufTy.Contents (Elt Ideal) arg15.view.ty)
  (G13 : BufTy.Contents (Elt Ideal) arg13.view.ty) (G14 : BufTy.Contents (Elt Ideal) arg14.view.ty) (G16 : BufTy.Contents (Elt Ideal) arg16.view.ty) (G17 : BufTy.Contents (Elt Ideal) arg17.view.ty)

/-- The chunks that are still to come hold what they held before the loop. -/
theorem loop_scores_later (k : ℕ) (hk : k ≤ 15) (a : Fin 15) (ha : k ≤ a.val) (r : Fin 256) (j : Fin 1024) :
    arg13.view.read (Elt Ideal) (arg13.view.writes (Elt Ideal) G13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 k).1) (ix3 a r j) = arg13.view.read (Elt Ideal) G13 (ix3 a r j) := by
  induction k with
  | zero => rfl
  | succ k ih =>
    have hlt : k < k0_t1_loop.trips := lt_of_lt_of_eq (by omega) trips_eq.symm
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 ⟨k, hlt⟩
    refine (congrArg (fun L => arg13.view.read (Elt Ideal) (arg13.view.writes (Elt Ideal) G13 L) (ix3 a r j)) (congrArg (fun p => p.1) e)).trans ?_
    refine (congrArg (fun L => arg13.view.read (Elt Ideal) L (ix3 a r j)) (View.writes_append ..)).trans ?_
    refine (trip_scores_of_ne (a := a) (ha := fun h => ?_) ..).trans (ih (by omega) (by omega))
    have : a.val = k := congrArg Fin.val h
    omega

/-- The chunks that are done hold their scores. -/
theorem loop_scores (k : ℕ) (hk : k ≤ 15) (a : Fin 15) (ha : a.val < k) (n : Fin 8) (r : Fin 256) (l : Fin 128) :
    arg13.view.read (Elt Ideal) (arg13.view.writes (Elt Ideal) G13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 k).1) (ix3 a r ⟨128 * n.val + l.val, by omega⟩) = score v15 v18 (arg3.view.read (Elt Ideal) X_arg3) (arg4.view.read (Elt Ideal) X_arg4) (arg5.view.read (Elt Ideal) X_arg5) (quarter i) a n r l := by
  induction k with
  | zero => omega
  | succ k ih =>
    have hlt : k < k0_t1_loop.trips := lt_of_lt_of_eq (by omega) trips_eq.symm
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 ⟨k, hlt⟩
    refine (congrArg (fun L => arg13.view.read (Elt Ideal) (arg13.view.writes (Elt Ideal) G13 L) _) (congrArg (fun p => p.1) e)).trans ?_
    refine (congrArg (fun L => arg13.view.read (Elt Ideal) L _) (View.writes_append ..)).trans ?_
    by_cases h : a.val = k
    · obtain rfl : a = chunk ⟨k, hlt⟩ := Fin.ext h
      exact trip_scores ..
    · refine (trip_scores_of_ne (a := a) (ha := fun h' => h (congrArg Fin.val h')) ..).trans (ih (by omega) (by omega))

/-- The lane sums after the loop. -/
theorem loop_laneSum (r : Fin 256) (l : Fin 128) :
    arg16.view.read (Elt Ideal) (arg16.view.writes (Elt Ideal) G16 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 k0_t1_loop.trips).2.2.1) (ix2 r l) = arg16.view.read (Elt Ideal) G16 (ix2 r l)
      + ∑ a : Fin 15, ∑ n : Fin 8, Ideal.exp2 (arg13.view.read (Elt Ideal) G13 (ix3 a r ⟨128 * n.val + l.val, by omega⟩) - arg15.view.read (Elt Ideal) X_arg15 (ix2 r l)) := by
  rw [trips_eq]
  refine rec_sum 15 (fun k => arg16.view.read (Elt Ideal) (arg16.view.writes (Elt Ideal) G16 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 k).2.2.1) (ix2 r l)) _ fun k => ?_
  have hlt : k.val < k0_t1_loop.trips := lt_of_lt_of_eq k.isLt trips_eq.symm
  have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 ⟨k.val, hlt⟩
  refine (congrArg (fun L => arg16.view.read (Elt Ideal) (arg16.view.writes (Elt Ideal) G16 L) _) (congrArg (fun p => p.2.2.1) e)).trans ?_
  refine (congrArg (fun L => arg16.view.read (Elt Ideal) L _) (View.writes_append ..)).trans ?_
  refine (trip_laneSum ..).trans (congrArg₂ (· + ·) rfl (Finset.sum_congr rfl fun n _ => ?_))
  exact congrArg (fun x => Ideal.exp2 (x - _)) (loop_scores_later (k := k.val) (hk := by omega) (a := k) (ha := le_refl _) ..)

/-- The weighted sum after the loop. -/
theorem loop_weighted (r : Fin 256) (d : Fin 128) :
    arg17.view.read (Elt Ideal) (arg17.view.writes (Elt Ideal) G17 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 k0_t1_loop.trips).2.2.2) (ix2 r d) = arg17.view.read (Elt Ideal) G17 (ix2 r d)
      + ∑ a : Fin 15, ∑ n : Fin 8, ∑ l : Fin 128,
          Row.clip (Ideal.exp2 (arg13.view.read (Elt Ideal) G13 (ix3 a r ⟨128 * n.val + l.val, by omega⟩) - arg15.view.read (Elt Ideal) X_arg15 (ix2 r l)))
          * arg6.view.read (Elt Ideal) X_arg6 (ix3 0 ⟨1024 * a.val + (128 * n.val + l.val), by omega⟩ d) := by
  rw [trips_eq]
  refine rec_sum 15 (fun k => arg17.view.read (Elt Ideal) (arg17.view.writes (Elt Ideal) G17 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 k).2.2.2) (ix2 r d)) _ fun k => ?_
  have hlt : k.val < k0_t1_loop.trips := lt_of_lt_of_eq k.isLt trips_eq.symm
  have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 ⟨k.val, hlt⟩
  refine (congrArg (fun L => arg17.view.read (Elt Ideal) (arg17.view.writes (Elt Ideal) G17 L) _) (congrArg (fun p => p.2.2.2) e)).trans ?_
  refine (congrArg (fun L => arg17.view.read (Elt Ideal) L _) (View.writes_append ..)).trans ?_
  refine (trip_weighted ..).trans (congrArg₂ (· + ·) rfl (Finset.sum_congr rfl fun n _ => Finset.sum_congr rfl fun l _ => ?_))
  refine congrArg (fun x => Row.clip (Ideal.exp2 (x - _)) * _) (loop_scores_later (k := k.val) (hk := by omega) (a := k) (ha := le_refl _) ..)

/-- The running maximum after the loop. -/
theorem loop_max (r : Fin 256) (l : Fin 128) :
    arg14.view.read (Elt Ideal) (arg14.view.writes (Elt Ideal) G14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 k0_t1_loop.trips).2.1) (ix2 r l) = max (arg14.view.read (Elt Ideal) G14 (ix2 r l))
      (Finset.univ.sup fun a : Fin 15 => Finset.univ.sup fun n : Fin 8 => score v15 v18 (arg3.view.read (Elt Ideal) X_arg3) (arg4.view.read (Elt Ideal) X_arg4) (arg5.view.read (Elt Ideal) X_arg5) (quarter i) a n r l) := by
  rw [trips_eq]
  refine rec_sup 15 (fun k => arg14.view.read (Elt Ideal) (arg14.view.writes (Elt Ideal) G14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 k).2.1) (ix2 r l)) _ fun k => ?_
  have hlt : k.val < k0_t1_loop.trips := lt_of_lt_of_eq k.isLt trips_eq.symm
  have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v18 v26 X_arg3 X_arg4 X_arg5 X_arg6 X_arg15 G13 G14 G16 G17 ⟨k.val, hlt⟩
  refine (congrArg (fun L => arg14.view.read (Elt Ideal) (arg14.view.writes (Elt Ideal) G14 L) _) (congrArg (fun p => p.2.1) e)).trans ?_
  refine (congrArg (fun L => arg14.view.read (Elt Ideal) L _) (View.writes_append ..)).trans ?_
  exact trip_max ..

end Loop

end Cert.KernelIdeal.Att

end
-- ==== Proof.Block.lean ====
/-
  What one grid point computes: the three output blocks, the score array and the row shifts that it leaves, each as a function
  of the point's input blocks and of the score array and the shifts that it finds.
-/
module

public import proofs.«01_k».proof.Proof.LoopValue
public import proofs.«01_k».proof.Proof.Gen.KernelIdeal.Frame

@[expose] public section

set_option maxRecDepth 16384

noncomputable section

namespace Cert.KernelIdeal.Att

open Cert.KernelIdeal Cert.KernelIdeal.Gen Idealize.ShloMosaic Idealize.ShloMosaic.TcCoe Idealize.SL.Sem

/-- The value that the running maximum starts from. -/
def low : EReal := Ideal.ofBits .f32 0xFF61B1E6#32

/-- The lane's part of a row's sum of weights. -/
def blockDen (s0 : Vec Ideal S15x256x1024 .f32) (m : Vec Ideal S256x128 .f32) (r : Fin 256) (l : Fin 128) : EReal :=
  ∑ a : Fin 15, ∑ n : Fin 8, Ideal.exp2 (s0 (ix3 a r ⟨128 * n.val + l.val, by omega⟩) - m (ix2 r l))

/-- A row's weighted sum of the values in one column. -/
def blockAcc (s0 : Vec Ideal S15x256x1024 .f32) (m : Vec Ideal S256x128 .f32) (v : Vec Ideal S1x15360x128 .fp8e4m3)
    (r : Fin 256) (d : Fin 128) : EReal :=
  ∑ a : Fin 15, ∑ n : Fin 8, ∑ l : Fin 128, Row.clip (Ideal.exp2 (s0 (ix3 a r ⟨128 * n.val + l.val, by omega⟩) - m (ix2 r l)))
    * v (ix3 0 ⟨1024 * a.val + (128 * n.val + l.val), by omega⟩ d)

/-- A row's maximum over the lane's keys. -/
def blockTop (q : Vec Ideal S1x256x128 .i8) (qw : Vec Ideal S1x64x128 .f32) (kk : Vec Ideal S1x15x128x1024 .bf16)
    (ks : Vec Ideal S1x15x1x128 .f32) (co : Vec Ideal S1x15x8x8x128 .f32) (e : Fin 4) (r : Fin 256) (l : Fin 128) : EReal :=
  max low (Finset.univ.sup fun a : Fin 15 => Finset.univ.sup fun n : Fin 8 => score q qw kk ks co e a n r l)

/-- A load of a whole array after writes over a whole write reads what the later writes leave. -/
theorem readCov_append {S : Shape} {e : EltTy} (v : View sig .tc .vmem S e) {off : Fin S.rank → ℕ} (inb : ∀ a, off a + S.size a ≤ S.size a)
    (L M : List (View.Piece (Elt Ideal) S e)) :
    v.readCov (L ++ M) (Rect.unit off S.size inb).toLoadRect
      = v.read (Elt Ideal) (v.writes (Elt Ideal) (v.writes (Elt Ideal) v.junk M) L) := by
  rw [← View.writes_append]
  exact View.readAt_full ..

/-- A load of a whole array through a whole reference reads the array. -/
theorem readAt_whole {S : Shape} {e : EltTy} {m : Memref sig .tc .vmem S e} (h : m.IsWhole) (X : Vec Ideal S e) {off : Fin S.rank → ℕ}
    (inb : ∀ a, off a + S.size a ≤ S.size a) :
    m.view.readAt (Elt Ideal) (Rect.unit off S.size inb).toLoadRect (h.unread X) = X := by
  rw [View.readAt_full, h.read_unread]

section Block

variable (c : Dev nD) (i : grid0.Coords) (arg1 : Memref sig .tc .vmem S1x256x128 .i8) (harg1 : arg1.IsWhole) (arg2 : Memref sig .tc .vmem S1x64x128 .f32) (harg2 : arg2.IsWhole) (arg3 : Memref sig .tc .vmem S1x15x128x1024 .bf16) (harg3 : arg3.IsWhole) (arg4 : Memref sig .tc .vmem S1x15x1x128 .f32) (harg4 : arg4.IsWhole) (arg5 : Memref sig .tc .vmem S1x15x8x8x128 .f32) (harg5 : arg5.IsWhole) (arg6 : Memref sig .tc .vmem S1x15360x128 .fp8e4m3) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x256 .f32) (harg9 : arg9.IsWhole) (arg10 : Memref sig .tc .vmem S1x256x128 .bf16) (harg10 : arg10.IsWhole) (arg11 : Memref sig .tc .vmem S1x256x128 .f32) (harg11 : arg11.IsWhole) (arg12 : Memref sig .tc .vmem S1x1x256 .f32) (harg12 : arg12.IsWhole) (arg13 : Memref sig .tc .vmem S15x256x1024 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole)

section Lists

variable (x0 : Vec Ideal S1x256x128 .i8) (x1 : Vec Ideal S1x64x128 .f32) (x2 : Vec Ideal S1x15x128x1024 .bf16) (x3 : Vec Ideal S1x15x1x128 .f32)
  (x4 : Vec Ideal S1x15x8x8x128 .f32) (x5 : Vec Ideal S1x15360x128 .fp8e4m3) (x6 : Vec Ideal S1x1x128 .f32) (x7 : Vec Ideal S1x1x128 .f32) (x8 : Vec Ideal S1x1x256 .f32)
  (xs0 : Vec Ideal S15x256x1024 .f32) (xs2 : Vec Ideal S256x128 .f32)

set_option maxHeartbeats 4000000 in
/-- What a point after the first stores. -/
theorem run_B (hc0 : ¬cond0_0 i) : ∃ v26 : BitVec 32,
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2).1 = [⟨Rect.unit (s := S1x256x128) ![0, 0, 0] S1x256x128.size inb_S1x256x128_S1x256x128_0_0_0, k0_pay64 (arg16.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.2.1 ++ [⟨Rect.unit (s := S256x128) ![0, 0] S256x128.size inb_S256x128_S256x128_0_0, (k0_pay55 (F := Ideal))⟩]) (Rect.unit (s := S256x128) ![0, 0] S256x128.size inb_S256x128_S256x128_0_0).toLoadRect) (arg17.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.2.2 ++ [⟨Rect.unit (s := S256x128) ![0, 0] S256x128.size inb_S256x128_S256x128_0_0, (k0_pay56 (F := Ideal))⟩]) (Rect.unit (s := S256x128) ![0, 0] S256x128.size inb_S256x128_S256x128_0_0).toLoadRect) (arg7.view.readAt (Elt Ideal) (Rect.unit (s := S1x1x128) ![0, 0, 0] S1x1x128.size inb_S1x1x128_S1x1x128_0_0_0).toLoadRect (harg7.unread x6))⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2).2.1 = [⟨Rect.unit (s := S1x256x128) ![0, 0, 0] S1x256x128.size inb_S1x256x128_S1x256x128_0_0_0, k0_pay65 (arg16.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.2.1 ++ [⟨Rect.unit (s := S256x128) ![0, 0] S256x128.size inb_S256x128_S256x128_0_0, (k0_pay55 (F := Ideal))⟩]) (Rect.unit (s := S256x128) ![0, 0] S256x128.size inb_S256x128_S256x128_0_0).toLoadRect) (arg17.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.2.2 ++ [⟨Rect.unit (s := S256x128) ![0, 0] S256x128.size inb_S256x128_S256x128_0_0, (k0_pay56 (F := Ideal))⟩]) (Rect.unit (s := S256x128) ![0, 0] S256x128.size inb_S256x128_S256x128_0_0).toLoadRect) (arg7.view.readAt (Elt Ideal) (Rect.unit (s := S1x1x128) ![0, 0, 0] S1x1x128.size inb_S1x1x128_S1x1x128_0_0_0).toLoadRect (harg7.unread x6)) (arg8.view.readAt (Elt Ideal) (Rect.unit (s := S1x1x128) ![0, 0, 0] S1x1x128.size inb_S1x1x128_S1x1x128_0_0_0).toLoadRect (harg8.unread x7))⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2).2.2.1 = [⟨Rect.unit (s := S1x1x256) ![0, 0, 0] S1x1x256.size inb_S1x1x256_S1x1x256_0_0_0, k0_pay1 (k0_pay66 (arg16.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.2.1 ++ [⟨Rect.unit (s := S256x128) ![0, 0] S256x128.size inb_S256x128_S256x128_0_0, (k0_pay55 (F := Ideal))⟩]) (Rect.unit (s := S256x128) ![0, 0] S256x128.size inb_S256x128_S256x128_0_0).toLoadRect) (arg15.view.readAt (Elt Ideal) (Rect.unit (s := S256x128) ![0, 0] S256x1.size inb_S256x128_S256x1_0_0).toLoadRect (harg15.unread xs2))) (k0_pay67 (F := Ideal)) (arg9.view.readAt (Elt Ideal) (Rect.unit (s := S1x1x256) ![0, 0, 0] S1x1x256.size inb_S1x1x256_S1x1x256_0_0_0).toLoadRect (harg9.unread x8))⟩]
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2).2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).1
    ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2).2.2.2.2.1 = [⟨Rect.unit (s := S256x128) ![0, 0] S256x128.size inb_S256x128_S256x128_0_0, k0_pay2 (arg14.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.1 ++ [⟨Rect.unit (s := S256x128) ![0, 0] S256x128.size inb_S256x128_S256x128_0_0, (k0_pay54 (F := Ideal))⟩]) (Rect.unit (s := S256x128) ![0, 0] S256x128.size inb_S256x128_S256x128_0_0).toLoadRect)⟩] := by
  unfold kernelRun0_B
  exact ⟨_, rfl, rfl, rfl, rfl, rfl⟩

set_option maxHeartbeats 4000000 in
/-- What the first point stores in the two arrays that the later points read. -/
theorem run_A (hc0 : cond0_0 i) : ∃ v26 : BitVec 32,
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (arg15.view.writes (Elt Ideal) arg15.view.junk [⟨Rect.unit (s := S256x128) ![0, 0] S256x128.size inb_S256x128_S256x128_0_0, (k0_pay53 (F := Ideal))⟩]) (arg13.view.writes (Elt Ideal) arg13.view.junk [⟨Rect.unit (s := S15x256x1024) ![0, 0, 0] S15x256x1024.size inb_S15x256x1024_S15x256x1024_0_0_0, (k0_pay52 (F := Ideal))⟩]) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).1 ++ [⟨Rect.unit (s := S15x256x1024) ![0, 0, 0] S15x256x1024.size inb_S15x256x1024_S15x256x1024_0_0_0, k0_pay52 (F := Ideal)⟩]
    ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.2.1 = ⟨Rect.unit (s := S256x128) ![0, 0] S256x128.size inb_S256x128_S256x128_0_0, k0_pay2 (arg14.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (arg15.view.writes (Elt Ideal) arg15.view.junk [⟨Rect.unit (s := S256x128) ![0, 0] S256x128.size inb_S256x128_S256x128_0_0, (k0_pay53 (F := Ideal))⟩]) (arg13.view.writes (Elt Ideal) arg13.view.junk [⟨Rect.unit (s := S15x256x1024) ![0, 0, 0] S15x256x1024.size inb_S15x256x1024_S15x256x1024_0_0_0, (k0_pay52 (F := Ideal))⟩]) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.1 ++ [⟨Rect.unit (s := S256x128) ![0, 0] S256x128.size inb_S256x128_S256x128_0_0, (k0_pay54 (F := Ideal))⟩]) (Rect.unit (s := S256x128) ![0, 0] S256x128.size inb_S256x128_S256x128_0_0).toLoadRect)⟩ :: [⟨Rect.unit (s := S256x128) ![0, 0] S256x128.size inb_S256x128_S256x128_0_0, k0_pay53 (F := Ideal)⟩] := by
  unfold kernelRun0_A
  exact ⟨_, rfl, rfl⟩

/-- The lane sums that a point after the first has after its loop. -/
theorem den_B (v26 : BitVec 32) (r : Fin 256) (l : Fin 128) : (arg16.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.2.1 ++ [⟨Rect.unit (s := S256x128) ![0, 0] S256x128.size inb_S256x128_S256x128_0_0, (k0_pay55 (F := Ideal))⟩]) (Rect.unit (s := S256x128) ![0, 0] S256x128.size inb_S256x128_S256x128_0_0).toLoadRect) (ix2 r l) = blockDen xs0 xs2 r l := by
  rw [readCov_append]
  refine (loop_laneSum ..).trans ?_
  rw [View.read_writes_full, harg13.read_unread, harg15.read_unread]
  refine (congrArg (· + _) (?_ : k0_pay55 (F := Ideal) (ix2 r l) = (0 : EReal))).trans (zero_add _)
  pointwise [k0_pay55]

/-- The weighted sums that a point after the first has after its loop. -/
theorem acc_B (v26 : BitVec 32) (r : Fin 256) (d : Fin 128) : (arg17.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.2.2 ++ [⟨Rect.unit (s := S256x128) ![0, 0] S256x128.size inb_S256x128_S256x128_0_0, (k0_pay56 (F := Ideal))⟩]) (Rect.unit (s := S256x128) ![0, 0] S256x128.size inb_S256x128_S256x128_0_0).toLoadRect) (ix2 r d) = blockAcc xs0 xs2 x5 r d := by
  rw [readCov_append]
  refine (loop_weighted ..).trans ?_
  rw [View.read_writes_full, harg13.read_unread, harg15.read_unread, harg6.read_unread]
  refine (congrArg (· + _) (?_ : k0_pay56 (F := Ideal) (ix2 r d) = (0 : EReal))).trans (zero_add _)
  pointwise [k0_pay56]

/-- The running maximum that a point after the first has after its loop. -/
theorem top_B (v26 : BitVec 32) (r : Fin 256) (l : Fin 128) : (arg14.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (harg15.unread xs2) (harg13.unread xs0) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.1 ++ [⟨Rect.unit (s := S256x128) ![0, 0] S256x128.size inb_S256x128_S256x128_0_0, (k0_pay54 (F := Ideal))⟩]) (Rect.unit (s := S256x128) ![0, 0] S256x128.size inb_S256x128_S256x128_0_0).toLoadRect) (ix2 r l) = blockTop x0 x1 x2 x3 x4 (quarter i) r l := by
  rw [readCov_append]
  refine (loop_max ..).trans ?_
  rw [View.read_writes_full, readAt_whole harg1, readAt_whole harg2, harg3.read_unread,
    harg4.read_unread, harg5.read_unread]
  refine congrArg (max · _) (?_ : k0_pay54 (F := Ideal) (ix2 r l) = low)
  pointwise [k0_pay54]
  rfl

/-- The running maximum that the first point has after its loop. -/
theorem top_A (v26 : BitVec 32) (r : Fin 256) (l : Fin 128) : (arg14.view.readCov ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg1.view.readAt (Elt Ideal) (Rect.unit (s := S1x256x128) ![0, 0, 0] S1x256x128.size inb_S1x256x128_S1x256x128_0_0_0).toLoadRect (harg1.unread x0)) (arg2.view.readAt (Elt Ideal) (Rect.unit (s := S1x64x128) ![0, 0, 0] S1x64x128.size inb_S1x64x128_S1x64x128_0_0_0).toLoadRect (harg2.unread x1)) v26 (harg3.unread x2) (harg4.unread x3) (harg5.unread x4) (harg6.unread x5) (arg15.view.writes (Elt Ideal) arg15.view.junk [⟨Rect.unit (s := S256x128) ![0, 0] S256x128.size inb_S256x128_S256x128_0_0, (k0_pay53 (F := Ideal))⟩]) (arg13.view.writes (Elt Ideal) arg13.view.junk [⟨Rect.unit (s := S15x256x1024) ![0, 0, 0] S15x256x1024.size inb_S15x256x1024_S15x256x1024_0_0_0, (k0_pay52 (F := Ideal))⟩]) (arg14.view.writes (Elt Ideal) arg14.view.junk [⟨Rect.unit (s := S256x128) ![0, 0] S256x128.size inb_S256x128_S256x128_0_0, (k0_pay54 (F := Ideal))⟩]) (arg16.view.writes (Elt Ideal) arg16.view.junk [⟨Rect.unit (s := S256x128) ![0, 0] S256x128.size inb_S256x128_S256x128_0_0, (k0_pay55 (F := Ideal))⟩]) (arg17.view.writes (Elt Ideal) arg17.view.junk [⟨Rect.unit (s := S256x128) ![0, 0] S256x128.size inb_S256x128_S256x128_0_0, (k0_pay56 (F := Ideal))⟩]) k0_t1_loop.trips).2.1 ++ [⟨Rect.unit (s := S256x128) ![0, 0] S256x128.size inb_S256x128_S256x128_0_0, (k0_pay54 (F := Ideal))⟩]) (Rect.unit (s := S256x128) ![0, 0] S256x128.size inb_S256x128_S256x128_0_0).toLoadRect) (ix2 r l) = blockTop x0 x1 x2 x3 x4 (quarter i) r l := by
  rw [readCov_append]
  refine (loop_max ..).trans ?_
  rw [View.read_writes_full, readAt_whole harg1, readAt_whole harg2, harg3.read_unread,
    harg4.read_unread, harg5.read_unread]
  refine congrArg (max · _) (?_ : k0_pay54 (F := Ideal) (ix2 r l) = low)
  pointwise [k0_pay54]
  rfl

/-- The block of the narrowed attention. -/
theorem out9_B (hc0 : ¬cond0_0 i) (r : Fin 256) (d : Fin 128) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2 (ix3 0 r d)
      = Ideal.div (blockAcc xs0 xs2 x5 r d * x6 (ix3 0 0 d)) (∑ x : Fin 128, blockDen xs0 xs2 r x) := by
  obtain ⟨v26, h, -⟩ := run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xs0 xs2 hc0
  unfold out0_B_9
  rw [h]
  refine (congrFun (View.read_writes_full VO0_9 _ _ _ _) _).trans ((attn_apply ..).trans ?_)
  rw [readAt_whole harg7, acc_B]
  exact congrArg (Ideal.div _) (Finset.sum_congr rfl fun x _ => den_B ..)

/-- The block of the attention with the mean of the values. -/
theorem out10_B (hc0 : ¬cond0_0 i) (r : Fin 256) (d : Fin 128) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2 (ix3 0 r d)
      = Ideal.div (blockAcc xs0 xs2 x5 r d * x6 (ix3 0 0 d)) (∑ x : Fin 128, blockDen xs0 xs2 r x) + x7 (ix3 0 0 d) := by
  obtain ⟨v26, -, h, -⟩ := run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xs0 xs2 hc0
  unfold out0_B_10
  rw [h]
  refine (congrFun (View.read_writes_full VO0_10 _ _ _ _) _).trans ((out_apply ..).trans ?_)
  rw [readAt_whole harg7, readAt_whole harg8, acc_B]
  exact congrArg (fun t => Ideal.div _ t + _) (Finset.sum_congr rfl fun x _ => den_B ..)

/-- The block of the logarithms. -/
theorem out11_B (hc0 : ¬cond0_0 i) (r : Fin 256) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2 (ix3 0 0 r)
      = Ideal.ofBits .f32 0x3F317218#32
          * (xs2 (ix2 r 0) + Ideal.div (Ideal.log (∑ x : Fin 128, blockDen xs0 xs2 r x)) (Ideal.log (Ideal.ofBits .f32 0x40000000#32)))
        + Ideal.ofBits .f32 0x3DB504F3#32 * x8 (ix3 0 0 r) - Ideal.ofBits .f32 0x411A3B7B#32 := by
  obtain ⟨v26, -, -, h, -⟩ := run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xs0 xs2 hc0
  unfold out0_B_11
  rw [h]
  refine (congrFun (View.read_writes_full VO0_11 _ _ _ _) _).trans ((lse_apply ..).trans ?_)
  rw [readAt_whole harg9]
  have e : (arg15.view.readAt (Elt Ideal) (Rect.unit (s := S256x128) ![0, 0] S256x1.size inb_S256x128_S256x1_0_0).toLoadRect (harg15.unread xs2)) (ix2 r 0) = xs2 (ix2 r 0) := by
    refine (readAt_shift arg15.view (harg15.unread xs2) rfl inb_S256x128_S256x1_0_0 _ (ix2 r 0) fun a => ?_).trans (by rw [harg15.read_unread])
    fin_cases a
    · show r.val = 0 + r.val; omega
    · rfl
  rw [e]
  exact congrArg (fun t => _ * (_ + Ideal.div (Ideal.log t) _) + _ - _) (Finset.sum_congr rfl fun x _ => den_B ..)

/-- The score array that a point after the first leaves. -/
theorem sout0_B (hc0 : ¬cond0_0 i) (a : Fin 15) (n : Fin 8) (r : Fin 256) (l : Fin 128) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2 (ix3 a r ⟨128 * n.val + l.val, by omega⟩)
      = score x0 x1 x2 x3 x4 (quarter i) a n r l := by
  obtain ⟨v26, -, -, -, h, -⟩ := run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xs0 xs2 hc0
  have hcov := scover0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2 (ix3 a r ⟨128 * n.val + l.val, by omega⟩)
  unfold sout0_B_0
  refine (View.read_writes_apply_eq VS0_0 _ arg13.view (harg13.unread xs0) _ _ hcov).trans ?_
  rw [h, trips_eq]
  refine (loop_scores (k := 15) (hk := le_refl _) (ha := a.isLt) ..).trans ?_
  rw [readAt_whole harg1, readAt_whole harg2, harg3.read_unread,
    harg4.read_unread, harg5.read_unread]

/-- The score array that the first point leaves. -/
theorem sout0_A (hc0 : cond0_0 i) (a : Fin 15) (n : Fin 8) (r : Fin 256) (l : Fin 128) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 (ix3 a r ⟨128 * n.val + l.val, by omega⟩)
      = score x0 x1 x2 x3 x4 (quarter i) a n r l := by
  obtain ⟨v26, h, -⟩ := run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 hc0
  have hcov := scover0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 (ix3 a r ⟨128 * n.val + l.val, by omega⟩)
  unfold sout0_A_0
  refine (View.read_writes_apply_eq VS0_0 _ arg13.view arg13.view.junk _ _ hcov).trans ?_
  rw [h, View.writes_append, trips_eq]
  refine (loop_scores (k := 15) (hk := le_refl _) (ha := a.isLt) ..).trans ?_
  rw [readAt_whole harg1, readAt_whole harg2, harg3.read_unread,
    harg4.read_unread, harg5.read_unread]

/-- The row shifts that a point after the first leaves. -/
theorem sout2_B (hc0 : ¬cond0_0 i) (r : Fin 256) (l : Fin 128) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs2 (ix2 r l)
      = Ideal.liftRound Int.ceil (Finset.univ.sup fun x : Fin 128 => blockTop x0 x1 x2 x3 x4 (quarter i) r x) - ((Row.L : ℝ) : EReal) := by
  obtain ⟨v26, -, -, -, -, h⟩ := run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xs0 xs2 hc0
  unfold sout0_B_2
  rw [h]
  refine (congrFun (View.read_writes_full VS0_2 _ _ _ _) _).trans ((shift_apply ..).trans ?_)
  exact congrArg (fun t => Ideal.liftRound Int.ceil t - _) (Finset.sup_congr rfl fun x _ => top_B ..)

/-- The row shifts that the first point leaves. -/
theorem sout2_A (hc0 : cond0_0 i) (r : Fin 256) (l : Fin 128) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 (ix2 r l)
      = Ideal.liftRound Int.ceil (Finset.univ.sup fun x : Fin 128 => blockTop x0 x1 x2 x3 x4 (quarter i) r x) - ((Row.L : ℝ) : EReal) := by
  obtain ⟨v26, -, h⟩ := run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 hc0
  unfold sout0_A_2
  rw [h]
  refine (congrFun (View.read_writes_full VS0_2 _ _ _ _) _).trans ((shift_apply ..).trans ?_)
  exact congrArg (fun t => Ideal.liftRound Int.ceil t - _) (Finset.sup_congr rfl fun x _ => top_A ..)

end Lists

end Block

end Cert.KernelIdeal.Att

end
-- ==== Proof.Points.lean ====
/-
  Which block of its array each window of the attention call is on at a grid point, and the points at which the three outputs
  are written back.
-/
module

public import proofs.«01_k».proof.Proof.Block

@[expose] public section

set_option maxRecDepth 16384

noncomputable section

namespace Cert.KernelIdeal.Att

open Cert.KernelIdeal Cert.KernelIdeal.Gen Idealize.ShloMosaic Idealize.ShloMosaic.TcCoe Idealize.SL.Sem

/-- The block whose scores a point computes. -/
def cur (t : Fin cfg0.N) : ℕ := min t.val 1439

/-- The block whose outputs a point computes. -/
def prev (t : Fin cfg0.N) : ℕ := t.val - 1

theorem index0 : ∀ t : Fin cfg0.N, cc0_transform_0 (grid0.coords t) = ![cur t / 60, cur t % 60, 0] := by
  decide +kernel

theorem index1 : ∀ t : Fin cfg0.N, cc0_transform_1 (grid0.coords t) = ![cur t / 60, cur t % 60, 0] := by
  decide +kernel

theorem index2 : ∀ t : Fin cfg0.N, cc0_transform_2 (grid0.coords t) = ![cur t / 60, 0, 0, 0] := by
  decide +kernel

theorem index3 : ∀ t : Fin cfg0.N, cc0_transform_3 (grid0.coords t) = ![cur t / 60, 0, 0, 0] := by
  decide +kernel

theorem index4 : ∀ t : Fin cfg0.N, cc0_transform_4 (grid0.coords t) = ![cur t / 60, 0, 0, cur t % 60 / 4, 0] := by
  decide +kernel

theorem index5 : ∀ t : Fin cfg0.N, cc0_transform_5 (grid0.coords t) = ![prev t / 60, 0, 0] := by
  decide +kernel

theorem index6 : ∀ t : Fin cfg0.N, cc0_transform_6 (grid0.coords t) = ![prev t / 60, 0, 0] := by
  decide +kernel

theorem index7 : ∀ t : Fin cfg0.N, cc0_transform_7 (grid0.coords t) = ![prev t / 60, 0, 0] := by
  decide +kernel

theorem index8 : ∀ t : Fin cfg0.N, cc0_transform_8 (grid0.coords t) = ![prev t / 60, 0, prev t % 60] := by
  decide +kernel

theorem index9 : ∀ t : Fin cfg0.N, cc0_transform_9 (grid0.coords t) = ![prev t / 60, prev t % 60, 0] := by
  decide +kernel

theorem index10 : ∀ t : Fin cfg0.N, cc0_transform_10 (grid0.coords t) = ![prev t / 60 / 12, prev t % 60, prev t / 60 % 12] := by
  decide +kernel

theorem index11 : ∀ t : Fin cfg0.N, cc0_transform_11 (grid0.coords t) = ![prev t / 60, 0, prev t % 60] := by
  decide +kernel

theorem flush9 : ∀ t : Fin cfg0.N, (cfg0.win 9).flush t = decide (t.val ≠ 0) := by
  decide +kernel

theorem flush10 : ∀ t : Fin cfg0.N, (cfg0.win 10).flush t = decide (t.val ≠ 0) := by
  decide +kernel

theorem flush11 : ∀ t : Fin cfg0.N, (cfg0.win 11).flush t = decide (t.val ≠ 0) := by
  decide +kernel

theorem quarter_eq : ∀ t : Fin cfg0.N, (quarter (grid0.coords t)).val = cur t % 60 % 4 := by
  decide +kernel

end Cert.KernelIdeal.Att

end
-- ==== Proof.Slices.lean ====
/-
  The input blocks of a grid point as slices of the arguments.
-/
module

public import proofs.«01_k».proof.Proof.Points

@[expose] public section

set_option maxRecDepth 16384

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Ideal) ℓ) (c : Dev nD)

theorem cur_lt (t : Fin cfg0.N) : cur t < 1440 := by
  unfold cur
  omega

theorem prev_lt (t : Fin cfg0.N) : prev t < 1440 := by
  have h : t.val < 1441 := lt_of_lt_of_eq t.isLt (show cfg0.N = 1441 from N_0)
  unfold prev
  omega

/-- The head and the query block of a block number. -/
abbrev head (k : ℕ) (h : k < 1440) : Fin 24 := ⟨k / 60, by omega⟩

/-- The query row of a block number and a row of the block. -/
abbrev row (k : ℕ) (r : Fin 256) : Fin 15360 := ⟨256 * (k % 60) + r.val, by omega⟩

theorem iblk0 (t : Fin cfg0.N) (r : Fin 256) (x : Fin 128) :
    (iblk m c 0 t : Vec Ideal S1x256x128 .i8) (ix3 0 r x) = (m ((c : Thread nD τ).loc main_arg0) : Vec Ideal S24x15360x128 .i8) (ix3 (head (cur t) (cur_lt t)) (row (cur t) r) x) := by
  unfold iblk
  rw [View.read_apply]
  show V m c main_arg0 _ = m (c.tc.loc main_arg0) _
  unfold V
  congr 1
  funext ax
  apply Fin.ext
  match ax with
  | ⟨0, _⟩ =>
    have h : win0_0.index t 0 = _ := congrFun (index0 t) 0
    show win0_0.index t 0 * 1 + 1 * 0 = (_ : ℕ)
    rw [h]
    simp
    try omega
  | ⟨1, _⟩ =>
    have h : win0_0.index t 1 = _ := congrFun (index0 t) 1
    show win0_0.index t 1 * 256 + 1 * r.val = (_ : ℕ)
    rw [h]
    simp
    try omega
  | ⟨2, _⟩ =>
    have h : win0_0.index t 2 = _ := congrFun (index0 t) 2
    show win0_0.index t 2 * 128 + 1 * x.val = (_ : ℕ)
    rw [h]
    simp
    try omega

theorem iblk1 (t : Fin cfg0.N) (r : Fin 64) (x : Fin 128) :
    (iblk m c 1 t : Vec Ideal S1x64x128 .f32) (ix3 0 r x) = (m ((c : Thread nD τ).loc main_arg1) : Vec Ideal S24x3840x128 .f32) (ix3 (head (cur t) (cur_lt t)) ⟨64 * ((cur t) % 60) + r.val, by omega⟩ x) := by
  unfold iblk
  rw [View.read_apply]
  show V m c main_arg1 _ = m (c.tc.loc main_arg1) _
  unfold V
  congr 1
  funext ax
  apply Fin.ext
  match ax with
  | ⟨0, _⟩ =>
    have h : win0_1.index t 0 = _ := congrFun (index1 t) 0
    show win0_1.index t 0 * 1 + 1 * 0 = (_ : ℕ)
    rw [h]
    simp
    try omega
  | ⟨1, _⟩ =>
    have h : win0_1.index t 1 = _ := congrFun (index1 t) 1
    show win0_1.index t 1 * 64 + 1 * r.val = (_ : ℕ)
    rw [h]
    simp
    try omega
  | ⟨2, _⟩ =>
    have h : win0_1.index t 2 = _ := congrFun (index1 t) 2
    show win0_1.index t 2 * 128 + 1 * x.val = (_ : ℕ)
    rw [h]
    simp
    try omega

theorem iblk2 (t : Fin cfg0.N) (a : Fin 15) (x : Fin 128) (y : Fin 1024) :
    (iblk m c 2 t : Vec Ideal S1x15x128x1024 .bf16) (ix4 0 a x y) = (m ((c : Thread nD τ).loc main_arg2) : Vec Ideal S24x15x128x1024 .bf16) (ix4 (head (cur t) (cur_lt t)) a x y) := by
  unfold iblk
  rw [View.read_apply]
  show V m c main_arg2 _ = m (c.tc.loc main_arg2) _
  unfold V
  congr 1
  funext ax
  apply Fin.ext
  match ax with
  | ⟨0, _⟩ =>
    have h : win0_2.index t 0 = _ := congrFun (index2 t) 0
    show win0_2.index t 0 * 1 + 1 * 0 = (_ : ℕ)
    rw [h]
    simp
    try omega
  | ⟨1, _⟩ =>
    have h : win0_2.index t 1 = _ := congrFun (index2 t) 1
    show win0_2.index t 1 * 15 + 1 * a.val = (_ : ℕ)
    rw [h]
    simp
    try omega
  | ⟨2, _⟩ =>
    have h : win0_2.index t 2 = _ := congrFun (index2 t) 2
    show win0_2.index t 2 * 128 + 1 * x.val = (_ : ℕ)
    rw [h]
    simp
    try omega
  | ⟨3, _⟩ =>
    have h : win0_2.index t 3 = _ := congrFun (index2 t) 3
    show win0_2.index t 3 * 1024 + 1 * y.val = (_ : ℕ)
    rw [h]
    simp
    try omega

theorem iblk3 (t : Fin cfg0.N) (a : Fin 15) (x : Fin 128) :
    (iblk m c 3 t : Vec Ideal S1x15x1x128 .f32) (ix4 0 a 0 x) = (m ((c : Thread nD τ).loc main_arg3) : Vec Ideal S24x15x1x128 .f32) (ix4 (head (cur t) (cur_lt t)) a 0 x) := by
  unfold iblk
  rw [View.read_apply]
  show V m c main_arg3 _ = m (c.tc.loc main_arg3) _
  unfold V
  congr 1
  funext ax
  apply Fin.ext
  match ax with
  | ⟨0, _⟩ =>
    have h : win0_3.index t 0 = _ := congrFun (index3 t) 0
    show win0_3.index t 0 * 1 + 1 * 0 = (_ : ℕ)
    rw [h]
    simp
    try omega
  | ⟨1, _⟩ =>
    have h : win0_3.index t 1 = _ := congrFun (index3 t) 1
    show win0_3.index t 1 * 15 + 1 * a.val = (_ : ℕ)
    rw [h]
    simp
    try omega
  | ⟨2, _⟩ =>
    have h : win0_3.index t 2 = _ := congrFun (index3 t) 2
    show win0_3.index t 2 * 1 + 1 * 0 = (_ : ℕ)
    rw [h]
    simp
    try omega
  | ⟨3, _⟩ =>
    have h : win0_3.index t 3 = _ := congrFun (index3 t) 3
    show win0_3.index t 3 * 128 + 1 * x.val = (_ : ℕ)
    rw [h]
    simp
    try omega

theorem iblk4 (t : Fin cfg0.N) (a : Fin 15) (n : Fin 8) (r : Fin 8) (x : Fin 128) :
    (iblk m c 4 t : Vec Ideal S1x15x8x8x128 .f32) (ix5 0 a n r x) = (m ((c : Thread nD τ).loc main_arg4) : Vec Ideal S24x15x8x120x128 .f32) (ix5 (head (cur t) (cur_lt t)) a n ⟨8 * ((cur t) % 60 / 4) + r.val, by omega⟩ x) := by
  unfold iblk
  rw [View.read_apply]
  show V m c main_arg4 _ = m (c.tc.loc main_arg4) _
  unfold V
  congr 1
  funext ax
  apply Fin.ext
  match ax with
  | ⟨0, _⟩ =>
    have h : win0_4.index t 0 = _ := congrFun (index4 t) 0
    show win0_4.index t 0 * 1 + 1 * 0 = (_ : ℕ)
    rw [h]
    simp
    try omega
  | ⟨1, _⟩ =>
    have h : win0_4.index t 1 = _ := congrFun (index4 t) 1
    show win0_4.index t 1 * 15 + 1 * a.val = (_ : ℕ)
    rw [h]
    simp
    try omega
  | ⟨2, _⟩ =>
    have h : win0_4.index t 2 = _ := congrFun (index4 t) 2
    show win0_4.index t 2 * 8 + 1 * n.val = (_ : ℕ)
    rw [h]
    simp
    try omega
  | ⟨3, _⟩ =>
    have h : win0_4.index t 3 = _ := congrFun (index4 t) 3
    show win0_4.index t 3 * 8 + 1 * r.val = (_ : ℕ)
    rw [h]
    simp
    try omega
  | ⟨4, _⟩ =>
    have h : win0_4.index t 4 = _ := congrFun (index4 t) 4
    show win0_4.index t 4 * 128 + 1 * x.val = (_ : ℕ)
    rw [h]
    simp
    try omega

theorem iblk5 (t : Fin cfg0.N) (r : Fin 15360) (x : Fin 128) :
    (iblk m c 5 t : Vec Ideal S1x15360x128 .fp8e4m3) (ix3 0 r x) = (m ((c : Thread nD τ).loc main_arg5) : Vec Ideal S24x15360x128 .fp8e4m3) (ix3 (head (prev t) (prev_lt t)) r x) := by
  unfold iblk
  rw [View.read_apply]
  show V m c main_arg5 _ = m (c.tc.loc main_arg5) _
  unfold V
  congr 1
  funext ax
  apply Fin.ext
  match ax with
  | ⟨0, _⟩ =>
    have h : win0_5.index t 0 = _ := congrFun (index5 t) 0
    show win0_5.index t 0 * 1 + 1 * 0 = (_ : ℕ)
    rw [h]
    simp
    try omega
  | ⟨1, _⟩ =>
    have h : win0_5.index t 1 = _ := congrFun (index5 t) 1
    show win0_5.index t 1 * 15360 + 1 * r.val = (_ : ℕ)
    rw [h]
    simp
    try omega
  | ⟨2, _⟩ =>
    have h : win0_5.index t 2 = _ := congrFun (index5 t) 2
    show win0_5.index t 2 * 128 + 1 * x.val = (_ : ℕ)
    rw [h]
    simp
    try omega

theorem iblk6 (t : Fin cfg0.N) (x : Fin 128) :
    (iblk m c 6 t : Vec Ideal S1x1x128 .f32) (ix3 0 0 x) = (m ((c : Thread nD τ).loc main_arg6) : Vec Ideal S24x1x128 .f32) (ix3 (head (prev t) (prev_lt t)) 0 x) := by
  unfold iblk
  rw [View.read_apply]
  show V m c main_arg6 _ = m (c.tc.loc main_arg6) _
  unfold V
  congr 1
  funext ax
  apply Fin.ext
  match ax with
  | ⟨0, _⟩ =>
    have h : win0_6.index t 0 = _ := congrFun (index6 t) 0
    show win0_6.index t 0 * 1 + 1 * 0 = (_ : ℕ)
    rw [h]
    simp
    try omega
  | ⟨1, _⟩ =>
    have h : win0_6.index t 1 = _ := congrFun (index6 t) 1
    show win0_6.index t 1 * 1 + 1 * 0 = (_ : ℕ)
    rw [h]
    simp
    try omega
  | ⟨2, _⟩ =>
    have h : win0_6.index t 2 = _ := congrFun (index6 t) 2
    show win0_6.index t 2 * 128 + 1 * x.val = (_ : ℕ)
    rw [h]
    simp
    try omega

theorem iblk7 (t : Fin cfg0.N) (x : Fin 128) :
    (iblk m c 7 t : Vec Ideal S1x1x128 .f32) (ix3 0 0 x) = (m ((c : Thread nD τ).loc main_arg7) : Vec Ideal S24x1x128 .f32) (ix3 (head (prev t) (prev_lt t)) 0 x) := by
  unfold iblk
  rw [View.read_apply]
  show V m c main_arg7 _ = m (c.tc.loc main_arg7) _
  unfold V
  congr 1
  funext ax
  apply Fin.ext
  match ax with
  | ⟨0, _⟩ =>
    have h : win0_7.index t 0 = _ := congrFun (index7 t) 0
    show win0_7.index t 0 * 1 + 1 * 0 = (_ : ℕ)
    rw [h]
    simp
    try omega
  | ⟨1, _⟩ =>
    have h : win0_7.index t 1 = _ := congrFun (index7 t) 1
    show win0_7.index t 1 * 1 + 1 * 0 = (_ : ℕ)
    rw [h]
    simp
    try omega
  | ⟨2, _⟩ =>
    have h : win0_7.index t 2 = _ := congrFun (index7 t) 2
    show win0_7.index t 2 * 128 + 1 * x.val = (_ : ℕ)
    rw [h]
    simp
    try omega

theorem iblk8 (t : Fin cfg0.N) (r : Fin 256) :
    (iblk m c 8 t : Vec Ideal S1x1x256 .f32) (ix3 0 0 r) = (m ((c : Thread nD τ).loc main_arg8) : Vec Ideal S24x1x15360 .f32) (ix3 (head (prev t) (prev_lt t)) 0 (row (prev t) r)) := by
  unfold iblk
  rw [View.read_apply]
  show V m c main_arg8 _ = m (c.tc.loc main_arg8) _
  unfold V
  congr 1
  funext ax
  apply Fin.ext
  match ax with
  | ⟨0, _⟩ =>
    have h : win0_8.index t 0 = _ := congrFun (index8 t) 0
    show win0_8.index t 0 * 1 + 1 * 0 = (_ : ℕ)
    rw [h]
    simp
    try omega
  | ⟨1, _⟩ =>
    have h : win0_8.index t 1 = _ := congrFun (index8 t) 1
    show win0_8.index t 1 * 1 + 1 * 0 = (_ : ℕ)
    rw [h]
    simp
    try omega
  | ⟨2, _⟩ =>
    have h : win0_8.index t 2 = _ := congrFun (index8 t) 2
    show win0_8.index t 2 * 256 + 1 * r.val = (_ : ℕ)
    rw [h]
    simp
    try omega

end Cert.KernelIdeal.Att

end
-- ==== Proof.Arrays.lean ====
/-
  The three arrays that the attention call leaves, each entry as a function of the arguments.
-/
module

public import proofs.«01_k».proof.Proof.Slices
public import proofs.«01_k».proof.Proof.Gen.KernelIdeal.Value

@[expose] public section

set_option maxRecDepth 16384

noncomputable section

namespace Cert.KernelIdeal.Att

open Cert.KernelIdeal Cert.KernelIdeal.Gen Idealize.ShloMosaic Idealize.ShloMosaic.TcCoe Idealize.SL.Sem

section Entries

variable (q : Vec Ideal S24x15360x128 .i8) (qw : Vec Ideal S24x3840x128 .f32) (kk : Vec Ideal S24x15x128x1024 .bf16) (ks : Vec Ideal S24x15x1x128 .f32) (co : Vec Ideal S24x15x8x120x128 .f32) (vv : Vec Ideal S24x15360x128 .fp8e4m3) (vs : Vec Ideal S24x1x128 .f32) (vm : Vec Ideal S24x1x128 .f32) (qk : Vec Ideal S24x1x15360 .f32)

/-- The score of a query row and a key: the key is lane `l` of tile `n` of chunk `a`. -/
def fullScore (h : Fin 24) (R : Fin 15360) (a : Fin 15) (n : Fin 8) (l : Fin 128) : EReal :=
  (∑ x : Fin 128, FloatOps.sitofp (F := Ideal) .bf16 (q (ix3 h R x)) * kk (ix4 h a x ⟨128 * n.val + l.val, by omega⟩))
    * (qw (ix3 h ⟨R.val / 32 * 8 + R.val % 8, by omega⟩ l) * Ideal.ofBits .f32 0x3E0293EE#32 * ks (ix4 h a 0 l))
    + co (ix5 h a n ⟨R.val / 128, by omega⟩ l)

/-- The shift of a query row. -/
def fullShift (h : Fin 24) (R : Fin 15360) : EReal :=
  Ideal.liftRound Int.ceil (Finset.univ.sup fun x : Fin 128 =>
    max low (Finset.univ.sup fun a : Fin 15 => Finset.univ.sup fun n : Fin 8 => fullScore q qw kk ks co h R a n x)) - ((Row.L : ℝ) : EReal)

/-- The sum of a query row's weights. -/
def fullDen (h : Fin 24) (R : Fin 15360) : EReal :=
  ∑ x : Fin 128, ∑ a : Fin 15, ∑ n : Fin 8, Ideal.exp2 (fullScore q qw kk ks co h R a n x - fullShift q qw kk ks co h R)

/-- A query row's weighted sum of the values in one column. -/
def fullAcc (h : Fin 24) (R : Fin 15360) (d : Fin 128) : EReal :=
  ∑ a : Fin 15, ∑ n : Fin 8, ∑ l : Fin 128, Row.clip (Ideal.exp2 (fullScore q qw kk ks co h R a n l - fullShift q qw kk ks co h R))
    * vv (ix3 h ⟨1024 * a.val + (128 * n.val + l.val), by omega⟩ d)

/-- An entry of the head outputs without the mean of the values. -/
def fullO (h : Fin 24) (R : Fin 15360) (d : Fin 128) : EReal :=
  Ideal.div (fullAcc q qw kk ks co vv h R d * vs (ix3 h 0 d)) (fullDen q qw kk ks co h R)

/-- An entry of the attention output. -/
def fullAttn (h : Fin 24) (R : Fin 15360) (d : Fin 128) : EReal :=
  fullO q qw kk ks co vv vs h R d + vm (ix3 h 0 d)

/-- A query row's log-sum-exp. -/
def fullLse (h : Fin 24) (R : Fin 15360) : EReal :=
  Ideal.ofBits .f32 0x3F317218#32 * (fullShift q qw kk ks co h R
      + Ideal.div (Ideal.log (fullDen q qw kk ks co h R)) (Ideal.log (Ideal.ofBits .f32 0x40000000#32)))
    + Ideal.ofBits .f32 0x3DB504F3#32 * qk (ix3 h 0 R) - Ideal.ofBits .f32 0x411A3B7B#32

end Entries

variable (m : (ℓ : Loc nD τ sig) → Buf (Elt Ideal) ℓ) (c : Dev nD)

/-- Argument 0. -/
abbrev a0 : Vec Ideal S24x15360x128 .i8 := m ((c : Thread nD τ).loc main_arg0)

/-- Argument 1. -/
abbrev a1 : Vec Ideal S24x3840x128 .f32 := m ((c : Thread nD τ).loc main_arg1)

/-- Argument 2. -/
abbrev a2 : Vec Ideal S24x15x128x1024 .bf16 := m ((c : Thread nD τ).loc main_arg2)

/-- Argument 3. -/
abbrev a3 : Vec Ideal S24x15x1x128 .f32 := m ((c : Thread nD τ).loc main_arg3)

/-- Argument 4. -/
abbrev a4 : Vec Ideal S24x15x8x120x128 .f32 := m ((c : Thread nD τ).loc main_arg4)

/-- Argument 5. -/
abbrev a5 : Vec Ideal S24x15360x128 .fp8e4m3 := m ((c : Thread nD τ).loc main_arg5)

/-- Argument 6. -/
abbrev a6 : Vec Ideal S24x1x128 .f32 := m ((c : Thread nD τ).loc main_arg6)

/-- Argument 7. -/
abbrev a7 : Vec Ideal S24x1x128 .f32 := m ((c : Thread nD τ).loc main_arg7)

/-- Argument 8. -/
abbrev a8 : Vec Ideal S24x1x15360 .f32 := m ((c : Thread nD τ).loc main_arg8)

/-- The point before. -/
abbrev before (t : Fin cfg0.N) : Fin cfg0.N := ⟨t.val - 1, Nat.lt_of_le_of_lt (Nat.sub_le _ _) t.isLt⟩

theorem score_eq (t : Fin cfg0.N) (a : Fin 15) (n : Fin 8) (r : Fin 256) (l : Fin 128) :
    score (iblk m c 0 t) (iblk m c 1 t) (iblk m c 2 t) (iblk m c 3 t) (iblk m c 4 t) (quarter (grid0.coords t)) a n r l
      = fullScore (a0 m c) (a1 m c) (a2 m c) (a3 m c) (a4 m c) (head (cur t) (cur_lt t)) (row (cur t) r) a n l := by
  have hq := quarter_eq t
  have hc := cur_lt t
  unfold score fullScore
  refine congrArg₂ (· + ·) (congrArg₂ (· * ·) (Finset.sum_congr rfl fun x _ => ?_) (congrArg₂ (· * ·) (congrArg (· * _) ?_) ?_)) ?_
  · exact congrArg₂ (fun u w => FloatOps.sitofp (F := Ideal) .bf16 u * w) (iblk0 m c t r x) (iblk2 m c t a x _)
  · refine (iblk1 m c t _ l).trans (congrArg (a1 m c) (congrArg (ix3 _ · l) (Fin.ext ?_)))
    show 64 * (cur t % 60) + (r.val / 32 * 8 + r.val % 8) = (256 * (cur t % 60) + r.val) / 32 * 8 + (256 * (cur t % 60) + r.val) % 8
    omega
  · exact iblk3 m c t a l
  · refine (iblk4 m c t a n _ l).trans (congrArg (a4 m c) (congrArg (ix5 _ a n · l) (Fin.ext ?_)))
    show 8 * (cur t % 60 / 4) + (2 * (quarter (grid0.coords t)).val + r.val / 128) = (256 * (cur t % 60) + r.val) / 128
    omega

/-- The score array that a point leaves. -/
theorem scores_at (t : Fin cfg0.N) (a : Fin 15) (n : Fin 8) (r : Fin 256) (l : Fin 128) :
    (outsAt0 m c t.val t.isLt).2.2.2.1 (ix3 a r ⟨128 * n.val + l.val, by omega⟩)
      = fullScore (a0 m c) (a1 m c) (a2 m c) (a3 m c) (a4 m c) (head (cur t) (cur_lt t)) (row (cur t) r) a n l := by
  by_cases h0 : t.val % 1441 = 0
  · rw [outsAt0_A m c t h0]
    dsimp only
    exact (sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (hc0 := (hcond0_0 t).mpr h0) (a := a) (n := n) (r := r) (l := l)).trans (score_eq ..)
  · rw [outsAt0_B m c t h0]
    dsimp only
    exact (sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs0 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := fun h => h0 ((hcond0_0 t).mp h)) (a := a) (n := n) (r := r) (l := l)).trans (score_eq ..)

theorem top_eq (t : Fin cfg0.N) (r : Fin 256) :
    (Ideal.liftRound Int.ceil (Finset.univ.sup fun x : Fin 128 => blockTop (iblk m c 0 t) (iblk m c 1 t) (iblk m c 2 t) (iblk m c 3 t) (iblk m c 4 t) (quarter (grid0.coords t)) r x) - ((Row.L : ℝ) : EReal) : EReal)
      = fullShift (a0 m c) (a1 m c) (a2 m c) (a3 m c) (a4 m c) (head (cur t) (cur_lt t)) (row (cur t) r) := by
  unfold fullShift blockTop
  simp only [score_eq]

/-- The row shifts that a point leaves. -/
theorem shift_at (t : Fin cfg0.N) (r : Fin 256) (l : Fin 128) :
    (outsAt0 m c t.val t.isLt).2.2.2.2 (ix2 r l) = fullShift (a0 m c) (a1 m c) (a2 m c) (a3 m c) (a4 m c) (head (cur t) (cur_lt t)) (row (cur t) r) := by
  by_cases h0 : t.val % 1441 = 0
  · rw [outsAt0_A m c t h0]
    dsimp only
    exact (sout2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (hc0 := (hcond0_0 t).mpr h0) (r := r) (l := l)).trans (top_eq ..)
  · rw [outsAt0_B m c t h0]
    dsimp only
    exact (sout2_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs0 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := fun h => h0 ((hcond0_0 t).mp h)) (r := r) (l := l)).trans (top_eq ..)

section Step

variable (t : Fin cfg0.N) (ht : t.val ≠ 0)

include ht

theorem not_first : ¬t.val % 1441 = 0 := by
  have h : t.val < 1441 := lt_of_lt_of_eq t.isLt (show cfg0.N = 1441 from N_0)
  omega

theorem cur_before : cur (before t) = prev t := by
  have h : t.val < 1441 := lt_of_lt_of_eq t.isLt (show cfg0.N = 1441 from N_0)
  unfold cur prev
  show min (t.val - 1) 1439 = t.val - 1
  omega

theorem scores_before (a : Fin 15) (n : Fin 8) (r : Fin 256) (l : Fin 128) :
    (outsAt0 m c (t.val - 1) (Nat.lt_of_le_of_lt (Nat.sub_le _ _) t.isLt)).2.2.2.1 (ix3 a r ⟨128 * n.val + l.val, by omega⟩)
      = fullScore (a0 m c) (a1 m c) (a2 m c) (a3 m c) (a4 m c) (head (prev t) (prev_lt t)) (row (prev t) r) a n l := by
  refine (scores_at m c (before t) a n r l).trans ?_
  simp only [cur_before t ht]

theorem shift_before (r : Fin 256) (l : Fin 128) :
    (outsAt0 m c (t.val - 1) (Nat.lt_of_le_of_lt (Nat.sub_le _ _) t.isLt)).2.2.2.2 (ix2 r l) = fullShift (a0 m c) (a1 m c) (a2 m c) (a3 m c) (a4 m c) (head (prev t) (prev_lt t)) (row (prev t) r) := by
  refine (shift_at m c (before t) r l).trans ?_
  simp only [cur_before t ht]

theorem den_eq (r : Fin 256) :
    (∑ x : Fin 128, blockDen (outsAt0 m c (t.val - 1) (Nat.lt_of_le_of_lt (Nat.sub_le _ _) t.isLt)).2.2.2.1 (outsAt0 m c (t.val - 1) (Nat.lt_of_le_of_lt (Nat.sub_le _ _) t.isLt)).2.2.2.2 r x)
      = fullDen (a0 m c) (a1 m c) (a2 m c) (a3 m c) (a4 m c) (head (prev t) (prev_lt t)) (row (prev t) r) := by
  unfold fullDen blockDen
  simp only [scores_before m c t ht, shift_before m c t ht]

theorem acc_eq (r : Fin 256) (d : Fin 128) :
    blockAcc (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 5 t) r d
      = fullAcc (a0 m c) (a1 m c) (a2 m c) (a3 m c) (a4 m c) (a5 m c) (head (prev t) (prev_lt t)) (row (prev t) r) d := by
  unfold fullAcc blockAcc
  refine Finset.sum_congr rfl fun a _ => Finset.sum_congr rfl fun n _ => Finset.sum_congr rfl fun l _ => ?_
  rw [scores_before m c t ht, shift_before m c t ht]
  exact congrArg (_ * ·) (iblk5 m c t _ d)

theorem o_eq (r : Fin 256) (d : Fin 128) :
    Ideal.div (blockAcc (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 5 t) r d
        * (iblk m c 6 t : Vec Ideal S1x1x128 .f32) (ix3 0 0 d))
      (∑ x : Fin 128, blockDen (outsAt0 m c (t.val - 1) (Nat.lt_of_le_of_lt (Nat.sub_le _ _) t.isLt)).2.2.2.1 (outsAt0 m c (t.val - 1) (Nat.lt_of_le_of_lt (Nat.sub_le _ _) t.isLt)).2.2.2.2 r x)
      = fullO (a0 m c) (a1 m c) (a2 m c) (a3 m c) (a4 m c) (a5 m c) (a6 m c) (head (prev t) (prev_lt t)) (row (prev t) r) d := by
  rw [acc_eq m c t ht, den_eq m c t ht, iblk6]
  rfl

/-- What a point writes to its block of the head outputs. -/
theorem o_at (r : Fin 256) (d : Fin 128) :
    (outsAt0 m c t.val t.isLt).1 (ix3 0 r d) = fullO (a0 m c) (a1 m c) (a2 m c) (a3 m c) (a4 m c) (a5 m c) (a6 m c) (head (prev t) (prev_lt t)) (row (prev t) r) d := by
  rw [outsAt0_B m c t (not_first t ht)]
  dsimp only
  exact (out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs0 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := fun h => not_first t ht ((hcond0_0 t).mp h)) (r := r) (d := d)).trans (o_eq m c t ht r d)

/-- What a point writes to its block of the attention output. -/
theorem attn_at (r : Fin 256) (d : Fin 128) :
    (outsAt0 m c t.val t.isLt).2.1 (ix3 0 r d) = fullAttn (a0 m c) (a1 m c) (a2 m c) (a3 m c) (a4 m c) (a5 m c) (a6 m c) (a7 m c) (head (prev t) (prev_lt t)) (row (prev t) r) d := by
  rw [outsAt0_B m c t (not_first t ht)]
  dsimp only
  exact (out10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs0 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := fun h => not_first t ht ((hcond0_0 t).mp h)) (r := r) (d := d)).trans
    (congrArg₂ (· + ·) (o_eq m c t ht r d) (iblk7 m c t d))

/-- What a point writes to its block of the log-sum-exps. -/
theorem lse_at (r : Fin 256) :
    (outsAt0 m c t.val t.isLt).2.2.1 (ix3 0 0 r) = fullLse (a0 m c) (a1 m c) (a2 m c) (a3 m c) (a4 m c) (a8 m c) (head (prev t) (prev_lt t)) (row (prev t) r) := by
  rw [outsAt0_B m c t (not_first t ht)]
  dsimp only
  refine (out11_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (xs0 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := fun h => not_first t ht ((hcond0_0 t).mp h)) (r := r)).trans ?_
  rw [den_eq m c t ht, shift_before m c t ht, iblk8]
  rfl

end Step

end Cert.KernelIdeal.Att

end
-- ==== Proof.Final.lean ====
/-
  The three arrays after the attention call, whole: every entry is the function of the arguments that the point of its block
  computes.
-/
module

public import proofs.«01_k».proof.Proof.Arrays

@[expose] public section

set_option maxRecDepth 16384

noncomputable section

namespace Cert.KernelIdeal.Att

open Cert.KernelIdeal Cert.KernelIdeal.Gen Idealize.ShloMosaic Idealize.ShloMosaic.TcCoe Idealize.SL.Sem

open Idealize.ShloMosaic.Pipeline (Dat)

variable (m : (ℓ : Loc nD τ sig) → Buf (Elt Ideal) ℓ) (ρ : Dev nD → PrngReg) (c : Dev nD)

/-- The head outputs as one array. -/
def arrO : Vec Ideal S24x15360x128 .bf16 := fun i => fullO (a0 m c) (a1 m c) (a2 m c) (a3 m c) (a4 m c) (a5 m c) (a6 m c) (i 0) (i 1) (i 2)

/-- The attention output as one array: the heads of a batch entry lie side by side. -/
def arrAttn : Vec Ideal S2x15360x1536 .f32 := fun i =>
  fullAttn (a0 m c) (a1 m c) (a2 m c) (a3 m c) (a4 m c) (a5 m c) (a6 m c) (a7 m c) ⟨(i 0).val * 12 + (i 2).val / 128, by have h0 : (i 0).val < 2 := (i 0).isLt; have h2 : (i 2).val < 1536 := (i 2).isLt; omega⟩ (i 1)
    ⟨(i 2).val % 128, by omega⟩

/-- The log-sum-exps as one array. -/
def arrLse : Vec Ideal S24x1x15360 .f32 := fun i => fullLse (a0 m c) (a1 m c) (a2 m c) (a3 m c) (a4 m c) (a8 m c) (i 0) (i 2)

theorem ne_zero_of_flush {b : Bool} {t : Fin cfg0.N} (h : b = decide (t.val ≠ 0)) (hb : b = true) : t.val ≠ 0 := by
  subst h
  exact of_decide_eq_true hb

/-- The point that writes the block of a head and a query row. -/
theorem exists_point (h R : ℕ) (hh : h < 24) (hR : R < 15360) : ∃ t : Fin cfg0.N, t.val ≠ 0 ∧ prev t = 60 * h + R / 256 :=
  ⟨⟨60 * h + R / 256 + 1, by rw [show cfg0.N = 1441 from N_0]; omega⟩, Nat.succ_ne_zero _, Nat.add_sub_cancel ..⟩

theorem flushed_o (t : Fin cfg0.N) (hf : (cfg0.win 9).flush t = true) :
    (dats m 0 c).flushed 9 t = ((cfg0.win 9).blk t).view.read (Elt Ideal) (arrO m c) := by
  have ht := ne_zero_of_flush (flush9 t) hf
  have hp := prev_lt t
  rw [Value.flushed9]
  funext y
  rw [View.read_apply]
  have h0 : win0_9.index t 0 = _ := congrFun (index9 t) 0
  have h1 : win0_9.index t 1 = _ := congrFun (index9 t) 1
  have h2 : win0_9.index t 2 = _ := congrFun (index9 t) 2
  have e0 : (((win0_9.rect t).emb y 0 : Fin _) : ℕ) = _ := win0_9.rect_emb_val t y 0
  have e1 : (((win0_9.rect t).emb y 1 : Fin _) : ℕ) = _ := win0_9.rect_emb_val t y 1
  have e2 : (((win0_9.rect t).emb y 2 : Fin _) : ℕ) = _ := win0_9.rect_emb_val t y 2
  have y0 : (y 0).val < 1 := (y 0).isLt
  have y1 : (y 1).val < 256 := (y 1).isLt
  have y2 : (y 2).val < 128 := (y 2).isLt
  rw [h0] at e0
  rw [h1] at e1
  rw [h2] at e2
  have hy : y = ix3 0 (y 1) (y 2) := (eq_ix3 y).trans (congrArg (ix3 · (y 1) (y 2)) (Fin.ext (by show (y 0).val = 0; omega)))
  show (outsAt0 m c t.val t.isLt).1 y = arrO m c ((win0_9.rect t).emb y)
  rw [hy]
  refine (o_at m c t ht _ _).trans ?_
  rw [← hy]
  refine congr (congr (congrArg (fullO (a0 m c) (a1 m c) (a2 m c) (a3 m c) (a4 m c) (a5 m c) (a6 m c)) ?_) ?_) ?_
  · refine Fin.ext (Eq.trans ?_ e0.symm)
    show prev t / 60 = prev t / 60 * 1 + (y 0).val
    omega
  · refine Fin.ext (Eq.trans ?_ e1.symm)
    show 256 * (prev t % 60) + (y 1).val = prev t % 60 * 256 + (y 1).val
    omega
  · refine Fin.ext (Eq.trans ?_ e2.symm)
    show (y 2).val = 0 * 128 + (y 2).val
    omega

theorem cover_o (i : S24x15360x128.Idx) : ∃ t : Fin cfg0.N, (cfg0.win 9).flush t = true ∧ i ∈ ((cfg0.win 9).blk t).view.set := by
  have i0 : (i 0).val < 24 := (i 0).isLt
  have i1 : (i 1).val < 15360 := (i 1).isLt
  have i2 : (i 2).val < 128 := (i 2).isLt
  obtain ⟨t, ht, hp⟩ := exists_point (i 0).val (i 1).val (by omega) (by omega)
  refine ⟨t, (flush9 t).trans (decide_eq_true ht), ?_⟩
  show i ∈ ((View.whole main_v0_0).slice (win0_9.rect t)).set
  rw [View.set_slice_whole, Rect.mem_set_unit]
  have h0 : win0_9.index t 0 = _ := congrFun (index9 t) 0
  have h1 : win0_9.index t 1 = _ := congrFun (index9 t) 1
  have h2 : win0_9.index t 2 = _ := congrFun (index9 t) 2
  simp only [hp] at h0 h1 h2
  intro ax
  match ax with
  | ⟨0, _⟩ =>
    show win0_9.index t 0 * 1 ≤ (i 0).val ∧ (i 0).val < win0_9.index t 0 * 1 + 1
    rw [h0]
    simp
    omega
  | ⟨1, _⟩ =>
    show win0_9.index t 1 * 256 ≤ (i 1).val ∧ (i 1).val < win0_9.index t 1 * 256 + 256
    rw [h1]
    simp
    omega
  | ⟨2, _⟩ =>
    show win0_9.index t 2 * 128 ≤ (i 2).val ∧ (i 2).val < win0_9.index t 2 * 128 + 128
    rw [h2]
    simp
    omega

theorem final_o : (dats m 0 c).arrAt 9 cfg0.N = arrO m c :=
  (dats m 0 c).arrAt_eq_of_cover 9 (arrO m c) (flushed_o m c) cover_o

theorem flushed_attn (t : Fin cfg0.N) (hf : (cfg0.win 10).flush t = true) :
    (dats m 0 c).flushed 10 t = ((cfg0.win 10).blk t).view.read (Elt Ideal) (arrAttn m c) := by
  have ht := ne_zero_of_flush (flush10 t) hf
  have hp := prev_lt t
  rw [Value.flushed10]
  funext y
  rw [View.read_apply]
  have h0 : win0_10.index t 0 = _ := congrFun (index10 t) 0
  have h1 : win0_10.index t 1 = _ := congrFun (index10 t) 1
  have h2 : win0_10.index t 2 = _ := congrFun (index10 t) 2
  have e0 : (((win0_10.rect t).emb y 0 : Fin _) : ℕ) = _ := win0_10.rect_emb_val t y 0
  have e1 : (((win0_10.rect t).emb y 1 : Fin _) : ℕ) = _ := win0_10.rect_emb_val t y 1
  have e2 : (((win0_10.rect t).emb y 2 : Fin _) : ℕ) = _ := win0_10.rect_emb_val t y 2
  have y0 : (y 0).val < 1 := (y 0).isLt
  have y1 : (y 1).val < 256 := (y 1).isLt
  have y2 : (y 2).val < 128 := (y 2).isLt
  rw [h0] at e0
  rw [h1] at e1
  rw [h2] at e2
  have hy : y = ix3 0 (y 1) (y 2) := (eq_ix3 y).trans (congrArg (ix3 · (y 1) (y 2)) (Fin.ext (by show (y 0).val = 0; omega)))
  show (outsAt0 m c t.val t.isLt).2.1 y = arrAttn m c ((win0_10.rect t).emb y)
  rw [hy]
  refine (attn_at m c t ht _ _).trans ?_
  rw [← hy]
  have f0 : (((win0_10.rect t).emb y 0 : Fin _) : ℕ) = prev t / 60 / 12 * 1 + (y 0).val := e0
  have f2 : (((win0_10.rect t).emb y 2 : Fin _) : ℕ) = prev t / 60 % 12 * 128 + (y 2).val := e2
  refine congr (congr (congrArg (fullAttn (a0 m c) (a1 m c) (a2 m c) (a3 m c) (a4 m c) (a5 m c) (a6 m c) (a7 m c)) (Fin.ext ?_)) ?_) (Fin.ext ?_)
  · show prev t / 60 = ((win0_10.rect t).emb y 0 : Fin _).val * 12 + ((win0_10.rect t).emb y 2 : Fin _).val / 128
    rw [f0, f2]
    omega
  · refine Fin.ext (Eq.trans ?_ e1.symm)
    show 256 * (prev t % 60) + (y 1).val = prev t % 60 * 256 + (y 1).val
    omega
  · show (y 2).val = ((win0_10.rect t).emb y 2 : Fin _).val % 128
    rw [f2]
    omega

theorem cover_attn (i : S2x15360x1536.Idx) : ∃ t : Fin cfg0.N, (cfg0.win 10).flush t = true ∧ i ∈ ((cfg0.win 10).blk t).view.set := by
  have i0 : (i 0).val < 2 := (i 0).isLt
  have i1 : (i 1).val < 15360 := (i 1).isLt
  have i2 : (i 2).val < 1536 := (i 2).isLt
  obtain ⟨t, ht, hp⟩ := exists_point ((i 0).val * 12 + (i 2).val / 128) (i 1).val (by omega) (by omega)
  refine ⟨t, (flush10 t).trans (decide_eq_true ht), ?_⟩
  show i ∈ ((View.whole main_v0_1).slice (win0_10.rect t)).set
  rw [View.set_slice_whole, Rect.mem_set_unit]
  have h0 : win0_10.index t 0 = _ := congrFun (index10 t) 0
  have h1 : win0_10.index t 1 = _ := congrFun (index10 t) 1
  have h2 : win0_10.index t 2 = _ := congrFun (index10 t) 2
  simp only [hp] at h0 h1 h2
  intro ax
  match ax with
  | ⟨0, _⟩ =>
    show win0_10.index t 0 * 1 ≤ (i 0).val ∧ (i 0).val < win0_10.index t 0 * 1 + 1
    rw [h0]
    simp
    omega
  | ⟨1, _⟩ =>
    show win0_10.index t 1 * 256 ≤ (i 1).val ∧ (i 1).val < win0_10.index t 1 * 256 + 256
    rw [h1]
    simp
    omega
  | ⟨2, _⟩ =>
    show win0_10.index t 2 * 128 ≤ (i 2).val ∧ (i 2).val < win0_10.index t 2 * 128 + 128
    rw [h2]
    simp
    omega

theorem final_attn : (dats m 0 c).arrAt 10 cfg0.N = arrAttn m c :=
  (dats m 0 c).arrAt_eq_of_cover 10 (arrAttn m c) (flushed_attn m c) cover_attn

theorem flushed_lse (t : Fin cfg0.N) (hf : (cfg0.win 11).flush t = true) :
    (dats m 0 c).flushed 11 t = ((cfg0.win 11).blk t).view.read (Elt Ideal) (arrLse m c) := by
  have ht := ne_zero_of_flush (flush11 t) hf
  have hp := prev_lt t
  rw [Value.flushed11]
  funext y
  rw [View.read_apply]
  have h0 : win0_11.index t 0 = _ := congrFun (index11 t) 0
  have h1 : win0_11.index t 1 = _ := congrFun (index11 t) 1
  have h2 : win0_11.index t 2 = _ := congrFun (index11 t) 2
  have e0 : (((win0_11.rect t).emb y 0 : Fin _) : ℕ) = _ := win0_11.rect_emb_val t y 0
  have e1 : (((win0_11.rect t).emb y 1 : Fin _) : ℕ) = _ := win0_11.rect_emb_val t y 1
  have e2 : (((win0_11.rect t).emb y 2 : Fin _) : ℕ) = _ := win0_11.rect_emb_val t y 2
  have y0 : (y 0).val < 1 := (y 0).isLt
  have y1 : (y 1).val < 1 := (y 1).isLt
  have y2 : (y 2).val < 256 := (y 2).isLt
  rw [h0] at e0
  rw [h1] at e1
  rw [h2] at e2
  have hy : y = ix3 0 0 (y 2) := (eq_ix3 y).trans (congrArg₂ (ix3 · · (y 2)) (Fin.ext (by show (y 0).val = 0; omega)) (Fin.ext (by show (y 1).val = 0; omega)))
  show (outsAt0 m c t.val t.isLt).2.2.1 y = arrLse m c ((win0_11.rect t).emb y)
  rw [hy]
  refine (lse_at m c t ht _).trans ?_
  rw [← hy]
  refine congr (congrArg (fullLse (a0 m c) (a1 m c) (a2 m c) (a3 m c) (a4 m c) (a8 m c)) ?_) ?_
  · refine Fin.ext (Eq.trans ?_ e0.symm)
    show prev t / 60 = prev t / 60 * 1 + (y 0).val
    omega
  · refine Fin.ext (Eq.trans ?_ e2.symm)
    show 256 * (prev t % 60) + (y 2).val = prev t % 60 * 256 + (y 2).val
    omega

theorem cover_lse (i : S24x1x15360.Idx) : ∃ t : Fin cfg0.N, (cfg0.win 11).flush t = true ∧ i ∈ ((cfg0.win 11).blk t).view.set := by
  have i0 : (i 0).val < 24 := (i 0).isLt
  have i1 : (i 1).val < 1 := (i 1).isLt
  have i2 : (i 2).val < 15360 := (i 2).isLt
  obtain ⟨t, ht, hp⟩ := exists_point (i 0).val (i 2).val (by omega) (by omega)
  refine ⟨t, (flush11 t).trans (decide_eq_true ht), ?_⟩
  show i ∈ ((View.whole main_v0_2).slice (win0_11.rect t)).set
  rw [View.set_slice_whole, Rect.mem_set_unit]
  have h0 : win0_11.index t 0 = _ := congrFun (index11 t) 0
  have h1 : win0_11.index t 1 = _ := congrFun (index11 t) 1
  have h2 : win0_11.index t 2 = _ := congrFun (index11 t) 2
  simp only [hp] at h0 h1 h2
  intro ax
  match ax with
  | ⟨0, _⟩ =>
    show win0_11.index t 0 * 1 ≤ (i 0).val ∧ (i 0).val < win0_11.index t 0 * 1 + 1
    rw [h0]
    simp
    omega
  | ⟨1, _⟩ =>
    show win0_11.index t 1 * 1 ≤ (i 1).val ∧ (i 1).val < win0_11.index t 1 * 1 + 1
    rw [h1]
    simp
    omega
  | ⟨2, _⟩ =>
    show win0_11.index t 2 * 256 ≤ (i 2).val ∧ (i 2).val < win0_11.index t 2 * 256 + 256
    rw [h2]
    simp
    omega

theorem final_lse : (dats m 0 c).arrAt 11 cfg0.N = arrLse m c :=
  (dats m 0 c).arrAt_eq_of_cover 11 (arrLse m c) (flushed_lse m c) cover_lse

end Cert.KernelIdeal.Att

end
-- ==== Proof.RefBody.lean ====
/-
  The values of the reference's body, read at an index.
-/
module

public import proofs.«01_k».proof.Proof.Gen.ReferenceIdeal.Frame
public import proofs.«01_k».proof.Proof.Equation
public import Idealize.ShloMosaic.Lib.Pipeline.Value
public import Idealize.ShloMosaic.Lib.Pointwise

@[expose] public section

set_option maxRecDepth 16384

noncomputable section

namespace Cert.ReferenceIdeal.Att

open Cert.ReferenceIdeal Cert.ReferenceIdeal.Gen Idealize.ShloMosaic Idealize.ShloMosaic.TcCoe Idealize.SL.Sem

section Body

variable (q : Vec Ideal S24x15360x128 .i8) (qs : Vec Ideal S24x15360x15360 .f32) (kk : Vec Ideal S24x15360x128 .bf16)
  (ks : Vec Ideal S24x1x15360 .f32) (co : Vec Ideal S24x15360x15360 .f32) (vv : Vec Ideal S24x15360x128 .fp8e4m3)
  (vs vm : Vec Ideal S24x1x128 .f32) (qk : Vec Ideal S24x1x15360 .f32)

/-- The score of a query and a key. -/
def score (h : Fin 24) (R k : Fin 15360) : EReal :=
  (∑ x : Fin 128, FloatOps.sitofp (F := Ideal) .bf16 (q (ix3 h R x)) * kk (ix3 h k x)) * qs (ix3 h R k) * ks (ix3 h 0 k)
    * Ideal.ofBits .f32 0x3E0293EE#32 + co (ix3 h R k)

/-- The rounded-up maximum of a query's scores. -/
def top (h : Fin 24) (R : Fin 15360) : EReal := Ideal.liftRound Int.ceil (Row.top fun k => score q qs kk ks co h R k)

theorem f32_448 : Ideal.ofBits .f32 0x43E00000#32 = ((448 : ℝ) : EReal) := by
  simp [Ideal.ofBits, Ideal.ieee]; rw [← EReal.coe_mul]; norm_num

theorem f32_neg448 : Ideal.ofBits .f32 0xC3E00000#32 = ((-448 : ℝ) : EReal) := by
  simp [Ideal.ofBits, Ideal.ieee]; rw [← EReal.coe_mul]; norm_num

theorem exp2_eq (x : EReal) : FloatOps.exp2 (F := Ideal) (φ := .f32) x = Ideal.exp2 x := rfl

theorem score_apply (h : Fin 24) (R k : Fin 15360) : k0_pay5 q kk qs ks co (ix3 h R k) = score q qs kk ks co h R k := by
  pointwise [k0_pay5]
  rfl

/-- A row's maximum, from the lowest value, is the supremum of the row. -/
theorem rowMax_apply {a b n : ℕ} (x : FVec Ideal ⟨3, ![a, b, n]⟩ .f32) (h : Shape.Reduces ⟨3, ![a, b, n]⟩ [2] ⟨2, ![a, b]⟩) (hφ) (hacc)
    (i : Fin a) (j : Fin b) :
    multiReduction .maximumf [2] ⟨2, ![a, b]⟩ x 0xFF800000#32 h hφ hacc (ix2 i j) = Finset.univ.sup fun k : Fin n => (x (ix3 i j k) : EReal) := by
  pointwise []
  rw [show Ideal.ofBits .f32 0xFF800000#32 = ⊥ by simp [Ideal.ofBits, Ideal.ieee]]
  rfl

theorem ceil_apply (y : FVec Ideal S24x15360 .f32) (h : Fin 24) (R : Fin 15360) :
    ceil (shapeCast S24x15360x1 y shapeCasts_S24x15360_S24x15360x1) (ix3 h R 0) = Ideal.liftRound Int.ceil (y (ix2 h R)) := by
  pointwise

theorem top_eq : k0_pay6 q kk qs ks co = ceil (shapeCast S24x15360x1 (multiReduction .maximumf [2] S24x15360 (k0_pay5 q kk qs ks co)
    0xFF800000#32 reduces_S24x15360x15360_S24x15360 (.inl rfl) rfl) shapeCasts_S24x15360_S24x15360x1) := by
  rw [k0_pay6]

theorem top_apply (h : Fin 24) (R : Fin 15360) : k0_pay6 q kk qs ks co (ix3 h R 0) = top q qs kk ks co h R := by
  refine (congrFun (top_eq q qs kk ks co) _).trans ((ceil_apply _ h R).trans (congrArg (Ideal.liftRound Int.ceil) ?_))
  refine (rowMax_apply (k0_pay5 q kk qs ks co) _ _ _ h R).trans ?_
  exact Finset.sup_congr rfl fun k _ => score_apply ..

theorem weight_apply (h : Fin 24) (R k : Fin 15360) :
    k0_pay7 q kk qs ks co (ix3 h R k) = Ideal.exp2 (score q qs kk ks co h R k - top q qs kk ks co h R) := by
  pointwise [k0_pay7]
  rw [score_apply, top_apply]
  exact exp2_eq _

theorem den_apply (h : Fin 24) (R : Fin 15360) :
    k0_pay8 q kk qs ks co (ix3 h R 0) = Row.den (fun k => score q qs kk ks co h R k) (top q qs kk ks co h R) := by
  pointwise [k0_pay8]
  simp only [weight_apply, Row.den]

theorem acc_apply (h : Fin 24) (R : Fin 15360) (d : Fin 128) :
    k0_pay9 q kk qs ks co vv (ix3 h R d)
      = Row.racc (fun k => score q qs kk ks co h R k) (fun k => vv (ix3 h k d)) (top q qs kk ks co h R) := by
  pointwise [k0_pay9]
  simp only [weight_apply, f32_448, f32_neg448, Row.racc, Row.clip]

theorem quot_apply (den : FVec Ideal S24x15360x1 .f32) (acc : FVec Ideal S24x15360x128 .f32) (h : Fin 24) (R : Fin 15360) (d : Fin 128) :
    k0_pay1 den acc vs (ix3 h R d) = Ideal.div (acc (ix3 h R d) * vs (ix3 h 0 d)) (den (ix3 h R 0) * ((448 : ℝ) : EReal)) := by
  pointwise [k0_pay1]
  rw [f32_448]

theorem attn_apply (den : FVec Ideal S24x15360x1 .f32) (acc : FVec Ideal S24x15360x128 .f32) (b : Fin 2) (R : Fin 15360) (C : Fin 1536) :
    k0_pay3 den acc vs vm (ix3 b R C)
      = k0_pay1 den acc vs (ix3 ⟨b.val * 12 + C.val / 128, by omega⟩ R ⟨C.val % 128, by omega⟩)
        + vm (ix3 ⟨b.val * 12 + C.val / 128, by omega⟩ 0 ⟨C.val % 128, by omega⟩) := by
  pointwise [k0_pay3]

theorem lse_apply (tp den : FVec Ideal S24x15360x1 .f32) (h : Fin 24) (R : Fin 15360) :
    k0_pay4 tp den qk (ix3 h 0 R)
      = Ideal.ofBits .f32 0x3F317218#32 * (tp (ix3 h R 0) + Ideal.div (Ideal.log (den (ix3 h R 0))) (Ideal.log (Ideal.ofBits .f32 0x40000000#32)))
        + Ideal.ofBits .f32 0x3DB504F3#32 * qk (ix3 h 0 R) - Ideal.ofBits .f32 0x411A3B7B#32 := by
  pointwise [k0_pay4]

end Body

end Cert.ReferenceIdeal.Att

end
-- ==== Proof.RefRun.lean ====
/-
  The reference's three results, each entry as a function of the operands of its call.
-/
module

public import proofs.«01_k».proof.Proof.RefBody

@[expose] public section

set_option maxRecDepth 16384

noncomputable section

namespace Cert.ReferenceIdeal.Att

open Cert.ReferenceIdeal Cert.ReferenceIdeal.Gen Idealize.ShloMosaic Idealize.ShloMosaic.TcCoe Idealize.SL.Sem

theorem origin : (![0, 0, 0] : Fin 3 → ℕ) = fun _ => 0 := funext fun a => by fin_cases a <;> rfl

section Blocks

variable (x0 : Vec Ideal S24x15360x128 .i8) (x1 : Vec Ideal S24x15360x15360 .f32) (x2 : Vec Ideal S24x15360x128 .bf16)
  (x3 : Vec Ideal S24x1x15360 .f32) (x4 : Vec Ideal S24x15360x15360 .f32) (x5 : Vec Ideal S24x15360x128 .fp8e4m3)
  (x6 x7 : Vec Ideal S24x1x128 .f32) (x8 : Vec Ideal S24x1x15360 .f32)

/-- A head output: the weighted sum of the values, times their scale, over the sum of the weights times `448`. -/
def quot (h : Fin 24) (R : Fin 15360) (d : Fin 128) : EReal :=
  Ideal.div (Row.racc (fun k => score x0 x1 x2 x3 x4 h R k) (fun k => x5 (ix3 h k d)) (top x0 x1 x2 x3 x4 h R) * x6 (ix3 h 0 d))
    (Row.den (fun k => score x0 x1 x2 x3 x4 h R k) (top x0 x1 x2 x3 x4 h R) * ((448 : ℝ) : EReal))

theorem quot_of (h : Fin 24) (R : Fin 15360) (d : Fin 128) :
    k0_pay1 (k0_pay8 x0 x2 x1 x3 x4) (k0_pay9 x0 x2 x1 x3 x4 x5) x6 (ix3 h R d) = quot x0 x1 x2 x3 x4 x5 x6 h R d := by
  rw [quot_apply, den_apply, acc_apply]
  rfl

theorem out9_apply (h : Fin 24) (R : Fin 15360) (d : Fin 128) :
    out0_9 x0 x1 x2 x3 x4 x5 x6 x7 x8 (ix3 h R d) = quot x0 x1 x2 x3 x4 x5 x6 h R d := by
  unfold out0_9 k0_pay10 k0_pay11
  rw [View.canon_unit_zero origin]
  rw [View.ld_unit_zero origin _ x0, View.ld_unit_zero origin _ x2, View.ld_unit_zero origin _ x1, View.ld_unit_zero origin _ x3, View.ld_unit_zero origin _ x4, View.ld_unit_zero origin _ x5, View.ld_unit_zero origin _ x6]
  exact quot_of ..

theorem out10_apply (b : Fin 2) (R : Fin 15360) (C : Fin 1536) :
    out0_10 x0 x1 x2 x3 x4 x5 x6 x7 x8 (ix3 b R C)
      = quot x0 x1 x2 x3 x4 x5 x6 ⟨b.val * 12 + C.val / 128, by omega⟩ R ⟨C.val % 128, by omega⟩
        + x7 (ix3 ⟨b.val * 12 + C.val / 128, by omega⟩ 0 ⟨C.val % 128, by omega⟩) := by
  unfold out0_10 k0_pay10 k0_pay11
  rw [View.canon_unit_zero origin]
  rw [View.ld_unit_zero origin _ x0, View.ld_unit_zero origin _ x2, View.ld_unit_zero origin _ x1, View.ld_unit_zero origin _ x3, View.ld_unit_zero origin _ x4, View.ld_unit_zero origin _ x5, View.ld_unit_zero origin _ x6, View.ld_unit_zero origin _ x7]
  rw [attn_apply, quot_of]

theorem out11_apply (h : Fin 24) (R : Fin 15360) :
    out0_11 x0 x1 x2 x3 x4 x5 x6 x7 x8 (ix3 h 0 R)
      = Ideal.ofBits .f32 0x3F317218#32 * (top x0 x1 x2 x3 x4 h R
          + Ideal.div (Ideal.log (Row.den (fun k => score x0 x1 x2 x3 x4 h R k) (top x0 x1 x2 x3 x4 h R)))
              (Ideal.log (Ideal.ofBits .f32 0x40000000#32)))
        + Ideal.ofBits .f32 0x3DB504F3#32 * x8 (ix3 h 0 R) - Ideal.ofBits .f32 0x411A3B7B#32 := by
  unfold out0_11 k0_pay10
  rw [View.canon_unit_zero origin]
  rw [View.ld_unit_zero origin _ x0, View.ld_unit_zero origin _ x2, View.ld_unit_zero origin _ x1, View.ld_unit_zero origin _ x3, View.ld_unit_zero origin _ x4, View.ld_unit_zero origin _ x8]
  rw [lse_apply, top_apply, den_apply]

end Blocks

variable (m : (ℓ : Loc nD τ sig) → Buf (Elt Ideal) ℓ) (ρ : Dev nD → PrngReg) (c : Dev nD)

theorem emb0 (t : Fin cfg0.N) (j : S24x15360x128.Idx) : ((cfg0.win 0).blk t).view.emb j = j :=
  funext fun a => Fin.ext (win0_0.rect_emb_val_of_index_zero t a rfl j)

theorem emb1 (t : Fin cfg0.N) (j : S24x15360x15360.Idx) : ((cfg0.win 1).blk t).view.emb j = j :=
  funext fun a => Fin.ext (win0_1.rect_emb_val_of_index_zero t a rfl j)

theorem emb2 (t : Fin cfg0.N) (j : S24x15360x128.Idx) : ((cfg0.win 2).blk t).view.emb j = j :=
  funext fun a => Fin.ext (win0_2.rect_emb_val_of_index_zero t a rfl j)

theorem emb3 (t : Fin cfg0.N) (j : S24x1x15360.Idx) : ((cfg0.win 3).blk t).view.emb j = j :=
  funext fun a => Fin.ext (win0_3.rect_emb_val_of_index_zero t a rfl j)

theorem emb4 (t : Fin cfg0.N) (j : S24x15360x15360.Idx) : ((cfg0.win 4).blk t).view.emb j = j :=
  funext fun a => Fin.ext (win0_4.rect_emb_val_of_index_zero t a rfl j)

theorem emb5 (t : Fin cfg0.N) (j : S24x15360x128.Idx) : ((cfg0.win 5).blk t).view.emb j = j :=
  funext fun a => Fin.ext (win0_5.rect_emb_val_of_index_zero t a rfl j)

theorem emb6 (t : Fin cfg0.N) (j : S24x1x128.Idx) : ((cfg0.win 6).blk t).view.emb j = j :=
  funext fun a => Fin.ext (win0_6.rect_emb_val_of_index_zero t a rfl j)

theorem emb7 (t : Fin cfg0.N) (j : S24x1x128.Idx) : ((cfg0.win 7).blk t).view.emb j = j :=
  funext fun a => Fin.ext (win0_7.rect_emb_val_of_index_zero t a rfl j)

theorem emb8 (t : Fin cfg0.N) (j : S24x1x15360.Idx) : ((cfg0.win 8).blk t).view.emb j = j :=
  funext fun a => Fin.ext (win0_8.rect_emb_val_of_index_zero t a rfl j)

theorem emb9 (t : Fin cfg0.N) (j : S24x15360x128.Idx) : ((cfg0.win 9).blk t).view.emb j = j :=
  funext fun a => Fin.ext (win0_9.rect_emb_val_of_index_zero t a rfl j)

theorem emb10 (t : Fin cfg0.N) (j : S2x15360x1536.Idx) : ((cfg0.win 10).blk t).view.emb j = j :=
  funext fun a => Fin.ext (win0_10.rect_emb_val_of_index_zero t a rfl j)

theorem emb11 (t : Fin cfg0.N) (j : S24x1x15360.Idx) : ((cfg0.win 11).blk t).view.emb j = j :=
  funext fun a => Fin.ext (win0_11.rect_emb_val_of_index_zero t a rfl j)

theorem iblk0 (t : Fin cfg0.N) : (iblk m c 0 t : Vec Ideal S24x15360x128 .i8) = V m c main_arg0 := by
  funext j
  show V m c main_arg0 (((cfg0.win 0).blk t).view.emb j) = V m c main_arg0 j
  rw [emb0]

theorem iblk1 (t : Fin cfg0.N) : (iblk m c 1 t : Vec Ideal S24x15360x15360 .f32) = V m c main_v4 := by
  funext j
  show V m c main_v4 (((cfg0.win 1).blk t).view.emb j) = V m c main_v4 j
  rw [emb1]

theorem iblk2 (t : Fin cfg0.N) : (iblk m c 2 t : Vec Ideal S24x15360x128 .bf16) = V m c main_v1 := by
  funext j
  show V m c main_v1 (((cfg0.win 2).blk t).view.emb j) = V m c main_v1 j
  rw [emb2]

theorem iblk3 (t : Fin cfg0.N) : (iblk m c 3 t : Vec Ideal S24x1x15360 .f32) = V m c main_v6 := by
  funext j
  show V m c main_v6 (((cfg0.win 3).blk t).view.emb j) = V m c main_v6 j
  rw [emb3]

theorem iblk4 (t : Fin cfg0.N) : (iblk m c 4 t : Vec Ideal S24x15360x15360 .f32) = V m c main_v10 := by
  funext j
  show V m c main_v10 (((cfg0.win 4).blk t).view.emb j) = V m c main_v10 j
  rw [emb4]

theorem iblk5 (t : Fin cfg0.N) : (iblk m c 5 t : Vec Ideal S24x15360x128 .fp8e4m3) = V m c main_arg5 := by
  funext j
  show V m c main_arg5 (((cfg0.win 5).blk t).view.emb j) = V m c main_arg5 j
  rw [emb5]

theorem iblk6 (t : Fin cfg0.N) : (iblk m c 6 t : Vec Ideal S24x1x128 .f32) = V m c main_arg6 := by
  funext j
  show V m c main_arg6 (((cfg0.win 6).blk t).view.emb j) = V m c main_arg6 j
  rw [emb6]

theorem iblk7 (t : Fin cfg0.N) : (iblk m c 7 t : Vec Ideal S24x1x128 .f32) = V m c main_arg7 := by
  funext j
  show V m c main_arg7 (((cfg0.win 7).blk t).view.emb j) = V m c main_arg7 j
  rw [emb7]

theorem iblk8 (t : Fin cfg0.N) : (iblk m c 8 t : Vec Ideal S24x1x15360 .f32) = V m c main_arg8 := by
  funext j
  show V m c main_arg8 (((cfg0.win 8).blk t).view.emb j) = V m c main_arg8 j
  rw [emb8]

theorem final9 : (dats m 0 c).arrAt 9 cfg0.N = (out0_9 (V m c main_arg0) (V m c main_v4) (V m c main_v1) (V m c main_v6) (V m c main_v10) (V m c main_arg5) (V m c main_arg6) (V m c main_arg7) (V m c main_arg8) : Vec Ideal S24x15360x128 .bf16) := by
  refine (dats m 0 c).arrAt_eq_of_cover 9 _ (fun t _ => ?_) fun i => ⟨t0_0, flush0_9 _, ?_⟩
  · show (cfg0.win 9).cut (grid0.coords t) ((dats m 0 c).after 9 t) = _
    rw [after0_9, iblk0, iblk1, iblk2, iblk3, iblk4, iblk5, iblk6, iblk7, iblk8]
    generalize (out0_9 (V m c main_arg0) (V m c main_v4) (V m c main_v1) (V m c main_v6) (V m c main_v10) (V m c main_arg5) (V m c main_arg6) (V m c main_arg7) (V m c main_arg8) : Vec Ideal S24x15360x128 .bf16) = X
    funext j
    show X j = X (((cfg0.win 9).blk t).view.emb j)
    rw [emb9]
  · have h := ((cfg0.win 9).blk t0_0).view.emb_mem_set i
    rwa [emb9] at h

theorem final10 : (dats m 0 c).arrAt 10 cfg0.N = (out0_10 (V m c main_arg0) (V m c main_v4) (V m c main_v1) (V m c main_v6) (V m c main_v10) (V m c main_arg5) (V m c main_arg6) (V m c main_arg7) (V m c main_arg8) : Vec Ideal S2x15360x1536 .f32) := by
  refine (dats m 0 c).arrAt_eq_of_cover 10 _ (fun t _ => ?_) fun i => ⟨t0_0, flush0_10 _, ?_⟩
  · show (cfg0.win 10).cut (grid0.coords t) ((dats m 0 c).after 10 t) = _
    rw [after0_10, iblk0, iblk1, iblk2, iblk3, iblk4, iblk5, iblk6, iblk7, iblk8]
    generalize (out0_10 (V m c main_arg0) (V m c main_v4) (V m c main_v1) (V m c main_v6) (V m c main_v10) (V m c main_arg5) (V m c main_arg6) (V m c main_arg7) (V m c main_arg8) : Vec Ideal S2x15360x1536 .f32) = X
    funext j
    show X j = X (((cfg0.win 10).blk t).view.emb j)
    rw [emb10]
  · have h := ((cfg0.win 10).blk t0_0).view.emb_mem_set i
    rwa [emb10] at h

theorem final11 : (dats m 0 c).arrAt 11 cfg0.N = (out0_11 (V m c main_arg0) (V m c main_v4) (V m c main_v1) (V m c main_v6) (V m c main_v10) (V m c main_arg5) (V m c main_arg6) (V m c main_arg7) (V m c main_arg8) : Vec Ideal S24x1x15360 .f32) := by
  refine (dats m 0 c).arrAt_eq_of_cover 11 _ (fun t _ => ?_) fun i => ⟨t0_0, flush0_11 _, ?_⟩
  · show (cfg0.win 11).cut (grid0.coords t) ((dats m 0 c).after 11 t) = _
    rw [after0_11, iblk0, iblk1, iblk2, iblk3, iblk4, iblk5, iblk6, iblk7, iblk8]
    generalize (out0_11 (V m c main_arg0) (V m c main_v4) (V m c main_v1) (V m c main_v6) (V m c main_v10) (V m c main_arg5) (V m c main_arg6) (V m c main_arg7) (V m c main_arg8) : Vec Ideal S24x1x15360 .f32) = X
    funext j
    show X j = X (((cfg0.win 11).blk t).view.emb j)
    rw [emb11]
  · have h := ((cfg0.win 11).blk t0_0).view.emb_mem_set i
    rwa [emb11] at h

/-- The reference's run: its three results are those of its body on the operands of its call, and its arguments are kept. -/
theorem run : θ_run defs (onTc (τ := τ) (main (F := Ideal))) ⟨m, fun _ => 0, ρ⟩ fun r => ∀ c : Dev nD,
      r.2.mem ((c : Thread nD τ).loc main_v11_0) = out0_9 (V m c main_arg0) (V m c main_v4) (V m c main_v1) (V m c main_v6) (V m c main_v10) (V m c main_arg5) (V m c main_arg6) (V m c main_arg7) (V m c main_arg8)
      ∧ r.2.mem ((c : Thread nD τ).loc main_v11_1) = out0_10 (V m c main_arg0) (V m c main_v4) (V m c main_v1) (V m c main_v6) (V m c main_v10) (V m c main_arg5) (V m c main_arg6) (V m c main_arg7) (V m c main_arg8)
      ∧ r.2.mem ((c : Thread nD τ).loc main_v11_2) = out0_11 (V m c main_arg0) (V m c main_v4) (V m c main_v1) (V m c main_v6) (V m c main_v10) (V m c main_arg5) (V m c main_arg6) (V m c main_arg7) (V m c main_arg8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 9).trans (final9 m c),
      ((h c).1 10).trans (final10 m c),
      ((h c).1 11).trans (final11 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.ReferenceIdeal.Att

end
-- ==== Proof.Operands.lean ====
/-
  The operands that the reference lays out before its call, read at an index.
-/
module

public import proofs.«01_k».proof.Proof.Gen.ReferenceIdeal.Frame
public import Idealize.ShloMosaic.Lib.Pipeline.Value
public import Idealize.ShloMosaic.Lib.Claim
public import Idealize.ShloMosaic.Lib.Pointwise
public import Idealize.ShloMosaic.PureOps.Ideal

@[expose] public section

set_option maxRecDepth 16384

noncomputable section

namespace Cert.ReferenceIdeal.Att

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The key of lane `l` of tile `n` of chunk `a`. -/
abbrev key (a : Fin 15) (n : Fin 8) (l : Fin 128) : Fin 15360 := ⟨1024 * a.val + (128 * n.val + l.val), by omega⟩

/-- The keys, one row each. -/
theorem keys_apply (h : Fin 24) (a : Fin 15) (n : Fin 8) (l x : Fin 128) :
    (V m c main_v1 : Vec Ideal S24x15360x128 .bf16) (ix3 h (key a n l) x)
      = (m ((c : Thread nD τ).loc main_arg2) : Vec Ideal S24x15x128x1024 .bf16) (ix4 h a x ⟨128 * n.val + l.val, by omega⟩) := by
  entry_read
  pointwise
  exact congrArg₂ (fun u w => (m ((c : Thread nD τ).loc main_arg2) : Vec Ideal S24x15x128x1024 .bf16) (ix4 h u x w))
    (Fin.ext (by show (1024 * a.val + (128 * n.val + l.val)) / 1024 = a.val; omega))
    (Fin.ext (by show (1024 * a.val + (128 * n.val + l.val)) % 1024 = 128 * n.val + l.val; omega))

/-- The queries' scales, one for each query and key. -/
theorem qscale_apply (h : Fin 24) (R : Fin 15360) (a : Fin 15) (n : Fin 8) (l : Fin 128) :
    (V m c main_v4 : Vec Ideal S24x15360x15360 .f32) (ix3 h R (key a n l))
      = (m ((c : Thread nD τ).loc main_arg1) : Vec Ideal S24x3840x128 .f32) (ix3 h ⟨R.val / 32 * 8 + R.val % 8, by omega⟩ l) := by
  entry_read
  pointwise
  exact congrArg (fun u => (m ((c : Thread nD τ).loc main_arg1) : Vec Ideal S24x3840x128 .f32) (ix3 h ⟨R.val / 32 * 8 + R.val % 8, by omega⟩ u))
    (Fin.ext (by show (1024 * a.val + (128 * n.val + l.val)) % 128 = l.val; omega))

/-- The keys' scales. -/
theorem kscale_apply (h : Fin 24) (a : Fin 15) (n : Fin 8) (l : Fin 128) :
    (V m c main_v6 : Vec Ideal S24x1x15360 .f32) (ix3 h 0 (key a n l))
      = (m ((c : Thread nD τ).loc main_arg3) : Vec Ideal S24x15x1x128 .f32) (ix4 h a 0 l) := by
  entry_read
  pointwise
  exact congrArg₂ (fun u w => (m ((c : Thread nD τ).loc main_arg3) : Vec Ideal S24x15x1x128 .f32) (ix4 h u 0 w))
    (Fin.ext (by show (1024 * a.val + (128 * n.val + l.val)) / 1024 = a.val; omega))
    (Fin.ext (by show (1024 * a.val + (128 * n.val + l.val)) % 128 = l.val; omega))

/-- The correction of a query's block of rows and a key. -/
theorem corr_apply (h : Fin 24) (R : Fin 15360) (a : Fin 15) (n : Fin 8) (l : Fin 128) :
    (V m c main_v10 : Vec Ideal S24x15360x15360 .f32) (ix3 h R (key a n l))
      = (m ((c : Thread nD τ).loc main_arg4) : Vec Ideal S24x15x8x120x128 .f32) (ix5 h a n ⟨R.val / 128, by omega⟩ l) := by
  entry_read
  pointwise
  refine (congrArg₂ (fun u w => (m ((c : Thread nD τ).loc main_arg4) : Vec Ideal S24x15x8x120x128 .f32) (ix5 h u w ⟨R.val / 128, by omega⟩ ⟨(1024 * a.val + (128 * n.val + l.val)) % 128, by omega⟩))
    (Fin.ext (by show (1024 * a.val + (128 * n.val + l.val)) / 1024 = a.val; omega))
    (Fin.ext (by show (1024 * a.val + (128 * n.val + l.val)) / 128 % 8 = n.val; omega))).trans ?_
  exact congrArg (fun u => (m ((c : Thread nD τ).loc main_arg4) : Vec Ideal S24x15x8x120x128 .f32) (ix5 h a n ⟨R.val / 128, by omega⟩ u))
    (Fin.ext (by show (1024 * a.val + (128 * n.val + l.val)) % 128 = l.val; omega))

end Cert.ReferenceIdeal.Att

end
-- ==== Proof.Match.lean ====
/-
  The kernel's three results and the reference's are the same functions of the arguments: the scores agree key by key, the
  kernel's order of the keys (lane by lane, chunk by chunk, tile by tile) is a reordering of the reference's, and the two
  quotients and logarithms agree by the equations of `Equation`.
-/
module

public import proofs.«01_k».proof.Proof.Final
public import proofs.«01_k».proof.Proof.RefRun
public import proofs.«01_k».proof.Proof.Operands

@[expose] public section

set_option maxRecDepth 16384

noncomputable section

namespace Cert.Match

open Idealize.ShloMosaic Idealize.ShloMosaic.TcCoe Idealize.SL.Sem

open Cert.ReferenceIdeal.Att (key)

/-! ## The keys in the kernel's order -/

/-- A sum over the keys, chunk by chunk, tile by tile and lane by lane. -/
theorem sum_keys (f : Fin 15360 → EReal) : ∑ k, f k = ∑ a : Fin 15, ∑ n : Fin 8, ∑ l : Fin 128, f (key a n l) := by
  have h : ∑ k, f k = ∑ a : Fin 15, ∑ j : Fin 1024, f ⟨1024 * a.val + j.val, by omega⟩ := by
    rw [← Finset.sum_product', Finset.univ_product_univ]
    exact (Equiv.sum_comp (finProdFinEquiv (m := 15) (n := 1024)) f).symm.trans
      (Finset.sum_congr rfl fun p _ => congrArg f (Fin.ext (Nat.add_comm _ _)))
  rw [h]
  exact Finset.sum_congr rfl fun a _ => Cert.KernelIdeal.Att.sum_tiles fun j => f ⟨1024 * a.val + j.val, by omega⟩

/-- The same with the lanes outermost. -/
theorem sum_lanes (f : Fin 15360 → EReal) : ∑ k, f k = ∑ l : Fin 128, ∑ a : Fin 15, ∑ n : Fin 8, f (key a n l) := by
  rw [sum_keys, Finset.sum_comm]
  conv_rhs => rw [Finset.sum_comm]
  rw [Finset.sum_comm]
  refine Finset.sum_congr rfl fun a _ => ?_
  rw [Finset.sum_comm]

/-- Every key is a lane of a tile of a chunk. -/
theorem exists_key (k : Fin 15360) : ∃ a n l, k = key a n l :=
  ⟨⟨k.val / 1024, by omega⟩, ⟨k.val % 1024 / 128, by omega⟩, ⟨k.val % 128, by omega⟩,
    Fin.ext (by show k.val = 1024 * (k.val / 1024) + (128 * (k.val % 1024 / 128) + k.val % 128); omega)⟩

/-- The lanes' running maxima, from the value they start from, together give the row's maximum. -/
theorem sup_lanes (z : EReal) (f : Fin 15360 → EReal) :
    (Finset.univ.sup fun l : Fin 128 => max z (Finset.univ.sup fun a : Fin 15 => Finset.univ.sup fun n : Fin 8 => f (key a n l)))
      = max z (Row.top f) := by
  apply le_antisymm
  · refine Finset.sup_le fun l _ => max_le_max le_rfl ?_
    exact Finset.sup_le fun a _ => Finset.sup_le fun n _ => Finset.le_sup (f := f) (Finset.mem_univ _)
  · refine max_le ?_ (Finset.sup_le fun k _ => ?_)
    · exact (le_max_left _ _).trans (Finset.le_sup (f := fun l : Fin 128 => max z (Finset.univ.sup fun a : Fin 15 => Finset.univ.sup fun n : Fin 8 => f (key a n l))) (Finset.mem_univ 0))
    · obtain ⟨a, n, l, rfl⟩ := exists_key k
      refine le_trans ?_ (Finset.le_sup (f := fun l : Fin 128 => max z (Finset.univ.sup fun a : Fin 15 => Finset.univ.sup fun n : Fin 8 => f (key a n l))) (Finset.mem_univ l))
      refine le_trans ?_ (le_max_right _ _)
      refine le_trans ?_ (Finset.le_sup (f := fun a : Fin 15 => Finset.univ.sup fun n : Fin 8 => f (key a n l)) (Finset.mem_univ a))
      exact Finset.le_sup (f := fun n : Fin 8 => f (key a n l)) (Finset.mem_univ n)

/-- The value that the running maxima start from is a real number. -/
theorem low_real : ∃ n : ℝ, Cert.KernelIdeal.Att.low = ((n : ℝ) : EReal) := by
  unfold Cert.KernelIdeal.Att.low
  simp [Ideal.ofBits, Ideal.ieee]
  exact ⟨-((14791142 : ℝ) * (2 : ℝ) ^ 104), by rw [EReal.coe_neg, EReal.coe_mul, EReal.coe_pow]⟩

/-- The two orders of the factors of a score. -/
theorem factors (d x y z : EReal) : d * (x * z * y) = d * x * y * z := by
  rw [mul_right_comm x z y, ← mul_assoc, ← mul_assoc]

theorem f32_two : Ideal.ofBits .f32 0x40000000#32 = ((2 : ℝ) : EReal) := by
  simp [Ideal.ofBits, Ideal.ieee]; rw [← EReal.coe_mul]; norm_num

/-! ## A row of the kernel against a row of the reference -/

section Row

open Cert.KernelIdeal Cert.KernelIdeal.Att

variable (q : Vec Ideal S24x15360x128 .i8) (qw : Vec Ideal S24x3840x128 .f32) (kk : Vec Ideal S24x15x128x1024 .bf16)
  (ks : Vec Ideal S24x15x1x128 .f32) (co : Vec Ideal S24x15x8x120x128 .f32) (vv : Vec Ideal S24x15360x128 .fp8e4m3)
  (vs : Vec Ideal S24x1x128 .f32) (h : Fin 24) (R : Fin 15360)
  (u : Fin 15360 → EReal) (hu : ∀ a n l, fullScore q qw kk ks co h R a n l = u (key a n l))

include hu

theorem shift_eq (n : ℝ) (hn : low = ((n : ℝ) : EReal)) : fullShift q qw kk ks co h R = Row.shiftOf n (Row.top u) := by
  unfold fullShift Row.shiftOf
  simp only [hu]
  rw [sup_lanes, hn]

theorem den_eq (n : ℝ) (hn : low = ((n : ℝ) : EReal)) : fullDen q qw kk ks co h R = Row.den u (Row.shiftOf n (Row.top u)) := by
  unfold fullDen Row.den
  rw [shift_eq q qw kk ks co h R u hu n hn, sum_lanes]
  simp only [hu]

theorem acc_eq (n : ℝ) (hn : low = ((n : ℝ) : EReal)) (d : Fin 128) :
    fullAcc q qw kk ks co vv h R d = Row.acc u (fun k => vv (ix3 h k d)) (Row.shiftOf n (Row.top u)) := by
  unfold fullAcc Row.acc
  rw [shift_eq q qw kk ks co h R u hu n hn, sum_keys]
  simp only [hu]

/-- The kernel's head output is the reference's. -/
theorem o_eq (d : Fin 128) : fullO q qw kk ks co vv vs h R d
    = Ideal.div (Row.racc u (fun k => vv (ix3 h k d)) (Ideal.liftRound Int.ceil (Row.top u)) * vs (ix3 h 0 d))
        (Row.den u (Ideal.liftRound Int.ceil (Row.top u)) * ((448 : ℝ) : EReal)) := by
  obtain ⟨n, hn⟩ := low_real
  unfold fullO
  rw [acc_eq q qw kk ks co vv h R u hu n hn, den_eq q qw kk ks co h R u hu n hn, Row.quotient_eq]

/-- The kernel's base-two logarithm of the sum of the exponentials is the reference's. -/
theorem log_eq : fullShift q qw kk ks co h R
      + Ideal.div (Ideal.log (fullDen q qw kk ks co h R)) (Ideal.log (Ideal.ofBits .f32 0x40000000#32))
    = Ideal.liftRound Int.ceil (Row.top u)
      + Ideal.div (Ideal.log (Row.den u (Ideal.liftRound Int.ceil (Row.top u)))) (Ideal.log (Ideal.ofBits .f32 0x40000000#32)) := by
  obtain ⟨n, hn⟩ := low_real
  rw [shift_eq q qw kk ks co h R u hu n hn, den_eq q qw kk ks co h R u hu n hn, f32_two, Row.log_eq]

end Row

/-! ## The results -/

open Cert.KernelIdeal.Att (a0 a1 a2 a3 a4 a5 a6 a7 a8 fullScore arrO arrAttn arrLse)

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ) (c' : Dev Cert.ReferenceIdeal.nD)

/-- The scores agree: the reference multiplies the product by the query's scale, the key's scale and the constant one after the
    other, the kernel by their product. -/
theorem score_eq
  (h0 : (m' ((c' : Thread Cert.ReferenceIdeal.nD Cert.ReferenceIdeal.τ).loc Cert.ReferenceIdeal.main_arg0) : Vec Ideal Cert.KernelIdeal.S24x15360x128 .i8) = a0 m c)
  (h1 : (m' ((c' : Thread Cert.ReferenceIdeal.nD Cert.ReferenceIdeal.τ).loc Cert.ReferenceIdeal.main_arg1) : Vec Ideal Cert.KernelIdeal.S24x3840x128 .f32) = a1 m c)
  (h2 : (m' ((c' : Thread Cert.ReferenceIdeal.nD Cert.ReferenceIdeal.τ).loc Cert.ReferenceIdeal.main_arg2) : Vec Ideal Cert.KernelIdeal.S24x15x128x1024 .bf16) = a2 m c)
  (h3 : (m' ((c' : Thread Cert.ReferenceIdeal.nD Cert.ReferenceIdeal.τ).loc Cert.ReferenceIdeal.main_arg3) : Vec Ideal Cert.KernelIdeal.S24x15x1x128 .f32) = a3 m c)
  (h4 : (m' ((c' : Thread Cert.ReferenceIdeal.nD Cert.ReferenceIdeal.τ).loc Cert.ReferenceIdeal.main_arg4) : Vec Ideal Cert.KernelIdeal.S24x15x8x120x128 .f32) = a4 m c)
    (h : Fin 24) (R : Fin 15360) (a : Fin 15) (n : Fin 8) (l : Fin 128) :
    fullScore (a0 m c) (a1 m c) (a2 m c) (a3 m c) (a4 m c) h R a n l
      = Cert.ReferenceIdeal.Att.score (Cert.ReferenceIdeal.Gen.V m' c' Cert.ReferenceIdeal.main_arg0) (Cert.ReferenceIdeal.Gen.V m' c' Cert.ReferenceIdeal.main_v4) (Cert.ReferenceIdeal.Gen.V m' c' Cert.ReferenceIdeal.main_v1) (Cert.ReferenceIdeal.Gen.V m' c' Cert.ReferenceIdeal.main_v6) (Cert.ReferenceIdeal.Gen.V m' c' Cert.ReferenceIdeal.main_v10) h R (key a n l) := by
  unfold fullScore Cert.ReferenceIdeal.Att.score
  rw [Cert.ReferenceIdeal.Att.qscale_apply, Cert.ReferenceIdeal.Att.kscale_apply, Cert.ReferenceIdeal.Att.corr_apply]
  rw [h1, h3, h4]
  refine congrArg (· + _) (Eq.trans ?_ (factors _ _ _ _))
  refine congrArg (· * _) (Finset.sum_congr rfl fun x _ => ?_)
  refine congrArg₂ (fun s w => FloatOps.sitofp (F := Ideal) .bf16 s * w) ?_ ?_
  · rw [Cert.ReferenceIdeal.Gen.V_main_arg0]
    exact congrFun h0.symm _
  · exact ((Cert.ReferenceIdeal.Att.keys_apply m' c' h a n l x).trans (congrFun h2 _)).symm

section Agree

variable
  (h0 : (m' ((c' : Thread Cert.ReferenceIdeal.nD Cert.ReferenceIdeal.τ).loc Cert.ReferenceIdeal.main_arg0) : Vec Ideal Cert.KernelIdeal.S24x15360x128 .i8) = a0 m c)
  (h1 : (m' ((c' : Thread Cert.ReferenceIdeal.nD Cert.ReferenceIdeal.τ).loc Cert.ReferenceIdeal.main_arg1) : Vec Ideal Cert.KernelIdeal.S24x3840x128 .f32) = a1 m c)
  (h2 : (m' ((c' : Thread Cert.ReferenceIdeal.nD Cert.ReferenceIdeal.τ).loc Cert.ReferenceIdeal.main_arg2) : Vec Ideal Cert.KernelIdeal.S24x15x128x1024 .bf16) = a2 m c)
  (h3 : (m' ((c' : Thread Cert.ReferenceIdeal.nD Cert.ReferenceIdeal.τ).loc Cert.ReferenceIdeal.main_arg3) : Vec Ideal Cert.KernelIdeal.S24x15x1x128 .f32) = a3 m c)
  (h4 : (m' ((c' : Thread Cert.ReferenceIdeal.nD Cert.ReferenceIdeal.τ).loc Cert.ReferenceIdeal.main_arg4) : Vec Ideal Cert.KernelIdeal.S24x15x8x120x128 .f32) = a4 m c)
  (h5 : (m' ((c' : Thread Cert.ReferenceIdeal.nD Cert.ReferenceIdeal.τ).loc Cert.ReferenceIdeal.main_arg5) : Vec Ideal Cert.KernelIdeal.S24x15360x128 .fp8e4m3) = a5 m c)
  (h6 : (m' ((c' : Thread Cert.ReferenceIdeal.nD Cert.ReferenceIdeal.τ).loc Cert.ReferenceIdeal.main_arg6) : Vec Ideal Cert.KernelIdeal.S24x1x128 .f32) = a6 m c)
  (h7 : (m' ((c' : Thread Cert.ReferenceIdeal.nD Cert.ReferenceIdeal.τ).loc Cert.ReferenceIdeal.main_arg7) : Vec Ideal Cert.KernelIdeal.S24x1x128 .f32) = a7 m c)
  (h8 : (m' ((c' : Thread Cert.ReferenceIdeal.nD Cert.ReferenceIdeal.τ).loc Cert.ReferenceIdeal.main_arg8) : Vec Ideal Cert.KernelIdeal.S24x1x15360 .f32) = a8 m c)

include h0 h1 h2 h3 h4

include h5 h6 in
theorem quot_eq (h : Fin 24) (R : Fin 15360) (d : Fin 128) :
    Cert.KernelIdeal.Att.fullO (a0 m c) (a1 m c) (a2 m c) (a3 m c) (a4 m c) (a5 m c) (a6 m c) h R d
      = Cert.ReferenceIdeal.Att.quot (Cert.ReferenceIdeal.Gen.V m' c' Cert.ReferenceIdeal.main_arg0) (Cert.ReferenceIdeal.Gen.V m' c' Cert.ReferenceIdeal.main_v4) (Cert.ReferenceIdeal.Gen.V m' c' Cert.ReferenceIdeal.main_v1) (Cert.ReferenceIdeal.Gen.V m' c' Cert.ReferenceIdeal.main_v6) (Cert.ReferenceIdeal.Gen.V m' c' Cert.ReferenceIdeal.main_v10) (Cert.ReferenceIdeal.Gen.V m' c' Cert.ReferenceIdeal.main_arg5) (Cert.ReferenceIdeal.Gen.V m' c' Cert.ReferenceIdeal.main_arg6) h R d := by
  refine (o_eq _ _ _ _ _ _ _ h R _ (score_eq m c m' c' h0 h1 h2 h3 h4 h R) d).trans ?_
  rw [← h5, ← h6]
  unfold Cert.ReferenceIdeal.Att.quot
  rw [Cert.ReferenceIdeal.Gen.V_main_arg5, Cert.ReferenceIdeal.Gen.V_main_arg6]
  rfl

include h5 h6 in
/-- The head outputs agree. -/
theorem arrO_eq : arrO m c = Cert.ReferenceIdeal.Gen.out0_9 (Cert.ReferenceIdeal.Gen.V m' c' Cert.ReferenceIdeal.main_arg0) (Cert.ReferenceIdeal.Gen.V m' c' Cert.ReferenceIdeal.main_v4) (Cert.ReferenceIdeal.Gen.V m' c' Cert.ReferenceIdeal.main_v1) (Cert.ReferenceIdeal.Gen.V m' c' Cert.ReferenceIdeal.main_v6) (Cert.ReferenceIdeal.Gen.V m' c' Cert.ReferenceIdeal.main_v10) (Cert.ReferenceIdeal.Gen.V m' c' Cert.ReferenceIdeal.main_arg5) (Cert.ReferenceIdeal.Gen.V m' c' Cert.ReferenceIdeal.main_arg6) (Cert.ReferenceIdeal.Gen.V m' c' Cert.ReferenceIdeal.main_arg7) (Cert.ReferenceIdeal.Gen.V m' c' Cert.ReferenceIdeal.main_arg8) := by
  funext i
  rw [eq_ix3 i]
  exact (quot_eq m c m' c' h0 h1 h2 h3 h4 h5 h6 (i 0) (i 1) (i 2)).trans (Cert.ReferenceIdeal.Att.out9_apply ..).symm

include h5 h6 h7 in
/-- The attention outputs agree. -/
theorem arrAttn_eq : arrAttn m c = Cert.ReferenceIdeal.Gen.out0_10 (Cert.ReferenceIdeal.Gen.V m' c' Cert.ReferenceIdeal.main_arg0) (Cert.ReferenceIdeal.Gen.V m' c' Cert.ReferenceIdeal.main_v4) (Cert.ReferenceIdeal.Gen.V m' c' Cert.ReferenceIdeal.main_v1) (Cert.ReferenceIdeal.Gen.V m' c' Cert.ReferenceIdeal.main_v6) (Cert.ReferenceIdeal.Gen.V m' c' Cert.ReferenceIdeal.main_v10) (Cert.ReferenceIdeal.Gen.V m' c' Cert.ReferenceIdeal.main_arg5) (Cert.ReferenceIdeal.Gen.V m' c' Cert.ReferenceIdeal.main_arg6) (Cert.ReferenceIdeal.Gen.V m' c' Cert.ReferenceIdeal.main_arg7) (Cert.ReferenceIdeal.Gen.V m' c' Cert.ReferenceIdeal.main_arg8) := by
  funext i
  rw [eq_ix3 i]
  refine Eq.trans ?_ (Cert.ReferenceIdeal.Att.out10_apply _ _ _ _ _ _ _ _ _ (i 0) (i 1) (i 2)).symm
  refine congrArg₂ (· + ·) (quot_eq m c m' c' h0 h1 h2 h3 h4 h5 h6 _ _ _) ?_
  rw [Cert.ReferenceIdeal.Gen.V_main_arg7]
  exact congrFun h7.symm _

include h8 in
/-- The log-sum-exps agree. -/
theorem arrLse_eq : arrLse m c = Cert.ReferenceIdeal.Gen.out0_11 (Cert.ReferenceIdeal.Gen.V m' c' Cert.ReferenceIdeal.main_arg0) (Cert.ReferenceIdeal.Gen.V m' c' Cert.ReferenceIdeal.main_v4) (Cert.ReferenceIdeal.Gen.V m' c' Cert.ReferenceIdeal.main_v1) (Cert.ReferenceIdeal.Gen.V m' c' Cert.ReferenceIdeal.main_v6) (Cert.ReferenceIdeal.Gen.V m' c' Cert.ReferenceIdeal.main_v10) (Cert.ReferenceIdeal.Gen.V m' c' Cert.ReferenceIdeal.main_arg5) (Cert.ReferenceIdeal.Gen.V m' c' Cert.ReferenceIdeal.main_arg6) (Cert.ReferenceIdeal.Gen.V m' c' Cert.ReferenceIdeal.main_arg7) (Cert.ReferenceIdeal.Gen.V m' c' Cert.ReferenceIdeal.main_arg8) := by
  funext i
  have hi : i = ix3 (i 0) 0 (i 2) := (eq_ix3 i).trans (congrArg (ix3 (i 0) · (i 2)) (Subsingleton.elim _ _))
  rw [hi]
  refine Eq.trans ?_ (Cert.ReferenceIdeal.Att.out11_apply _ _ _ _ _ _ _ _ _ (i 0) (i 2)).symm
  have e := log_eq _ _ _ _ _ (i 0) (i 2) _ (score_eq m c m' c' h0 h1 h2 h3 h4 (i 0) (i 2))
  rw [Cert.ReferenceIdeal.Gen.V_main_arg8]
  exact congrArg₂ (fun x y => Ideal.ofBits .f32 0x3F317218#32 * x + Ideal.ofBits .f32 0x3DB504F3#32 * y - Ideal.ofBits .f32 0x411A3B7B#32)
    e (congrFun h8.symm _)

end Agree

end Cert.Match

end
-- ==== Proof.Quant.lean ====
/-
  The quantiser of a row: its largest magnitude, the scale made of it, and the code of an entry.
-/
module

public import Idealize.ShloMosaic.PureOps.Ideal
public import Idealize.ShloMosaic.Lib.Pointwise
public import Idealize.ShloMosaic.Lib.Claim

@[expose] public section

noncomputable section

namespace Cert.Quant

open Idealize.ShloMosaic

/-- The largest magnitude of a family, from the lowest value. -/
def amax {n : ℕ} (x : Fin n → EReal) : EReal :=
  Finset.fold max (Ideal.ofBits .f32 0xFF800000#32) (fun k => FloatOps.absf (F := Ideal) (φ := .f32) (x k)) Finset.univ

/-- The scale for a largest magnitude: its quotient by the largest code, or one for a zero row. -/
def scale (top : EReal) (a : EReal) : EReal := if a = 0 then 1 else Ideal.div a top

/-- The code of an entry: its quotient by the scale, to the nearest integer, ties to even, clipped. -/
def code (lo hi : EReal) (x s : EReal) : EReal := min hi (max lo (Ideal.liftRound Ideal.roundHalfEven (Ideal.div x s)))

theorem f32_127 : Ideal.ofBits .f32 0x42FE0000#32 = ((127 : ℝ) : EReal) := by
  simp [Ideal.ofBits, Ideal.ieee]; rw [← EReal.coe_mul]; norm_num

theorem f32_neg127 : Ideal.ofBits .f32 0xC2FE0000#32 = ((-127 : ℝ) : EReal) := by
  simp [Ideal.ofBits, Ideal.ieee]; rw [← EReal.coe_mul]; norm_num

/-- A code is an integer between its bounds. -/
theorem code_int (lo hi : ℤ) (h : lo ≤ hi) (x s : EReal) :
    ∃ z : ℤ, lo ≤ z ∧ z ≤ hi ∧ code ((lo : ℝ) : EReal) ((hi : ℝ) : EReal) x s = ((z : ℝ) : EReal) := by
  unfold code
  induction Ideal.div x s using EReal.rec with
  | bot =>
    refine ⟨lo, le_rfl, h, ?_⟩
    rw [Ideal.liftRound_bot, max_eq_left bot_le]
    exact min_eq_right (by exact_mod_cast h)
  | top =>
    refine ⟨hi, h, le_rfl, ?_⟩
    rw [Ideal.liftRound_top, max_eq_right le_top]
    exact min_eq_left le_top
  | coe r =>
    refine ⟨min hi (max lo (Ideal.roundHalfEven r)), le_min h (le_max_left _ _), min_le_left _ _, ?_⟩
    rw [Ideal.liftRound_coe, Int.cast_min, Int.cast_max, EReal.coe_strictMono.monotone.map_min, EReal.coe_strictMono.monotone.map_max]

/-- A small integer, stored as a signed byte and read back, is itself. -/
theorem byte_int (z : ℤ) (h0 : -128 ≤ z) (h1 : z ≤ 127) :
    FloatOps.sitofp (F := Ideal) .bf16 (FloatOps.fptosi (F := Ideal) (φ := .f32) 8 ((z : ℝ) : EReal)) = ((z : ℝ) : EReal) := by
  show (((Ideal.fptosi 8 ((z : ℝ) : EReal)).toInt : ℝ) : EReal) = _
  rw [Ideal.fptosi, Ideal.toIntClamped_coe, Int.floor_intCast, Int.ceil_intCast, ite_self]
  congr 2
  have : max (-(2 ^ (8 - 1) : ℕ) : ℤ) (min ((2 ^ (8 - 1) : ℕ) - 1 : ℤ) z) = z := by norm_num; omega
  rw [this, BitVec.toInt_ofInt]
  exact Int.bmod_eq_of_le (by norm_num; omega) (by norm_num; omega)

/-- A code, stored as a signed byte and read back, is itself. -/
theorem byte_code127 (x s : EReal) :
    FloatOps.sitofp (F := Ideal) .bf16 (FloatOps.fptosi (F := Ideal) (φ := .f32) 8
      (code (Ideal.ofBits .f32 0xC2FE0000#32) (Ideal.ofBits .f32 0x42FE0000#32) x s))
      = code (Ideal.ofBits .f32 0xC2FE0000#32) (Ideal.ofBits .f32 0x42FE0000#32) x s := by
  rw [f32_127, f32_neg127]
  obtain ⟨z, h0, h1, hz⟩ := code_int (-127) 127 (by norm_num) x s
  have e : code ((-127 : ℝ) : EReal) ((127 : ℝ) : EReal) x s = ((z : ℝ) : EReal) := by
    rw [← hz]; norm_num
  rw [e]
  exact byte_int z (by omega) (by omega)

/-- The scale of a row of signed bytes. -/
def rowScale {n : ℕ} (o : Fin n → EReal) : EReal := scale (Ideal.ofBits .f32 0x42FE0000#32) (amax o)

/-- The code of an entry of a row of signed bytes, as a number. -/
def rowCode {n : ℕ} (o : Fin n → EReal) (j : Fin n) : EReal :=
  code (Ideal.ofBits .f32 0xC2FE0000#32) (Ideal.ofBits .f32 0x42FE0000#32) (o j) (rowScale o)

/-- The code of an entry of a row, as a signed byte. -/
def rowByte {n : ℕ} (o : Fin n → EReal) (j : Fin n) : BitVec 8 := FloatOps.fptosi (F := Ideal) (φ := .f32) 8 (rowCode o j)

theorem byte_rowCode {n : ℕ} (o : Fin n → EReal) (j : Fin n) : FloatOps.sitofp (F := Ideal) .bf16 (rowByte o j) = rowCode o j :=
  byte_code127 _ _

/-- The product of a quantised row with a column of signed bytes, scaled back, and the bias added. -/
def project {n : ℕ} (o : Fin n → EReal) (w : Fin n → BitVec 8) (s b : EReal) : EReal :=
  (∑ k, rowCode o k * FloatOps.sitofp (F := Ideal) .bf16 (w k)) * rowScale o * s + b

/-- A column of row maxima of magnitudes. -/
theorem amax_apply {a n : ℕ} (x : FVec Ideal ⟨2, ![a, n]⟩ .f32) (h : Shape.Reduces ⟨2, ![a, n]⟩ [1] ⟨1, ![a]⟩) (hφ) (hacc) (i : Fin a) :
    multiReduction .maximumf [1] ⟨1, ![a]⟩ (absf x) 0xFF800000#32 h hφ hacc (ix1 i) = amax fun k : Fin n => x (ix2 i k) := by
  pointwise []
  rfl

/-- The same, of a stack of arrays. -/
theorem amax3_apply {a b n : ℕ} (x : FVec Ideal ⟨3, ![a, b, n]⟩ .f32) (h : Shape.Reduces ⟨3, ![a, b, n]⟩ [2] ⟨2, ![a, b]⟩) (hφ) (hacc)
    (i : Fin a) (j : Fin b) :
    multiReduction .maximumf [2] ⟨2, ![a, b]⟩ (absf x) 0xFF800000#32 h hφ hacc (ix2 i j) = amax fun k : Fin n => x (ix3 i j k) := by
  pointwise []
  rfl

end Cert.Quant

end
-- ==== Proof.OutRows.lean ====
/-
  The values of the output projection's body, read at an index.
-/
module

public import proofs.«01_k».proof.Proof.Gen.OutProjIdeal.Frame
public import proofs.«01_k».proof.Proof.Quant
public import Idealize.ShloMosaic.Lib.Pipeline.Value

@[expose] public section

set_option maxRecDepth 16384

noncomputable section

namespace Cert.OutProjIdeal.Rows

open Cert.OutProjIdeal Cert.OutProjIdeal.Gen Cert.Quant Idealize.ShloMosaic Idealize.ShloMosaic.TcCoe Idealize.SL.Sem

section Body

variable (o : Vec Ideal S1x512x1536 .f32)

theorem flat_apply (r : Fin 512) (j : Fin 1536) : k0_pay2 o (ix2 r j) = o (ix3 0 r j) := by
  pointwise [k0_pay2]

theorem scale_of (a : FVec Ideal S512 .f32) (r : Fin 512) :
    select (cmpf .oeq (shapeCast S512x1 a shapeCasts_S512_S512x1) (broadcast S512x1 (Scalar.ofBits .f32 0x00000000#32)))
      (broadcast S512x1 (Scalar.ofBits .f32 0x3F800000#32))
      (divf (shapeCast S512x1 a shapeCasts_S512_S512x1) (broadcast S512x1 (Scalar.ofBits .f32 0x42FE0000#32))) (ix2 r 0)
      = scale (Ideal.ofBits .f32 0x42FE0000#32) (a (ix1 r)) := by
  pointwise []
  rfl

theorem scale_apply (r : Fin 512) : k0_pay3 o (ix2 r 0) = rowScale fun j => o (ix3 0 r j) := by
  rw [k0_pay3]
  refine (scale_of _ r).trans (congrArg (scale _) ?_)
  refine (amax_apply (k0_pay2 o) _ _ _ r).trans (congrArg amax ?_)
  exact funext fun j => flat_apply o r j

theorem code_of (x : FVec Ideal S512x1536 .f32) (sc : FVec Ideal S512x1 .f32) (r : Fin 512) (j : Fin 1536) :
    minimumf (broadcast S512x1536 (Scalar.ofBits .f32 0x42FE0000#32)) (maximumf (broadcast S512x1536 (Scalar.ofBits .f32 0xC2FE0000#32))
      (roundeven (divf x (broadcastTo S512x1536 sc broadcasts_S512x1_S512x1536)))) (ix2 r j)
      = code (Ideal.ofBits .f32 0xC2FE0000#32) (Ideal.ofBits .f32 0x42FE0000#32) (x (ix2 r j)) (sc (ix2 r 0)) := by
  pointwise []
  rfl

theorem code_apply (r : Fin 512) (j : Fin 1536) : k0_pay4 o (ix2 r j) = rowCode (fun j => o (ix3 0 r j)) j := by
  rw [k0_pay4]
  refine (code_of (k0_pay2 o) (k0_pay3 o) r j).trans ?_
  rw [scale_apply, flat_apply]
  rfl

theorem byte_apply (r : Fin 512) (j : Fin 1536) : k0_pay5 o (ix3 0 r j) = rowByte (fun j => o (ix3 0 r j)) j := by
  pointwise [k0_pay5]
  rw [code_apply]
  rfl

theorem scaleRow_apply (r : Fin 512) : k0_pay6 o (ix3 0 0 r) = rowScale fun j => o (ix3 0 r j) := by
  rw [← scale_apply]
  pointwise [k0_pay6]
  split
  · rfl
  split
  · exact congrArg (fun u => k0_pay3 o (ix2 u 0)) (Fin.ext (by show 128 + (r.val - 128) = r.val; omega))
  split
  · exact congrArg (fun u => k0_pay3 o (ix2 u 0)) (Fin.ext (by show 256 + (r.val - 128 - 128) = r.val; omega))
  · exact congrArg (fun u => k0_pay3 o (ix2 u 0)) (Fin.ext (by show 384 + (r.val - 128 - 128 - 128) = r.val; omega))

theorem hidden_of (sc : FVec Ideal S512x1 .f32) (cd : FVec Ideal S512x1536 .bf16) (w : Vec Ideal S1536x1536 .i8) (s b : Vec Ideal S1x1536 .f32)
    (x : Vec Ideal S1x512x1536 .bf16) (g : Vec Ideal S1x1x1536 .f32) (r : Fin 512) (j : Fin 1536) :
    k0_pay1 sc cd w s b x g (ix3 0 r j)
      = x (ix3 0 r j) + g (ix3 0 0 j) * ((∑ k : Fin 1536, cd (ix2 r k) * FloatOps.sitofp (F := Ideal) .bf16 (w (ix2 k j))) * sc (ix2 r 0)
        * s (ix2 0 j) + b (ix2 0 j)) := by
  pointwise [k0_pay1]

theorem codes_eq : k0_pay7 o = k0_pay4 o := by
  rw [k0_pay7]
  rfl

theorem hidden_apply (w : Vec Ideal S1536x1536 .i8) (s b : Vec Ideal S1x1536 .f32)
    (x : Vec Ideal S1x512x1536 .bf16) (g : Vec Ideal S1x1x1536 .f32) (r : Fin 512) (j : Fin 1536) :
    k0_pay1 (k0_pay3 o) (k0_pay7 o) w s b x g (ix3 0 r j)
      = x (ix3 0 r j) + g (ix3 0 0 j) * project (fun j => o (ix3 0 r j)) (fun k => w (ix2 k j)) (s (ix2 0 j)) (b (ix2 0 j)) := by
  rw [hidden_of, scale_apply, codes_eq]
  simp only [code_apply]
  rfl

end Body

theorem origin2 : (![0, 0] : Fin 2 → ℕ) = fun _ => 0 := funext fun a => by fin_cases a <;> rfl

theorem origin3 : (![0, 0, 0] : Fin 3 → ℕ) = fun _ => 0 := funext fun a => by fin_cases a <;> rfl

variable (x0 : Vec Ideal S1x512x1536 .f32) (x1 : Vec Ideal S1x512x1536 .bf16) (x2 : Vec Ideal S1x1x1536 .f32) (x3 : Vec Ideal S1536x1536 .i8)
  (x4 x5 : Vec Ideal S1x1536 .f32)

theorem out6_apply (r : Fin 512) (j : Fin 1536) : out0_6 x0 x1 x2 x3 x4 x5 (ix3 0 r j)
    = x1 (ix3 0 r j) + x2 (ix3 0 0 j) * project (fun j => x0 (ix3 0 r j)) (fun k => x3 (ix2 k j)) (x4 (ix2 0 j)) (x5 (ix2 0 j)) := by
  unfold out0_6
  rw [View.canon_unit_zero origin3]
  rw [View.ld_unit_zero origin3 _ x0, View.ld_unit_zero origin2 _ x3, View.ld_unit_zero origin2 _ x4, View.ld_unit_zero origin2 _ x5, View.ld_unit_zero origin3 _ x1, View.ld_unit_zero origin3 _ x2]
  exact hidden_apply ..

theorem out7_apply (r : Fin 512) (j : Fin 1536) : out0_7 x0 x1 x2 x3 x4 x5 (ix3 0 r j) = rowByte (fun j => x0 (ix3 0 r j)) j := by
  unfold out0_7
  rw [View.canon_unit_zero origin3, View.ld_unit_zero origin3 _ x0]
  exact byte_apply ..

theorem out8_apply (r : Fin 512) : out0_8 x0 x1 x2 x3 x4 x5 (ix3 0 0 r) = rowScale fun j => x0 (ix3 0 r j) := by
  unfold out0_8
  rw [View.canon_unit_zero origin3, View.ld_unit_zero origin3 _ x0]
  exact scaleRow_apply ..

end Cert.OutProjIdeal.Rows

end
-- ==== Proof.OutBlocks.lean ====
/-
  The blocks that the output projection reads and writes at a grid point, as parts of its arguments and results.
-/
module

public import proofs.«01_k».proof.Proof.OutRows
public import proofs.«01_k».proof.Proof.Gen.OutProjIdeal.Value
public import Idealize.ShloMosaic.Lib.Claim

@[expose] public section

set_option maxRecDepth 16384

noncomputable section

namespace Cert.OutProjIdeal.Rows

open Cert.OutProjIdeal Cert.OutProjIdeal.Gen Cert.Quant Idealize.ShloMosaic Idealize.ShloMosaic.TcCoe Idealize.SL.Sem

variable (m : (ℓ : Loc nD τ sig) → Buf (Elt Ideal) ℓ) (c : Dev nD)

/-- The head outputs, side by side. -/
abbrev a0 : Vec Ideal S2x15360x1536 .f32 := m ((c : Thread nD τ).loc main_arg0)

/-- The residual. -/
abbrev a1 : Vec Ideal S2x15360x1536 .bf16 := m ((c : Thread nD τ).loc main_arg1)

/-- The gate. -/
abbrev a2 : Vec Ideal S2x1536 .f32 := m ((c : Thread nD τ).loc main_arg2)

/-- The codes of the weights. -/
abbrev a3 : Vec Ideal S12x128x1536 .i8 := m ((c : Thread nD τ).loc main_arg3)

/-- The scales of the weights. -/
abbrev a4 : Vec Ideal S1536 .f32 := m ((c : Thread nD τ).loc main_arg4)

/-- The bias. -/
abbrev a5 : Vec Ideal S1536 .f32 := m ((c : Thread nD τ).loc main_arg5)

theorem gate_apply (i : Fin 2) (j : Fin 1536) : (V m c main_v0 : Vec Ideal S2x1x1536 .f32) (ix3 i 0 j) = a2 m c (ix2 i j) := by
  entry_read
  pointwise

theorem weight_apply (k j : Fin 1536) : (V m c main_v1 : Vec Ideal S1536x1536 .i8) (ix2 k j)
    = a3 m c (ix3 ⟨k.val / 128, by omega⟩ ⟨k.val % 128, by omega⟩ j) := by
  entry_read
  pointwise

theorem wscale_apply (j : Fin 1536) : (V m c main_v2 : Vec Ideal S1x1536 .f32) (ix2 0 j) = a4 m c (ix1 j) := by
  entry_read
  pointwise

theorem bias_apply (j : Fin 1536) : (V m c main_v3 : Vec Ideal S1x1536 .f32) (ix2 0 j) = a5 m c (ix1 j) := by
  entry_read
  pointwise

theorem index0 : ∀ t : Fin cfg0.N, cc0_transform_0 (grid0.coords t) = ![t.val / 30, t.val % 30, 0] := by
  decide +kernel

theorem index1 : ∀ t : Fin cfg0.N, cc0_transform_1 (grid0.coords t) = ![t.val / 30, t.val % 30, 0] := by
  decide +kernel

theorem index2 : ∀ t : Fin cfg0.N, cc0_transform_2 (grid0.coords t) = ![t.val / 30, 0, 0] := by
  decide +kernel

theorem index3 : ∀ t : Fin cfg0.N, cc0_transform_3 (grid0.coords t) = ![0, 0] := by
  decide +kernel

theorem index4 : ∀ t : Fin cfg0.N, cc0_transform_4 (grid0.coords t) = ![0, 0] := by
  decide +kernel

theorem index5 : ∀ t : Fin cfg0.N, cc0_transform_5 (grid0.coords t) = ![0, 0] := by
  decide +kernel

theorem index6 : ∀ t : Fin cfg0.N, cc0_transform_6 (grid0.coords t) = ![t.val / 30, t.val % 30, 0] := by
  decide +kernel

theorem index7 : ∀ t : Fin cfg0.N, cc0_transform_7 (grid0.coords t) = ![t.val / 30, t.val % 30, 0] := by
  decide +kernel

theorem index8 : ∀ t : Fin cfg0.N, cc0_transform_8 (grid0.coords t) = ![t.val / 30, 0, t.val % 30] := by
  decide +kernel

theorem lt_60 (t : Fin cfg0.N) : t.val < 60 := lt_of_lt_of_eq t.isLt (show cfg0.N = 60 from N_0)

/-- The batch entry of a point. -/
abbrev entry (t : Fin cfg0.N) : Fin 2 := ⟨t.val / 30, by have := lt_60 t; omega⟩

/-- The token of a point and a row of its block. -/
abbrev token (t : Fin cfg0.N) (r : Fin 512) : Fin 15360 := ⟨512 * (t.val % 30) + r.val, by omega⟩

theorem iblk0 (t : Fin cfg0.N) (r : Fin 512) (j : Fin 1536) :
    (iblk m c 0 t : Vec Ideal S1x512x1536 .f32) (ix3 0 r j) = (V m c main_arg0 : Vec Ideal S2x15360x1536 .f32) (ix3 (entry t) (token t r) j) := by
  unfold iblk
  rw [View.read_apply]
  show V m c main_arg0 _ = V m c main_arg0 _
  congr 1
  funext ax
  apply Fin.ext
  match ax with
  | ⟨0, _⟩ =>
    have h : win0_0.index t 0 = _ := congrFun (index0 t) 0
    show win0_0.index t 0 * 1 + 1 * 0 = (_ : ℕ)
    rw [h]
    simp
    try omega
  | ⟨1, _⟩ =>
    have h : win0_0.index t 1 = _ := congrFun (index0 t) 1
    show win0_0.index t 1 * 512 + 1 * r.val = (_ : ℕ)
    rw [h]
    simp
    try omega
  | ⟨2, _⟩ =>
    have h : win0_0.index t 2 = _ := congrFun (index0 t) 2
    show win0_0.index t 2 * 1536 + 1 * j.val = (_ : ℕ)
    rw [h]
    simp
    try omega

theorem iblk1 (t : Fin cfg0.N) (r : Fin 512) (j : Fin 1536) :
    (iblk m c 1 t : Vec Ideal S1x512x1536 .bf16) (ix3 0 r j) = (V m c main_arg1 : Vec Ideal S2x15360x1536 .bf16) (ix3 (entry t) (token t r) j) := by
  unfold iblk
  rw [View.read_apply]
  show V m c main_arg1 _ = V m c main_arg1 _
  congr 1
  funext ax
  apply Fin.ext
  match ax with
  | ⟨0, _⟩ =>
    have h : win0_1.index t 0 = _ := congrFun (index1 t) 0
    show win0_1.index t 0 * 1 + 1 * 0 = (_ : ℕ)
    rw [h]
    simp
    try omega
  | ⟨1, _⟩ =>
    have h : win0_1.index t 1 = _ := congrFun (index1 t) 1
    show win0_1.index t 1 * 512 + 1 * r.val = (_ : ℕ)
    rw [h]
    simp
    try omega
  | ⟨2, _⟩ =>
    have h : win0_1.index t 2 = _ := congrFun (index1 t) 2
    show win0_1.index t 2 * 1536 + 1 * j.val = (_ : ℕ)
    rw [h]
    simp
    try omega

theorem iblk2 (t : Fin cfg0.N) (j : Fin 1536) :
    (iblk m c 2 t : Vec Ideal S1x1x1536 .f32) (ix3 0 0 j) = (V m c main_v0 : Vec Ideal S2x1x1536 .f32) (ix3 (entry t) 0 j) := by
  unfold iblk
  rw [View.read_apply]
  show V m c main_v0 _ = V m c main_v0 _
  congr 1
  funext ax
  apply Fin.ext
  match ax with
  | ⟨0, _⟩ =>
    have h : win0_2.index t 0 = _ := congrFun (index2 t) 0
    show win0_2.index t 0 * 1 + 1 * 0 = (_ : ℕ)
    rw [h]
    simp
    try omega
  | ⟨1, _⟩ =>
    have h : win0_2.index t 1 = _ := congrFun (index2 t) 1
    show win0_2.index t 1 * 1 + 1 * 0 = (_ : ℕ)
    rw [h]
    simp
    try omega
  | ⟨2, _⟩ =>
    have h : win0_2.index t 2 = _ := congrFun (index2 t) 2
    show win0_2.index t 2 * 1536 + 1 * j.val = (_ : ℕ)
    rw [h]
    simp
    try omega

theorem iblk3 (t : Fin cfg0.N) (k j : Fin 1536) :
    (iblk m c 3 t : Vec Ideal S1536x1536 .i8) (ix2 k j) = (V m c main_v1 : Vec Ideal S1536x1536 .i8) (ix2 k j) := by
  unfold iblk
  rw [View.read_apply]
  show V m c main_v1 _ = V m c main_v1 _
  congr 1
  funext ax
  apply Fin.ext
  match ax with
  | ⟨0, _⟩ =>
    have h : win0_3.index t 0 = _ := congrFun (index3 t) 0
    show win0_3.index t 0 * 1536 + 1 * k.val = (_ : ℕ)
    rw [h]
    simp
    try omega
  | ⟨1, _⟩ =>
    have h : win0_3.index t 1 = _ := congrFun (index3 t) 1
    show win0_3.index t 1 * 1536 + 1 * j.val = (_ : ℕ)
    rw [h]
    simp
    try omega

theorem iblk4 (t : Fin cfg0.N) (j : Fin 1536) :
    (iblk m c 4 t : Vec Ideal S1x1536 .f32) (ix2 0 j) = (V m c main_v2 : Vec Ideal S1x1536 .f32) (ix2 0 j) := by
  unfold iblk
  rw [View.read_apply]
  show V m c main_v2 _ = V m c main_v2 _
  congr 1
  funext ax
  apply Fin.ext
  match ax with
  | ⟨0, _⟩ =>
    have h : win0_4.index t 0 = _ := congrFun (index4 t) 0
    show win0_4.index t 0 * 1 + 1 * 0 = (_ : ℕ)
    rw [h]
    simp
    try omega
  | ⟨1, _⟩ =>
    have h : win0_4.index t 1 = _ := congrFun (index4 t) 1
    show win0_4.index t 1 * 1536 + 1 * j.val = (_ : ℕ)
    rw [h]
    simp
    try omega

theorem iblk5 (t : Fin cfg0.N) (j : Fin 1536) :
    (iblk m c 5 t : Vec Ideal S1x1536 .f32) (ix2 0 j) = (V m c main_v3 : Vec Ideal S1x1536 .f32) (ix2 0 j) := by
  unfold iblk
  rw [View.read_apply]
  show V m c main_v3 _ = V m c main_v3 _
  congr 1
  funext ax
  apply Fin.ext
  match ax with
  | ⟨0, _⟩ =>
    have h : win0_5.index t 0 = _ := congrFun (index5 t) 0
    show win0_5.index t 0 * 1 + 1 * 0 = (_ : ℕ)
    rw [h]
    simp
    try omega
  | ⟨1, _⟩ =>
    have h : win0_5.index t 1 = _ := congrFun (index5 t) 1
    show win0_5.index t 1 * 1536 + 1 * j.val = (_ : ℕ)
    rw [h]
    simp
    try omega

/-- The hidden states: the residual and the gated projection of the quantised head outputs. -/
def hidden (i : Fin 2) (n : Fin 15360) (j : Fin 1536) : EReal :=
  a1 m c (ix3 i n j) + a2 m c (ix2 i j) * project (fun j => a0 m c (ix3 i n j))
    (fun k => a3 m c (ix3 ⟨k.val / 128, by omega⟩ ⟨k.val % 128, by omega⟩ j)) (a4 m c (ix1 j)) (a5 m c (ix1 j))

theorem row_eq (t : Fin cfg0.N) (r : Fin 512) :
    (fun j => (iblk m c 0 t : Vec Ideal S1x512x1536 .f32) (ix3 0 r j)) = fun j => a0 m c (ix3 (entry t) (token t r) j) := by
  funext j
  rw [iblk0, V_main_arg0]

theorem hidden_at (t : Fin cfg0.N) (r : Fin 512) (j : Fin 1536) :
    out0_6 (iblk m c 0 t) (iblk m c 1 t) (iblk m c 2 t) (iblk m c 3 t) (iblk m c 4 t) (iblk m c 5 t) (ix3 0 r j)
      = hidden m c (entry t) (token t r) j := by
  have hw : (fun k => (iblk m c 3 t : Vec Ideal S1536x1536 .i8) (ix2 k j))
      = fun k => a3 m c (ix3 ⟨k.val / 128, by omega⟩ ⟨k.val % 128, by omega⟩ j) :=
    funext fun k => (iblk3 m c t k j).trans (weight_apply m c k j)
  refine (out6_apply _ _ _ _ _ _ r j).trans ?_
  rw [row_eq, hw, iblk1, iblk2, iblk4, iblk5, V_main_arg1, gate_apply, wscale_apply, bias_apply, hidden]

theorem byte_at (t : Fin cfg0.N) (r : Fin 512) (j : Fin 1536) :
    out0_7 (iblk m c 0 t) (iblk m c 1 t) (iblk m c 2 t) (iblk m c 3 t) (iblk m c 4 t) (iblk m c 5 t) (ix3 0 r j)
      = rowByte (fun j => a0 m c (ix3 (entry t) (token t r) j)) j := by
  rw [out7_apply, row_eq]

theorem scale_at (t : Fin cfg0.N) (r : Fin 512) :
    out0_8 (iblk m c 0 t) (iblk m c 1 t) (iblk m c 2 t) (iblk m c 3 t) (iblk m c 4 t) (iblk m c 5 t) (ix3 0 0 r)
      = rowScale fun j => a0 m c (ix3 (entry t) (token t r) j) := by
  rw [out8_apply, row_eq]

end Cert.OutProjIdeal.Rows

end
-- ==== Proof.OutFinal.lean ====
/-
  The three arrays after the output projection, whole.
-/
module

public import proofs.«01_k».proof.Proof.OutBlocks

@[expose] public section

set_option maxRecDepth 16384

noncomputable section

namespace Cert.OutProjIdeal.Rows

open Cert.OutProjIdeal Cert.OutProjIdeal.Gen Cert.Quant Idealize.ShloMosaic Idealize.ShloMosaic.TcCoe Idealize.SL.Sem

variable (m : (ℓ : Loc nD τ sig) → Buf (Elt Ideal) ℓ) (c : Dev nD)

/-- The hidden states as one array. -/
def arrHidden : Vec Ideal S2x15360x1536 .bf16 := fun i => hidden m c (i 0) (i 1) (i 2)

/-- The codes of the head outputs as one array. -/
def arrByte : Vec Ideal S2x15360x1536 .i8 := fun i => rowByte (fun j => a0 m c (ix3 (i 0) (i 1) j)) (i 2)

/-- The scales of the head outputs as one array. -/
def arrScale : Vec Ideal S2x1x15360 .f32 := fun i => rowScale fun j => a0 m c (ix3 (i 0) (i 2) j)

theorem exists_point (b n : ℕ) (hb : b < 2) (hn : n < 15360) : ∃ t : Fin cfg0.N, t.val = 30 * b + n / 512 :=
  ⟨⟨30 * b + n / 512, by rw [show cfg0.N = 60 from N_0]; omega⟩, rfl⟩

theorem flushed_hidden (t : Fin cfg0.N) (_ : (cfg0.win 6).flush t = true) :
    (dats m 0 c).flushed 6 t = ((cfg0.win 6).blk t).view.read (Elt Ideal) (arrHidden m c) := by
  have ht := lt_60 t
  rw [Value.flushed6]
  funext y
  rw [View.read_apply]
  have h0 : win0_6.index t 0 = _ := congrFun (index6 t) 0
  have e0 : (((win0_6.rect t).emb y 0 : Fin _) : ℕ) = _ := win0_6.rect_emb_val t y 0
  have y0 : (y 0).val < 1 := (y 0).isLt
  rw [h0] at e0
  have h1 : win0_6.index t 1 = _ := congrFun (index6 t) 1
  have e1 : (((win0_6.rect t).emb y 1 : Fin _) : ℕ) = _ := win0_6.rect_emb_val t y 1
  have y1 : (y 1).val < 512 := (y 1).isLt
  rw [h1] at e1
  have h2 : win0_6.index t 2 = _ := congrFun (index6 t) 2
  have e2 : (((win0_6.rect t).emb y 2 : Fin _) : ℕ) = _ := win0_6.rect_emb_val t y 2
  have y2 : (y 2).val < 1536 := (y 2).isLt
  rw [h2] at e2
  have hy : y = ix3 0 (y 1) (y 2) := (eq_ix3 y).trans (congrArg (ix3 · (y 1) (y 2)) (Fin.ext (by show (y 0).val = 0; omega)))
  have f0 : entry t = ((win0_6.rect t).emb y 0 : Fin _) := by
    refine Fin.ext (Eq.trans ?_ e0.symm)
    show t.val / 30 = t.val / 30 * 1 + (y 0).val
    omega
  have f1 : token t (y 1) = ((win0_6.rect t).emb y 1 : Fin _) := by
    refine Fin.ext (Eq.trans ?_ e1.symm)
    show 512 * (t.val % 30) + (y 1).val = t.val % 30 * 512 + (y 1).val
    omega
  have f2 : (y 2 : Fin 1536) = ((win0_6.rect t).emb y 2 : Fin _) := by
    refine Fin.ext (Eq.trans ?_ e2.symm)
    show (y 2).val = 0 * 1536 + (y 2).val
    omega
  show out0_6 (iblk m c 0 t) (iblk m c 1 t) (iblk m c 2 t) (iblk m c 3 t) (iblk m c 4 t) (iblk m c 5 t) y = arrHidden m c ((win0_6.rect t).emb y)
  rw [hy]
  refine (hidden_at m c t _ _).trans ?_
  rw [← hy]
  exact congr (congr (congrArg (hidden m c) f0) f1) f2

theorem cover_hidden (i : S2x15360x1536.Idx) : ∃ t : Fin cfg0.N, (cfg0.win 6).flush t = true ∧ i ∈ ((cfg0.win 6).blk t).view.set := by
  have i0 : (i 0).val < 2 := (i 0).isLt
  have i1 : (i 1).val < 15360 := (i 1).isLt
  have i2 : (i 2).val < 1536 := (i 2).isLt
  obtain ⟨t, ht⟩ := exists_point (i 0).val (i 1).val i0 i1
  refine ⟨t, flush0_6 t, ?_⟩
  show i ∈ ((View.whole main_v4_0).slice (win0_6.rect t)).set
  rw [View.set_slice_whole, Rect.mem_set_unit]
  have h0 : win0_6.index t 0 = _ := congrFun (index6 t) 0
  have h1 : win0_6.index t 1 = _ := congrFun (index6 t) 1
  have h2 : win0_6.index t 2 = _ := congrFun (index6 t) 2
  simp only [ht] at h0 h1 h2
  intro ax
  match ax with
  | ⟨0, _⟩ =>
    show win0_6.index t 0 * 1 ≤ (i 0).val ∧ (i 0).val < win0_6.index t 0 * 1 + 1
    rw [h0]
    simp
    omega
  | ⟨1, _⟩ =>
    show win0_6.index t 1 * 512 ≤ (i 1).val ∧ (i 1).val < win0_6.index t 1 * 512 + 512
    rw [h1]
    simp
    omega
  | ⟨2, _⟩ =>
    show win0_6.index t 2 * 1536 ≤ (i 2).val ∧ (i 2).val < win0_6.index t 2 * 1536 + 1536
    rw [h2]
    simp
    omega

theorem final_hidden : (dats m 0 c).arrAt 6 cfg0.N = arrHidden m c :=
  (dats m 0 c).arrAt_eq_of_cover 6 (arrHidden m c) (flushed_hidden m c) cover_hidden

theorem flushed_byte (t : Fin cfg0.N) (_ : (cfg0.win 7).flush t = true) :
    (dats m 0 c).flushed 7 t = ((cfg0.win 7).blk t).view.read (Elt Ideal) (arrByte m c) := by
  have ht := lt_60 t
  rw [Value.flushed7]
  funext y
  rw [View.read_apply]
  have h0 : win0_7.index t 0 = _ := congrFun (index7 t) 0
  have e0 : (((win0_7.rect t).emb y 0 : Fin _) : ℕ) = _ := win0_7.rect_emb_val t y 0
  have y0 : (y 0).val < 1 := (y 0).isLt
  rw [h0] at e0
  have h1 : win0_7.index t 1 = _ := congrFun (index7 t) 1
  have e1 : (((win0_7.rect t).emb y 1 : Fin _) : ℕ) = _ := win0_7.rect_emb_val t y 1
  have y1 : (y 1).val < 512 := (y 1).isLt
  rw [h1] at e1
  have h2 : win0_7.index t 2 = _ := congrFun (index7 t) 2
  have e2 : (((win0_7.rect t).emb y 2 : Fin _) : ℕ) = _ := win0_7.rect_emb_val t y 2
  have y2 : (y 2).val < 1536 := (y 2).isLt
  rw [h2] at e2
  have hy : y = ix3 0 (y 1) (y 2) := (eq_ix3 y).trans (congrArg (ix3 · (y 1) (y 2)) (Fin.ext (by show (y 0).val = 0; omega)))
  have f0 : entry t = ((win0_7.rect t).emb y 0 : Fin _) := by
    refine Fin.ext (Eq.trans ?_ e0.symm)
    show t.val / 30 = t.val / 30 * 1 + (y 0).val
    omega
  have f1 : token t (y 1) = ((win0_7.rect t).emb y 1 : Fin _) := by
    refine Fin.ext (Eq.trans ?_ e1.symm)
    show 512 * (t.val % 30) + (y 1).val = t.val % 30 * 512 + (y 1).val
    omega
  have f2 : (y 2 : Fin 1536) = ((win0_7.rect t).emb y 2 : Fin _) := by
    refine Fin.ext (Eq.trans ?_ e2.symm)
    show (y 2).val = 0 * 1536 + (y 2).val
    omega
  show out0_7 (iblk m c 0 t) (iblk m c 1 t) (iblk m c 2 t) (iblk m c 3 t) (iblk m c 4 t) (iblk m c 5 t) y = arrByte m c ((win0_7.rect t).emb y)
  rw [hy]
  refine (byte_at m c t _ _).trans ?_
  rw [← hy]
  exact congr (congrArg₂ (fun b n => rowByte fun j => a0 m c (ix3 b n j)) f0 f1) f2

theorem cover_byte (i : S2x15360x1536.Idx) : ∃ t : Fin cfg0.N, (cfg0.win 7).flush t = true ∧ i ∈ ((cfg0.win 7).blk t).view.set := by
  have i0 : (i 0).val < 2 := (i 0).isLt
  have i1 : (i 1).val < 15360 := (i 1).isLt
  have i2 : (i 2).val < 1536 := (i 2).isLt
  obtain ⟨t, ht⟩ := exists_point (i 0).val (i 1).val i0 i1
  refine ⟨t, flush0_7 t, ?_⟩
  show i ∈ ((View.whole main_v4_1).slice (win0_7.rect t)).set
  rw [View.set_slice_whole, Rect.mem_set_unit]
  have h0 : win0_7.index t 0 = _ := congrFun (index7 t) 0
  have h1 : win0_7.index t 1 = _ := congrFun (index7 t) 1
  have h2 : win0_7.index t 2 = _ := congrFun (index7 t) 2
  simp only [ht] at h0 h1 h2
  intro ax
  match ax with
  | ⟨0, _⟩ =>
    show win0_7.index t 0 * 1 ≤ (i 0).val ∧ (i 0).val < win0_7.index t 0 * 1 + 1
    rw [h0]
    simp
    omega
  | ⟨1, _⟩ =>
    show win0_7.index t 1 * 512 ≤ (i 1).val ∧ (i 1).val < win0_7.index t 1 * 512 + 512
    rw [h1]
    simp
    omega
  | ⟨2, _⟩ =>
    show win0_7.index t 2 * 1536 ≤ (i 2).val ∧ (i 2).val < win0_7.index t 2 * 1536 + 1536
    rw [h2]
    simp
    omega

theorem final_byte : (dats m 0 c).arrAt 7 cfg0.N = arrByte m c :=
  (dats m 0 c).arrAt_eq_of_cover 7 (arrByte m c) (flushed_byte m c) cover_byte

theorem flushed_scale (t : Fin cfg0.N) (_ : (cfg0.win 8).flush t = true) :
    (dats m 0 c).flushed 8 t = ((cfg0.win 8).blk t).view.read (Elt Ideal) (arrScale m c) := by
  have ht := lt_60 t
  rw [Value.flushed8]
  funext y
  rw [View.read_apply]
  have h0 : win0_8.index t 0 = _ := congrFun (index8 t) 0
  have e0 : (((win0_8.rect t).emb y 0 : Fin _) : ℕ) = _ := win0_8.rect_emb_val t y 0
  have y0 : (y 0).val < 1 := (y 0).isLt
  rw [h0] at e0
  have h1 : win0_8.index t 1 = _ := congrFun (index8 t) 1
  have e1 : (((win0_8.rect t).emb y 1 : Fin _) : ℕ) = _ := win0_8.rect_emb_val t y 1
  have y1 : (y 1).val < 1 := (y 1).isLt
  rw [h1] at e1
  have h2 : win0_8.index t 2 = _ := congrFun (index8 t) 2
  have e2 : (((win0_8.rect t).emb y 2 : Fin _) : ℕ) = _ := win0_8.rect_emb_val t y 2
  have y2 : (y 2).val < 512 := (y 2).isLt
  rw [h2] at e2
  have hy : y = ix3 0 0 (y 2) := (eq_ix3 y).trans (congrArg₂ (ix3 · · (y 2)) (Fin.ext (by show (y 0).val = 0; omega)) (Fin.ext (by show (y 1).val = 0; omega)))
  have f0 : entry t = ((win0_8.rect t).emb y 0 : Fin _) := by
    refine Fin.ext (Eq.trans ?_ e0.symm)
    show t.val / 30 = t.val / 30 * 1 + (y 0).val
    omega
  have f1 : token t (y 2) = ((win0_8.rect t).emb y 2 : Fin _) := by
    refine Fin.ext (Eq.trans ?_ e2.symm)
    show 512 * (t.val % 30) + (y 2).val = t.val % 30 * 512 + (y 2).val
    omega
  show out0_8 (iblk m c 0 t) (iblk m c 1 t) (iblk m c 2 t) (iblk m c 3 t) (iblk m c 4 t) (iblk m c 5 t) y = arrScale m c ((win0_8.rect t).emb y)
  rw [hy]
  refine (scale_at m c t _).trans ?_
  rw [← hy]
  exact congrArg₂ (fun b n => rowScale fun j => a0 m c (ix3 b n j)) f0 f1

theorem cover_scale (i : S2x1x15360.Idx) : ∃ t : Fin cfg0.N, (cfg0.win 8).flush t = true ∧ i ∈ ((cfg0.win 8).blk t).view.set := by
  have i0 : (i 0).val < 2 := (i 0).isLt
  have i1 : (i 1).val < 1 := (i 1).isLt
  have i2 : (i 2).val < 15360 := (i 2).isLt
  obtain ⟨t, ht⟩ := exists_point (i 0).val (i 2).val i0 i2
  refine ⟨t, flush0_8 t, ?_⟩
  show i ∈ ((View.whole main_v4_2).slice (win0_8.rect t)).set
  rw [View.set_slice_whole, Rect.mem_set_unit]
  have h0 : win0_8.index t 0 = _ := congrFun (index8 t) 0
  have h1 : win0_8.index t 1 = _ := congrFun (index8 t) 1
  have h2 : win0_8.index t 2 = _ := congrFun (index8 t) 2
  simp only [ht] at h0 h1 h2
  intro ax
  match ax with
  | ⟨0, _⟩ =>
    show win0_8.index t 0 * 1 ≤ (i 0).val ∧ (i 0).val < win0_8.index t 0 * 1 + 1
    rw [h0]
    simp
    omega
  | ⟨1, _⟩ =>
    show win0_8.index t 1 * 1 ≤ (i 1).val ∧ (i 1).val < win0_8.index t 1 * 1 + 1
    rw [h1]
    simp
    omega
  | ⟨2, _⟩ =>
    show win0_8.index t 2 * 512 ≤ (i 2).val ∧ (i 2).val < win0_8.index t 2 * 512 + 512
    rw [h2]
    simp
    omega

theorem final_scale : (dats m 0 c).arrAt 8 cfg0.N = arrScale m c :=
  (dats m 0 c).arrAt_eq_of_cover 8 (arrScale m c) (flushed_scale m c) cover_scale

end Cert.OutProjIdeal.Rows

end
-- ==== Proof.OutRef.lean ====
/-
  The reference of the output projection: its body's values, and its three results.
-/
module

public import proofs.«01_k».proof.Proof.Gen.OutProjReferenceIdeal.Frame
public import proofs.«01_k».proof.Proof.Quant
public import Idealize.ShloMosaic.Lib.Pipeline.Value

@[expose] public section

set_option maxRecDepth 16384

noncomputable section

namespace Cert.OutProjReferenceIdeal.Rows

open Cert.OutProjReferenceIdeal Cert.OutProjReferenceIdeal.Gen Cert.Quant Idealize.ShloMosaic Idealize.ShloMosaic.TcCoe Idealize.SL.Sem

section Body

variable (o : Vec Ideal S2x15360x1536 .f32)

theorem scale_of (a : FVec Ideal S2x15360 .f32) (i : Fin 2) (r : Fin 15360) :
    select (cmpf .oeq (shapeCast S2x15360x1 a shapeCasts_S2x15360_S2x15360x1) (broadcast S2x15360x1 (Scalar.ofBits .f32 0x00000000#32)))
      (broadcast S2x15360x1 (Scalar.ofBits .f32 0x3F800000#32))
      (divf (shapeCast S2x15360x1 a shapeCasts_S2x15360_S2x15360x1) (broadcast S2x15360x1 (Scalar.ofBits .f32 0x42FE0000#32))) (ix3 i r 0)
      = scale (Ideal.ofBits .f32 0x42FE0000#32) (a (ix2 i r)) := by
  pointwise []
  rfl

theorem scale_apply (i : Fin 2) (r : Fin 15360) : k0_pay3 o (ix3 i r 0) = rowScale fun j => o (ix3 i r j) := by
  rw [k0_pay3]
  refine (scale_of _ i r).trans (congrArg (scale _) ?_)
  exact amax3_apply o _ _ _ i r

theorem code_of (x : FVec Ideal S2x15360x1536 .f32) (sc : FVec Ideal S2x15360x1 .f32) (i : Fin 2) (r : Fin 15360) (j : Fin 1536) :
    minimumf (broadcast S2x15360x1536 (Scalar.ofBits .f32 0x42FE0000#32))
      (maximumf (broadcast S2x15360x1536 (Scalar.ofBits .f32 0xC2FE0000#32))
        (roundeven (divf x (broadcastTo S2x15360x1536 sc broadcasts_S2x15360x1_S2x15360x1536)))) (ix3 i r j)
      = code (Ideal.ofBits .f32 0xC2FE0000#32) (Ideal.ofBits .f32 0x42FE0000#32) (x (ix3 i r j)) (sc (ix3 i r 0)) := by
  pointwise []
  rfl

theorem byte_apply (i : Fin 2) (r : Fin 15360) (j : Fin 1536) : k0_pay4 o (ix3 i r j) = rowByte (fun j => o (ix3 i r j)) j := by
  rw [k0_pay4]
  refine congrArg (FloatOps.fptosi (F := Ideal) (φ := .f32) 8) ((code_of o (k0_pay3 o) i r j).trans ?_)
  rw [scale_apply]
  rfl

theorem row_of (a : FVec Ideal S2x15360x1 .f32) (i : Fin 2) (r : Fin 15360) : k0_pay2 a (ix3 i 0 r) = a (ix3 i r 0) := by
  pointwise [k0_pay2]

theorem scaleRow_apply (i : Fin 2) (r : Fin 15360) : k0_pay2 (k0_pay3 o) (ix3 i 0 r) = rowScale fun j => o (ix3 i r j) :=
  (row_of _ i r).trans (scale_apply o i r)

theorem project_of (cd : IVec S2x15360x1536 8) (sc : FVec Ideal S2x15360x1 .f32) (w : Vec Ideal S1536x1536 .i8) (s b : Vec Ideal S1x1x1536 .f32)
    (i : Fin 2) (r : Fin 15360) (j : Fin 1536) :
    addf (mulf (mulf (matmul dot_S2x15360x1536_S1536x1536_S2x15360x1536_2_0_01_1_n_n none (sitofp .bf16 cd)
          (sitofp .bf16 (shapeCast S1536x1536 w shapeCasts_S1536x1536_S1536x1536)) (constant S2x15360x1536 .f32 0x00000000#32))
        (broadcastTo S2x15360x1536 sc broadcasts_S2x15360x1_S2x15360x1536))
        (broadcastTo S2x15360x1536 (shapeCast S1x1x1536 s shapeCasts_S1x1x1536_S1x1x1536) broadcasts_S1x1x1536_S2x15360x1536))
      (broadcastTo S2x15360x1536 (shapeCast S1x1x1536 b shapeCasts_S1x1x1536_S1x1x1536) broadcasts_S1x1x1536_S2x15360x1536) (ix3 i r j)
      = (∑ k : Fin 1536, FloatOps.sitofp (F := Ideal) .bf16 (cd (ix3 i r k)) * FloatOps.sitofp (F := Ideal) .bf16 (w (ix2 k j))) * sc (ix3 i r 0)
        * s (ix3 0 0 j) + b (ix3 0 0 j) := by
  pointwise []

theorem project_apply (w : Vec Ideal S1536x1536 .i8) (s b : Vec Ideal S1x1x1536 .f32) (i : Fin 2) (r : Fin 15360) (j : Fin 1536) :
    k0_pay5 o w s b (ix3 i r j) = project (fun j => o (ix3 i r j)) (fun k => w (ix2 k j)) (s (ix3 0 0 j)) (b (ix3 0 0 j)) := by
  rw [k0_pay5]
  refine (project_of (k0_pay4 o) (k0_pay3 o) w s b i r j).trans ?_
  rw [scale_apply]
  simp only [byte_apply, byte_rowCode]
  rfl

theorem hidden_apply (y x : FVec Ideal S2x15360x1536 .f32) (g : Vec Ideal S2x1x1536 .f32) (i : Fin 2) (r : Fin 15360) (j : Fin 1536) :
    k0_pay1 y x g (ix3 i r j) = x (ix3 i r j) + g (ix3 i 0 j) * y (ix3 i r j) := by
  pointwise [k0_pay1]

theorem wide_apply (x : Vec Ideal S2x15360x1536 .bf16) (i : Fin 2) (r : Fin 15360) (j : Fin 1536) : k0_pay6 x (ix3 i r j) = x (ix3 i r j) := by
  pointwise [k0_pay6]

end Body

theorem origin2 : (![0, 0] : Fin 2 → ℕ) = fun _ => 0 := funext fun a => by fin_cases a <;> rfl

theorem origin3 : (![0, 0, 0] : Fin 3 → ℕ) = fun _ => 0 := funext fun a => by fin_cases a <;> rfl

section Results

variable (x0 : Vec Ideal S2x15360x1536 .f32) (x1 : Vec Ideal S2x15360x1536 .bf16) (x2 : Vec Ideal S2x1x1536 .f32) (x3 : Vec Ideal S1536x1536 .i8)
  (x4 x5 : Vec Ideal S1x1x1536 .f32)

theorem out6_apply (i : Fin 2) (r : Fin 15360) (j : Fin 1536) : out0_6 x0 x1 x2 x3 x4 x5 (ix3 i r j)
    = x1 (ix3 i r j) + x2 (ix3 i 0 j) * project (fun j => x0 (ix3 i r j)) (fun k => x3 (ix2 k j)) (x4 (ix3 0 0 j)) (x5 (ix3 0 0 j)) := by
  unfold out0_6
  rw [View.canon_unit_zero origin3]
  rw [View.ld_unit_zero origin3 _ x0, View.ld_unit_zero origin2 _ x3, View.ld_unit_zero origin3 _ x4, View.ld_unit_zero origin3 _ x5, View.ld_unit_zero origin3 _ x1, View.ld_unit_zero origin3 _ x2]
  rw [hidden_apply, project_apply, wide_apply]

theorem out7_apply (i : Fin 2) (r : Fin 15360) (j : Fin 1536) : out0_7 x0 x1 x2 x3 x4 x5 (ix3 i r j) = rowByte (fun j => x0 (ix3 i r j)) j := by
  unfold out0_7
  rw [View.canon_unit_zero origin3, View.ld_unit_zero origin3 _ x0]
  exact byte_apply ..

theorem out8_apply (i : Fin 2) (r : Fin 15360) : out0_8 x0 x1 x2 x3 x4 x5 (ix3 i 0 r) = rowScale fun j => x0 (ix3 i r j) := by
  unfold out0_8
  rw [View.canon_unit_zero origin3, View.ld_unit_zero origin3 _ x0]
  exact scaleRow_apply ..

end Results

end Cert.OutProjReferenceIdeal.Rows

end
-- ==== Proof.OutRefRun.lean ====
/-
  The run of the reference of the output projection, and the operands that it lays out before its call.
-/
module

public import proofs.«01_k».proof.Proof.OutRef
public import proofs.«01_k».proof.Proof.Gen.OutProjReferenceIdeal.Value
public import Idealize.ShloMosaic.Lib.Claim

@[expose] public section

set_option maxRecDepth 16384

noncomputable section

namespace Cert.OutProjReferenceIdeal.Rows

open Cert.OutProjReferenceIdeal Cert.OutProjReferenceIdeal.Gen Cert.Quant Idealize.ShloMosaic Idealize.ShloMosaic.TcCoe Idealize.SL.Sem

variable (m : (ℓ : Loc nD τ sig) → Buf (Elt Ideal) ℓ) (ρ : Dev nD → PrngReg) (c : Dev nD)

theorem gate_apply (i : Fin 2) (j : Fin 1536) : (V m c main_v0 : Vec Ideal S2x1x1536 .f32) (ix3 i 0 j)
    = (m ((c : Thread nD τ).loc main_arg2) : Vec Ideal S2x1536 .f32) (ix2 i j) := by
  entry_read
  pointwise

theorem weight_apply (k j : Fin 1536) : (V m c main_v1 : Vec Ideal S1536x1536 .i8) (ix2 k j)
    = (m ((c : Thread nD τ).loc main_arg3) : Vec Ideal S12x128x1536 .i8) (ix3 ⟨k.val / 128, by omega⟩ ⟨k.val % 128, by omega⟩ j) := by
  entry_read
  pointwise

theorem wscale_apply (j : Fin 1536) : (V m c main_v2 : Vec Ideal S1x1x1536 .f32) (ix3 0 0 j)
    = (m ((c : Thread nD τ).loc main_arg4) : Vec Ideal S1536 .f32) (ix1 j) := by
  entry_read
  pointwise

theorem bias_apply (j : Fin 1536) : (V m c main_v3 : Vec Ideal S1x1x1536 .f32) (ix3 0 0 j)
    = (m ((c : Thread nD τ).loc main_arg5) : Vec Ideal S1536 .f32) (ix1 j) := by
  entry_read
  pointwise

theorem emb0 (t : Fin cfg0.N) (j : S2x15360x1536.Idx) : ((cfg0.win 0).blk t).view.emb j = j :=
  funext fun a => Fin.ext (win0_0.rect_emb_val_of_index_zero t a rfl j)

theorem iblk0 (t : Fin cfg0.N) : (iblk m c 0 t : Vec Ideal S2x15360x1536 .f32) = V m c main_arg0 := by
  funext j
  show V m c main_arg0 (((cfg0.win 0).blk t).view.emb j) = V m c main_arg0 j
  rw [emb0]

theorem emb1 (t : Fin cfg0.N) (j : S2x15360x1536.Idx) : ((cfg0.win 1).blk t).view.emb j = j :=
  funext fun a => Fin.ext (win0_1.rect_emb_val_of_index_zero t a rfl j)

theorem iblk1 (t : Fin cfg0.N) : (iblk m c 1 t : Vec Ideal S2x15360x1536 .bf16) = V m c main_arg1 := by
  funext j
  show V m c main_arg1 (((cfg0.win 1).blk t).view.emb j) = V m c main_arg1 j
  rw [emb1]

theorem emb2 (t : Fin cfg0.N) (j : S2x1x1536.Idx) : ((cfg0.win 2).blk t).view.emb j = j :=
  funext fun a => Fin.ext (win0_2.rect_emb_val_of_index_zero t a rfl j)

theorem iblk2 (t : Fin cfg0.N) : (iblk m c 2 t : Vec Ideal S2x1x1536 .f32) = V m c main_v0 := by
  funext j
  show V m c main_v0 (((cfg0.win 2).blk t).view.emb j) = V m c main_v0 j
  rw [emb2]

theorem emb3 (t : Fin cfg0.N) (j : S1536x1536.Idx) : ((cfg0.win 3).blk t).view.emb j = j :=
  funext fun a => Fin.ext (win0_3.rect_emb_val_of_index_zero t a rfl j)

theorem iblk3 (t : Fin cfg0.N) : (iblk m c 3 t : Vec Ideal S1536x1536 .i8) = V m c main_v1 := by
  funext j
  show V m c main_v1 (((cfg0.win 3).blk t).view.emb j) = V m c main_v1 j
  rw [emb3]

theorem emb4 (t : Fin cfg0.N) (j : S1x1x1536.Idx) : ((cfg0.win 4).blk t).view.emb j = j :=
  funext fun a => Fin.ext (win0_4.rect_emb_val_of_index_zero t a rfl j)

theorem iblk4 (t : Fin cfg0.N) : (iblk m c 4 t : Vec Ideal S1x1x1536 .f32) = V m c main_v2 := by
  funext j
  show V m c main_v2 (((cfg0.win 4).blk t).view.emb j) = V m c main_v2 j
  rw [emb4]

theorem emb5 (t : Fin cfg0.N) (j : S1x1x1536.Idx) : ((cfg0.win 5).blk t).view.emb j = j :=
  funext fun a => Fin.ext (win0_5.rect_emb_val_of_index_zero t a rfl j)

theorem iblk5 (t : Fin cfg0.N) : (iblk m c 5 t : Vec Ideal S1x1x1536 .f32) = V m c main_v3 := by
  funext j
  show V m c main_v3 (((cfg0.win 5).blk t).view.emb j) = V m c main_v3 j
  rw [emb5]

theorem emb6 (t : Fin cfg0.N) (j : S2x15360x1536.Idx) : ((cfg0.win 6).blk t).view.emb j = j :=
  funext fun a => Fin.ext (win0_6.rect_emb_val_of_index_zero t a rfl j)

theorem emb7 (t : Fin cfg0.N) (j : S2x15360x1536.Idx) : ((cfg0.win 7).blk t).view.emb j = j :=
  funext fun a => Fin.ext (win0_7.rect_emb_val_of_index_zero t a rfl j)

theorem emb8 (t : Fin cfg0.N) (j : S2x1x15360.Idx) : ((cfg0.win 8).blk t).view.emb j = j :=
  funext fun a => Fin.ext (win0_8.rect_emb_val_of_index_zero t a rfl j)

theorem final6 : (dats m 0 c).arrAt 6 cfg0.N = (out0_6 (V m c main_arg0) (V m c main_arg1) (V m c main_v0) (V m c main_v1) (V m c main_v2) (V m c main_v3) : Vec Ideal S2x15360x1536 .bf16) := by
  refine (dats m 0 c).arrAt_eq_of_cover 6 _ (fun t _ => ?_) fun i => ⟨t0_0, flush0_6 _, ?_⟩
  · show (cfg0.win 6).cut (grid0.coords t) ((dats m 0 c).after 6 t) = _
    rw [after0_6, iblk0, iblk1, iblk2, iblk3, iblk4, iblk5]
    generalize (out0_6 (V m c main_arg0) (V m c main_arg1) (V m c main_v0) (V m c main_v1) (V m c main_v2) (V m c main_v3) : Vec Ideal S2x15360x1536 .bf16) = X
    funext j
    show X j = X (((cfg0.win 6).blk t).view.emb j)
    rw [emb6]
  · have h := ((cfg0.win 6).blk t0_0).view.emb_mem_set i
    rwa [emb6] at h

theorem final7 : (dats m 0 c).arrAt 7 cfg0.N = (out0_7 (V m c main_arg0) (V m c main_arg1) (V m c main_v0) (V m c main_v1) (V m c main_v2) (V m c main_v3) : Vec Ideal S2x15360x1536 .i8) := by
  refine (dats m 0 c).arrAt_eq_of_cover 7 _ (fun t _ => ?_) fun i => ⟨t0_0, flush0_7 _, ?_⟩
  · show (cfg0.win 7).cut (grid0.coords t) ((dats m 0 c).after 7 t) = _
    rw [after0_7, iblk0, iblk1, iblk2, iblk3, iblk4, iblk5]
    generalize (out0_7 (V m c main_arg0) (V m c main_arg1) (V m c main_v0) (V m c main_v1) (V m c main_v2) (V m c main_v3) : Vec Ideal S2x15360x1536 .i8) = X
    funext j
    show X j = X (((cfg0.win 7).blk t).view.emb j)
    rw [emb7]
  · have h := ((cfg0.win 7).blk t0_0).view.emb_mem_set i
    rwa [emb7] at h

theorem final8 : (dats m 0 c).arrAt 8 cfg0.N = (out0_8 (V m c main_arg0) (V m c main_arg1) (V m c main_v0) (V m c main_v1) (V m c main_v2) (V m c main_v3) : Vec Ideal S2x1x15360 .f32) := by
  refine (dats m 0 c).arrAt_eq_of_cover 8 _ (fun t _ => ?_) fun i => ⟨t0_0, flush0_8 _, ?_⟩
  · show (cfg0.win 8).cut (grid0.coords t) ((dats m 0 c).after 8 t) = _
    rw [after0_8, iblk0, iblk1, iblk2, iblk3, iblk4, iblk5]
    generalize (out0_8 (V m c main_arg0) (V m c main_arg1) (V m c main_v0) (V m c main_v1) (V m c main_v2) (V m c main_v3) : Vec Ideal S2x1x15360 .f32) = X
    funext j
    show X j = X (((cfg0.win 8).blk t).view.emb j)
    rw [emb8]
  · have h := ((cfg0.win 8).blk t0_0).view.emb_mem_set i
    rwa [emb8] at h

end Cert.OutProjReferenceIdeal.Rows

end
-- ==== Proof.OutMatch.lean ====
/-
  The output projection's three results and its reference's: the same functions of the arguments.
-/
module

public import proofs.«01_k».proof.Proof.OutFinal
public import proofs.«01_k».proof.Proof.OutRefRun

@[expose] public section

set_option maxRecDepth 16384

noncomputable section

namespace Cert.OutMatch

open Cert.Quant Idealize.ShloMosaic Idealize.ShloMosaic.TcCoe Idealize.SL.Sem

open Cert.OutProjIdeal.Rows (a0 a1 a2 a3 a4 a5 arrHidden arrByte arrScale)

open Cert.OutProjReferenceIdeal (main_arg0 main_arg1 main_arg2 main_arg3 main_arg4 main_arg5 main_v0 main_v1 main_v2 main_v3)

open Cert.OutProjReferenceIdeal.Gen (V out0_6 out0_7 out0_8)

variable (m : (ℓ : Loc Cert.OutProjIdeal.nD Cert.OutProjIdeal.τ Cert.OutProjIdeal.sig) → Buf (Elt Ideal) ℓ) (c : Dev Cert.OutProjIdeal.nD)
  (m' : (ℓ : Loc Cert.OutProjReferenceIdeal.nD Cert.OutProjReferenceIdeal.τ Cert.OutProjReferenceIdeal.sig) → Buf (Elt Ideal) ℓ) (c' : Dev Cert.OutProjReferenceIdeal.nD)
  (h0 : (m' ((c' : Thread Cert.OutProjReferenceIdeal.nD Cert.OutProjReferenceIdeal.τ).loc main_arg0) : Vec Ideal Cert.OutProjIdeal.S2x15360x1536 .f32) = a0 m c)
  (h1 : (m' ((c' : Thread Cert.OutProjReferenceIdeal.nD Cert.OutProjReferenceIdeal.τ).loc main_arg1) : Vec Ideal Cert.OutProjIdeal.S2x15360x1536 .bf16) = a1 m c)
  (h2 : (m' ((c' : Thread Cert.OutProjReferenceIdeal.nD Cert.OutProjReferenceIdeal.τ).loc main_arg2) : Vec Ideal Cert.OutProjIdeal.S2x1536 .f32) = a2 m c)
  (h3 : (m' ((c' : Thread Cert.OutProjReferenceIdeal.nD Cert.OutProjReferenceIdeal.τ).loc main_arg3) : Vec Ideal Cert.OutProjIdeal.S12x128x1536 .i8) = a3 m c)
  (h4 : (m' ((c' : Thread Cert.OutProjReferenceIdeal.nD Cert.OutProjReferenceIdeal.τ).loc main_arg4) : Vec Ideal Cert.OutProjIdeal.S1536 .f32) = a4 m c)
  (h5 : (m' ((c' : Thread Cert.OutProjReferenceIdeal.nD Cert.OutProjReferenceIdeal.τ).loc main_arg5) : Vec Ideal Cert.OutProjIdeal.S1536 .f32) = a5 m c)

include h0

theorem row_eq (i : Fin 2) (n : Fin 15360) :
    (fun j => (V m' c' main_arg0 : Vec Ideal Cert.OutProjReferenceIdeal.S2x15360x1536 .f32) (ix3 i n j)) = fun j => a0 m c (ix3 i n j) := by
  rw [Cert.OutProjReferenceIdeal.Gen.V_main_arg0]
  exact funext fun j => congrFun h0 _

theorem byte_eq (i : Fin 2) (n : Fin 15360) (j : Fin 1536) : rowByte (fun j => a0 m c (ix3 i n j)) j = out0_7 (V m' c' main_arg0) (V m' c' main_arg1) (V m' c' main_v0) (V m' c' main_v1) (V m' c' main_v2) (V m' c' main_v3) (ix3 i n j) := by
  rw [Cert.OutProjReferenceIdeal.Rows.out7_apply, row_eq m c m' c' h0]

theorem scale_eq (i : Fin 2) (n : Fin 15360) : (rowScale fun j => a0 m c (ix3 i n j)) = out0_8 (V m' c' main_arg0) (V m' c' main_arg1) (V m' c' main_v0) (V m' c' main_v1) (V m' c' main_v2) (V m' c' main_v3) (ix3 i 0 n) := by
  rw [Cert.OutProjReferenceIdeal.Rows.out8_apply, row_eq m c m' c' h0]

/-- The codes of the head outputs agree. -/
theorem arrByte_eq : arrByte m c = out0_7 (V m' c' main_arg0) (V m' c' main_arg1) (V m' c' main_v0) (V m' c' main_v1) (V m' c' main_v2) (V m' c' main_v3) := by
  funext i
  rw [eq_ix3 i]
  exact byte_eq m c m' c' h0 (i 0) (i 1) (i 2)

/-- The scales of the head outputs agree. -/
theorem arrScale_eq : arrScale m c = out0_8 (V m' c' main_arg0) (V m' c' main_arg1) (V m' c' main_v0) (V m' c' main_v1) (V m' c' main_v2) (V m' c' main_v3) := by
  funext i
  have hi : i = ix3 (i 0) 0 (i 2) := (eq_ix3 i).trans (congrArg (ix3 (i 0) · (i 2)) (Subsingleton.elim _ _))
  rw [hi]
  exact scale_eq m c m' c' h0 (i 0) (i 2)

include h1 h2 h3 h4 h5

theorem hidden_eq (i : Fin 2) (n : Fin 15360) (j : Fin 1536) : Cert.OutProjIdeal.Rows.hidden m c i n j = out0_6 (V m' c' main_arg0) (V m' c' main_arg1) (V m' c' main_v0) (V m' c' main_v1) (V m' c' main_v2) (V m' c' main_v3) (ix3 i n j) := by
  have hw : (fun k => (V m' c' main_v1 : Vec Ideal Cert.OutProjReferenceIdeal.S1536x1536 .i8) (ix2 k j))
      = fun k => a3 m c (ix3 ⟨k.val / 128, by omega⟩ ⟨k.val % 128, by omega⟩ j) :=
    funext fun k => (Cert.OutProjReferenceIdeal.Rows.weight_apply m' c' k j).trans (congrFun h3 _)
  rw [Cert.OutProjReferenceIdeal.Rows.out6_apply, row_eq m c m' c' h0, hw, Cert.OutProjReferenceIdeal.Gen.V_main_arg1, Cert.OutProjReferenceIdeal.Rows.gate_apply, Cert.OutProjReferenceIdeal.Rows.wscale_apply,
    Cert.OutProjReferenceIdeal.Rows.bias_apply, h1, h2, h4, h5, Cert.OutProjIdeal.Rows.hidden]

/-- The hidden states agree. -/
theorem arrHidden_eq : arrHidden m c = out0_6 (V m' c' main_arg0) (V m' c' main_arg1) (V m' c' main_v0) (V m' c' main_v1) (V m' c' main_v2) (V m' c' main_v3) := by
  funext i
  rw [eq_ix3 i]
  exact hidden_eq m c m' c' h0 h1 h2 h3 h4 h5 (i 0) (i 1) (i 2)

end Cert.OutMatch

end
-- ==== Proof.LnMath.lean ====
/-
  The normalised, modulated row, the row of a projected head, and the rotation of its pairs of channels.
-/
module

public import proofs.«01_k».proof.Proof.Quant

@[expose] public section

set_option maxRecDepth 16384

noncomputable section

namespace Cert.LnMath

open Cert.Quant Idealize.ShloMosaic

/-- The mean of a row of 1536 channels. -/
def mean (x : Fin 1536 → EReal) : EReal := Ideal.div (∑ k, x k) (Ideal.ofBits .f32 0x44C00000#32)

/-- A row less its mean. -/
def centred (x : Fin 1536 → EReal) (j : Fin 1536) : EReal := x j - mean x

/-- The square root of the mean of the squares, with the small term under the root. -/
def root (x : Fin 1536 → EReal) : EReal := Ideal.sqrt (mean (fun k => x k * x k) + Ideal.ofBits .f32 0x358637BD#32)

/-- The row after the layer norm and the modulation. -/
def normed (x scale shift : Fin 1536 → EReal) (j : Fin 1536) : EReal :=
  Ideal.div (centred x j) (root (centred x)) * (1 + scale j) + shift j

/-- The row after the division by the root mean square over all its channels, and the gain. -/
def gained (x g : Fin 1536 → EReal) (j : Fin 1536) : EReal := Ideal.div (x j) (root x) * g j

/-- The other channel of a pair. -/
def partner (j : Fin 128) : Fin 128 := ⟨if j.val % 2 = 0 then j.val + 1 else j.val - 1, by split <;> omega⟩

/-- The pair of a channel. -/
def pair (j : Fin 128) : Fin 64 := ⟨j.val / 2, by omega⟩

/-- The head's channels, each pair turned by its angle. -/
def turned (y : Fin 128 → EReal) (c s : Fin 64 → EReal) (j : Fin 128) : EReal :=
  if j.val % 2 = 0 then y j * c (pair j) - y (partner j) * s (pair j) else y (partner j) * s (pair j) + y j * c (pair j)

/-- The sine of a channel's pair, negated on the even channels. -/
def signed (s : Fin 64 → EReal) (j : Fin 128) : EReal := if j.val % 2 = 0 then 0 - s (pair j) else s (pair j)

/-- A channel times the cosine, and its partner times the signed sine, make the rotation. -/
theorem turned_eq (y : Fin 128 → EReal) (c s : Fin 64 → EReal) (j : Fin 128) :
    y j * c (pair j) + y (partner j) * signed s j = turned y c s j := by
  unfold turned signed
  split
  · rw [zero_sub, mul_neg, sub_eq_add_neg]
  · exact add_comm _ _

/-- The channel of all the heads that a head's channel is. -/
abbrev chan (h : Fin 12) (j : Fin 128) : Fin 1536 := ⟨128 * h.val + j.val, by omega⟩

/-- The projected row of the keys. -/
def keyRow (x : Fin 1536 → EReal) (w : Fin 1536 → Fin 3072 → BitVec 8) (s b : Fin 3072 → EReal) (e : Fin 1536) : EReal :=
  project x (fun k => w k ⟨e.val, by omega⟩) (s ⟨e.val, by omega⟩) (b ⟨e.val, by omega⟩)

/-- The projected row of the values. -/
def valueRow (x : Fin 1536 → EReal) (w : Fin 1536 → Fin 3072 → BitVec 8) (s b : Fin 3072 → EReal) (e : Fin 1536) : EReal :=
  project x (fun k => w k ⟨1536 + e.val, by omega⟩) (s ⟨1536 + e.val, by omega⟩) (b ⟨1536 + e.val, by omega⟩)

/-- A key's head: projected, normalised over all the channels, and rotated. -/
def key (x : Fin 1536 → EReal) (w : Fin 1536 → Fin 3072 → BitVec 8) (s b : Fin 3072 → EReal) (g : Fin 1536 → EReal)
    (cs sn : Fin 64 → EReal) (h : Fin 12) (j : Fin 128) : EReal :=
  turned (fun j => gained (keyRow x w s b) g (chan h j)) cs sn j

end Cert.LnMath

end
-- ==== Proof.LnRows.lean ====
/-
  The values of the body of the normalisation and projection, read at an index.
-/
module

public import proofs.«01_k».proof.Proof.Gen.LnKvIdeal.Skeleton
public import proofs.«01_k».proof.Proof.LnMath

@[expose] public section

set_option maxRecDepth 16384

noncomputable section

namespace Cert.LnKvIdeal.Rows

open Cert.LnKvIdeal Cert.LnKvIdeal.Gen Cert.Quant Cert.LnMath Idealize.ShloMosaic Idealize.ShloMosaic.TcCoe Idealize.SL.Sem

section Row

variable (x : Vec Ideal S1x512x1536 .bf16) (ms sh : Vec Ideal S1x1x1536 .f32)

/-- The normalised row of a token of the block. -/
def row (r : Fin 512) : Fin 1536 → EReal := normed (fun k => x (ix3 0 r k)) (fun k => ms (ix3 0 0 k)) fun k => sh (ix3 0 0 k)

theorem norm_apply (r : Fin 512) (j : Fin 1536) : k0_pay14 x ms sh (ix2 r j) = row x ms sh r j := by
  pointwise [k0_pay14]
  rfl

theorem scale_of (a : FVec Ideal S512 .f32) (r : Fin 512) :
    select (cmpf .oeq (shapeCast S512x1 a shapeCasts_S512_S512x1) (broadcast S512x1 (Scalar.ofBits .f32 0x00000000#32)))
      (broadcast S512x1 (Scalar.ofBits .f32 0x3F800000#32))
      (divf (shapeCast S512x1 a shapeCasts_S512_S512x1) (broadcast S512x1 (Scalar.ofBits .f32 0x42FE0000#32))) (ix2 r 0)
      = scale (Ideal.ofBits .f32 0x42FE0000#32) (a (ix1 r)) := by
  pointwise []
  rfl

theorem scale_apply (r : Fin 512) : k0_pay15 x ms sh (ix2 r 0) = rowScale (row x ms sh r) := by
  rw [k0_pay15]
  refine (scale_of _ r).trans (congrArg (scale _) ?_)
  refine (amax_apply (k0_pay14 x ms sh) _ _ _ r).trans (congrArg amax ?_)
  exact funext fun j => norm_apply x ms sh r j

theorem spread_of (a : FVec Ideal S512x1 .f32) (r : Fin 512) (j : Fin 1536) :
    broadcastTo S512x1536 a broadcasts_S512x1_S512x1536 (ix2 r j) = a (ix2 r 0) := by
  pointwise []

theorem spread_apply (r : Fin 512) (j : Fin 1536) : k0_pay16 x ms sh (ix2 r j) = rowScale (row x ms sh r) := by
  rw [k0_pay16]
  exact (spread_of _ r j).trans (scale_apply ..)

theorem code_of (n s : FVec Ideal S512x1536 .f32) (r : Fin 512) (j : Fin 1536) : k0_pay17 n s (ix2 r j)
    = code (Ideal.ofBits .f32 0xC2FE0000#32) (Ideal.ofBits .f32 0x42FE0000#32) (n (ix2 r j)) (s (ix2 r j)) := by
  pointwise [k0_pay17]
  rfl

theorem code_apply (r : Fin 512) (j : Fin 1536) :
    k0_pay17 (k0_pay14 x ms sh) (k0_pay16 x ms sh) (ix2 r j) = rowCode (row x ms sh r) j := by
  rw [code_of, norm_apply, spread_apply]
  rfl

theorem byte_of (n s : FVec Ideal S512x1536 .f32) (r : Fin 512) (j : Fin 1536) :
    k0_pay18 n s (ix3 0 r j) = FloatOps.fptosi (F := Ideal) (φ := .f32) 8 (k0_pay17 n s (ix2 r j)) := by
  pointwise [k0_pay18]

theorem byte_apply (r : Fin 512) (j : Fin 1536) :
    k0_pay18 (k0_pay14 x ms sh) (k0_pay16 x ms sh) (ix3 0 r j) = rowByte (row x ms sh r) j := by
  rw [byte_of, code_apply]
  rfl

theorem line_of (a : FVec Ideal S512x1 .f32) (r : Fin 512) : k0_pay19 a (ix3 0 0 r) = a (ix2 r 0) := by
  pointwise [k0_pay19]
  split
  · rfl
  split
  · exact congrArg (fun u => a (ix2 u 0)) (Fin.ext (by show 128 + (r.val - 128) = r.val; omega))
  split
  · exact congrArg (fun u => a (ix2 u 0)) (Fin.ext (by show 256 + (r.val - 128 - 128) = r.val; omega))
  · exact congrArg (fun u => a (ix2 u 0)) (Fin.ext (by show 384 + (r.val - 128 - 128 - 128) = r.val; omega))

theorem line_apply (r : Fin 512) : k0_pay19 (k0_pay15 x ms sh) (ix3 0 0 r) = rowScale (row x ms sh r) :=
  (line_of _ r).trans (scale_apply ..)

variable (w : Vec Ideal S1536x3072 .i8) (s b : Vec Ideal S1x3072 .f32)

theorem project_of (cd : FVec Ideal S512x1536 .bf16) (sc : FVec Ideal S512x1 .f32) (r : Fin 512) (e : Fin 3072) :
    addf (mulf (mulf (matmul dot_S512x1536_S1536x3072_S512x3072_1_0_0_1_n_n none cd
          (sitofp .bf16 (shapeCast S1536x3072 w shapeCasts_S1536x3072_S1536x3072)) (constant S512x3072 .f32 0x00000000#32))
        (broadcastTo S512x3072 sc broadcasts_S512x1_S512x3072))
        (broadcastTo S512x3072 (shapeCast S1x3072 s shapeCasts_S1x3072_S1x3072) broadcasts_S1x3072_S512x3072))
      (broadcastTo S512x3072 (shapeCast S1x3072 b shapeCasts_S1x3072_S1x3072) broadcasts_S1x3072_S512x3072) (ix2 r e)
      = (∑ k : Fin 1536, cd (ix2 r k) * FloatOps.sitofp (F := Ideal) .bf16 (w (ix2 k e))) * sc (ix2 r 0) * s (ix2 0 e) + b (ix2 0 e) := by
  pointwise []

/-- The block's projection. -/
def proj : FVec Ideal S512x3072 .f32 := k0_pay20 (k0_pay14 x ms sh) (k0_pay15 x ms sh) (k0_pay16 x ms sh) w s b

theorem proj_apply (r : Fin 512) (e : Fin 3072) :
    proj x ms sh w s b (ix2 r e) = project (row x ms sh r) (fun k => w (ix2 k e)) (s (ix2 0 e)) (b (ix2 0 e)) := by
  rw [proj, k0_pay20]
  refine (project_of w s b (k0_pay17 (k0_pay14 x ms sh) (k0_pay16 x ms sh)) (k0_pay15 x ms sh) r e).trans ?_
  rw [scale_apply]
  simp only [code_apply]
  rfl

end Row

end Cert.LnKvIdeal.Rows

end
-- ==== Proof.LnHeads.lean ====
/-
  The heads of the keys and values that the body of the normalisation and projection stores.
-/
module

public import proofs.«01_k».proof.Proof.Gen.LnKvIdeal.Skeleton
public import proofs.«01_k».proof.Proof.LnMath

@[expose] public section

set_option maxRecDepth 16384

noncomputable section

namespace Cert.LnKvIdeal.Rows

open Cert.LnKvIdeal Cert.LnKvIdeal.Gen Cert.Quant Cert.LnMath Idealize.ShloMosaic Idealize.ShloMosaic.TcCoe Idealize.SL.Sem

/-- The lane's number in pairs, as the body computes it. -/
theorem turn_word : ∀ j : Fin 128, k0_pay21 (ix2 (0 : Fin 512) j) = BitVec.ofNat 32 (j.val / 2) := by
  intro j
  pointwise [k0_pay21]
  revert j
  decide +kernel

/-- It is the same word on every row. -/
theorem turn_row (r : Fin 512) (j : Fin 128) : k0_pay21 (ix2 r j) = k0_pay21 (ix2 (0 : Fin 512) j) := by
  pointwise [k0_pay21]

/-- The lane that the pair's number is read at. -/
theorem pair_word : ∀ j : Fin 128, (Scalar.select (IntOp.cmpi .slt (BitVec.ofNat 32 (j.val / 2)) 0#32)
    (IntOp.addi (BitVec.ofNat 32 (j.val / 2)) 128#32) (BitVec.ofNat 32 (j.val / 2))).toNat % 128 = j.val / 2 := by
  decide +kernel

/-- The test for an even lane. -/
theorem even_word : ∀ j : Fin 128, IntOp.cmpi .eq (Scalar.select (IntOp.andi
      (IntOp.xori (IntOp.cmpi .slt (IntOp.remsi .vector (BitVec.ofNat 32 j.val) (Scalar.select (Scalar.cmpi .eq 2#32 0#32) 1#32 2#32)) 0#32)
        (Scalar.cmpi .slt (Scalar.select (Scalar.cmpi .eq 2#32 0#32) 1#32 2#32) 0#32))
      (IntOp.cmpi .ne (IntOp.remsi .vector (BitVec.ofNat 32 j.val) (Scalar.select (Scalar.cmpi .eq 2#32 0#32) 1#32 2#32)) 0#32))
      (IntOp.addi (IntOp.remsi .vector (BitVec.ofNat 32 j.val) (Scalar.select (Scalar.cmpi .eq 2#32 0#32) 1#32 2#32))
        (Scalar.select (Scalar.cmpi .eq 2#32 0#32) 1#32 2#32))
      (IntOp.remsi .vector (BitVec.ofNat 32 j.val) (Scalar.select (Scalar.cmpi .eq 2#32 0#32) 1#32 2#32))) 0#32
    = if j.val % 2 = 0 then 1#1 else 0#1 := by
  decide +kernel

/-- The word that a lane's partner is read at. -/
theorem partner_word : ∀ j : Fin 128, (Scalar.select (IntOp.cmpi .slt (IntOp.xori (BitVec.ofNat 32 j.val) 1#32) 0#32)
    (IntOp.addi (IntOp.xori (BitVec.ofNat 32 j.val) 1#32) 128#32) (IntOp.xori (BitVec.ofNat 32 j.val) 1#32)).toNat % 128 = (partner j).val := by
  decide +kernel

variable (r : Fin 512) (j : Fin 128)

theorem cos_apply (v : Vec Ideal S1x512x64 .f32) : k0_pay23 v (ix2 r j) = v (ix3 0 r (pair j)) := by
  pointwise [k0_pay23, k0_pay22]
  simp only [turn_row, turn_word, pair_word]
  exact dif_pos (by omega)

theorem sin_apply (v : Vec Ideal S1x512x64 .f32) :
    k0_pay26 (iota .tc S512x128 32 [1] iota_S512x128_d1_w32) k0_pay21 (k0_pay24 v) k0_pay25 128#32 (ix2 r j) = signed (fun p => v (ix3 0 r p)) j := by
  pointwise [k0_pay26, k0_pay24, k0_pay25, k0_pay22]
  simp only [turn_row, turn_word, pair_word, even_word]
  have h : j.val / 2 < 64 := by omega
  simp only [h, dite_true]
  unfold signed
  split <;> rfl

variable (c s : FVec Ideal S512x128 .f32) (k : FVec Ideal S512x1536 .f32) (g : FVec Ideal S1x1536 .f32) (q : FVec Ideal S512x1 .f32)

/-- A head's channels of a row, divided by the root and multiplied by the gain. -/
def headRow (h : Fin 12) (j : Fin 128) : EReal := Ideal.div (k (ix2 r (chan h j))) (q (ix2 r 0)) * g (ix2 0 (chan h j))

/-- A head's channels, each times its cosine, and its partner times its signed sine. -/
def spun (h : Fin 12) (j : Fin 128) : EReal :=
  headRow r k g q h j * c (ix2 r j) + headRow r k g q h (partner j) * s (ix2 r j)

theorem gain0 (a : FVec Ideal S512x3072 .f32) (v : Vec Ideal S1x1536 .f32) :
    k0_pay30 a v (ix2 r j) = headRow r (k0_pay27 a) (k0_pay28 v) (k0_pay29 a) 0 j := by
  pointwise [k0_pay30]
  have e : (⟨j.val, by omega⟩ : Fin 1536) = chan 0 j := Fin.ext (by simp)
  rw [e]
  rfl

theorem head0 (a : FVec Ideal S512x3072 .f32) (v : Vec Ideal S1x1536 .f32) :
    k0_pay52 (k0_pay32 c s (k0_pay30 a v) (iota .tc S512x128 32 [1] iota_S512x128_d1_w32) k0_pay31) (ix4 0 0 r j)
      = spun r c s (k0_pay27 a) (k0_pay28 v) (k0_pay29 a) 0 j := by
  pointwise [k0_pay52, k0_pay32, k0_pay31]
  simp only [partner_word]
  rw [gain0, gain0]
  rfl

theorem head1 : k0_pay59 (k0_pay33 c s k g q) (ix4 0 0 r j) = spun r c s k g q 1 j := by
  pointwise [k0_pay59, k0_pay33]
  simp only [partner_word]
  rfl

theorem head2 : k0_pay66 (k0_pay34 c s k g q) (ix4 0 0 r j) = spun r c s k g q 2 j := by
  pointwise [k0_pay66, k0_pay34]
  simp only [partner_word]
  rfl

theorem head3 : k0_pay73 (k0_pay35 c s k g q) (ix4 0 0 r j) = spun r c s k g q 3 j := by
  pointwise [k0_pay73, k0_pay35]
  simp only [partner_word]
  rfl

theorem head4 : k0_pay80 (k0_pay36 c s k g q) (ix4 0 0 r j) = spun r c s k g q 4 j := by
  pointwise [k0_pay80, k0_pay36]
  simp only [partner_word]
  rfl

theorem head5 : k0_pay87 (k0_pay40 c s (k0_pay37 k g q) k0_pay38 k0_pay39 128#32) (ix4 0 0 r j) = spun r c s k g q 5 j := by
  pointwise [k0_pay87, k0_pay40, k0_pay37, k0_pay38, k0_pay39]
  simp only [partner_word]
  rfl

theorem head6 : k0_pay94 (k0_pay41 c s k g q) (ix4 0 0 r j) = spun r c s k g q 6 j := by
  pointwise [k0_pay94, k0_pay41]
  simp only [partner_word]
  rfl

theorem head7 : k0_pay101 (k0_pay42 c s k g q) (ix4 0 0 r j) = spun r c s k g q 7 j := by
  pointwise [k0_pay101, k0_pay42]
  simp only [partner_word]
  rfl

theorem head8 : k0_pay108 (k0_pay45 c s (k0_pay43 k q) (k0_pay44 g)) (ix4 0 0 r j) = spun r c s k g q 8 j := by
  pointwise [k0_pay108, k0_pay45, k0_pay43, k0_pay44]
  simp only [partner_word]
  rfl

theorem head9 : k0_pay115 (k0_pay46 c s k g q) (ix4 0 0 r j) = spun r c s k g q 9 j := by
  pointwise [k0_pay115, k0_pay46]
  simp only [partner_word]
  rfl

theorem head10 : k0_pay122 (k0_pay49 c s (k0_pay47 k g q) k0_pay48) (ix4 0 0 r j) = spun r c s k g q 10 j := by
  pointwise [k0_pay122, k0_pay49, k0_pay47, k0_pay48]
  simp only [partner_word]
  rfl

theorem head11 : k0_pay129 (k0_pay50 c s k g q) (ix4 0 0 r j) = spun r c s k g q 11 j := by
  pointwise [k0_pay129, k0_pay50]
  simp only [partner_word]
  rfl

variable (a : FVec Ideal S512x3072 .f32)

theorem value0 : k0_pay53 a (ix4 0 0 r j) = a (ix2 r ⟨1536 + (chan 0 j).val, by omega⟩) := by
  pointwise [k0_pay53, k0_pay51]

theorem value1 : k0_pay60 (k0_pay58 a) (ix4 0 0 r j) = a (ix2 r ⟨1536 + (chan 1 j).val, by omega⟩) := by
  pointwise [k0_pay60, k0_pay58]
  exact congrArg (fun u => a (ix2 r u)) (Fin.ext (by simp; omega))

theorem value2 : k0_pay67 a (ix4 0 0 r j) = a (ix2 r ⟨1536 + (chan 2 j).val, by omega⟩) := by
  pointwise [k0_pay67, k0_pay65]
  exact congrArg (fun u => a (ix2 r u)) (Fin.ext (by simp; omega))

theorem value3 : k0_pay74 (k0_pay72 a) (ix4 0 0 r j) = a (ix2 r ⟨1536 + (chan 3 j).val, by omega⟩) := by
  pointwise [k0_pay74, k0_pay72]
  exact congrArg (fun u => a (ix2 r u)) (Fin.ext (by simp; omega))

theorem value4 : k0_pay81 a (ix4 0 0 r j) = a (ix2 r ⟨1536 + (chan 4 j).val, by omega⟩) := by
  pointwise [k0_pay81, k0_pay79]
  exact congrArg (fun u => a (ix2 r u)) (Fin.ext (by simp; omega))

theorem value5 : k0_pay88 (k0_pay86 a) (ix4 0 0 r j) = a (ix2 r ⟨1536 + (chan 5 j).val, by omega⟩) := by
  pointwise [k0_pay88, k0_pay86]
  exact congrArg (fun u => a (ix2 r u)) (Fin.ext (by simp; omega))

theorem value6 : k0_pay95 a (ix4 0 0 r j) = a (ix2 r ⟨1536 + (chan 6 j).val, by omega⟩) := by
  pointwise [k0_pay95, k0_pay93]
  exact congrArg (fun u => a (ix2 r u)) (Fin.ext (by simp; omega))

theorem value7 : k0_pay102 (k0_pay100 a) (ix4 0 0 r j) = a (ix2 r ⟨1536 + (chan 7 j).val, by omega⟩) := by
  pointwise [k0_pay102, k0_pay100]
  exact congrArg (fun u => a (ix2 r u)) (Fin.ext (by simp; omega))

theorem value8 : k0_pay109 a (ix4 0 0 r j) = a (ix2 r ⟨1536 + (chan 8 j).val, by omega⟩) := by
  pointwise [k0_pay109, k0_pay107]
  exact congrArg (fun u => a (ix2 r u)) (Fin.ext (by simp; omega))

theorem value9 : k0_pay116 (k0_pay114 a) (ix4 0 0 r j) = a (ix2 r ⟨1536 + (chan 9 j).val, by omega⟩) := by
  pointwise [k0_pay116, k0_pay114]
  exact congrArg (fun u => a (ix2 r u)) (Fin.ext (by simp; omega))

theorem value10 : k0_pay123 a (ix4 0 0 r j) = a (ix2 r ⟨1536 + (chan 10 j).val, by omega⟩) := by
  pointwise [k0_pay123, k0_pay121]
  exact congrArg (fun u => a (ix2 r u)) (Fin.ext (by simp; omega))

theorem value11 : k0_pay1 (k0_pay128 a) (ix4 0 0 r j) = a (ix2 r ⟨1536 + (chan 11 j).val, by omega⟩) := by
  pointwise [k0_pay1, k0_pay128]
  exact congrArg (fun u => a (ix2 r u)) (Fin.ext (by simp; omega))

theorem keys_apply (e : Fin 1536) : k0_pay27 a (ix2 r e) = a (ix2 r ⟨e.val, by omega⟩) := by
  pointwise [k0_pay27]

theorem gains_apply (v : Vec Ideal S1x1536 .f32) (e : Fin 1536) : k0_pay28 v (ix2 0 e) = v (ix2 0 e) := by
  pointwise [k0_pay28]

theorem root_of (b : FVec Ideal S512x1536 .f32) :
    sqrt (addf (divf (shapeCast S512x1 (multiReduction .add [1] S512 (mulf b b) 0x00000000#32 reduces_S512x1536_S512 (.inl rfl) rfl) shapeCasts_S512_S512x1)
      (broadcast S512x1 (Scalar.ofBits .f32 0x44C00000#32))) (broadcast S512x1 (Scalar.ofBits .f32 0x358637BD#32))) (ix2 r 0)
      = root fun e => b (ix2 r e) := by
  pointwise []
  rfl

theorem root_apply : k0_pay29 a (ix2 r 0) = root fun e => a (ix2 r ⟨e.val, by omega⟩) := by
  rw [k0_pay29]
  refine (root_of r (k0_pay27 a)).trans (congrArg root ?_)
  exact funext fun e => keys_apply r a e

end Cert.LnKvIdeal.Rows

end
-- ==== Proof.LnPieces.lean ====
/-
  What one run of the body of the normalisation and projection leaves in its four blocks.
-/
module

public import proofs.«01_k».proof.Proof.LnRows
public import proofs.«01_k».proof.Proof.LnHeads
public import proofs.«01_k».proof.Proof.Gen.LnKvIdeal.Frame
public import Idealize.ShloMosaic.Lib.VecWindow

@[expose] public section

set_option maxRecDepth 16384

noncomputable section

namespace Cert.LnKvIdeal.Rows

open Cert.LnKvIdeal Cert.LnKvIdeal.Gen Cert.Quant Cert.LnMath Idealize.ShloMosaic Idealize.ShloMosaic.TcCoe Idealize.SL.Sem

/-- A load of a whole block gives the block. -/
theorem readAt_whole {S : Shape} {e : EltTy} {m : Memref sig .tc .vmem S e} (h : m.IsWhole) (X : Vec Ideal S e) {off : Fin S.rank → ℕ}
    (inb : ∀ a, off a + S.size a ≤ S.size a) :
    m.view.readAt (Elt Ideal) (Rect.unit off S.size inb).toLoadRect (h.unread X) = X := by
  rw [View.readAt_full, h.read_unread]

section Pieces

variable (x0 : Vec Ideal S1x512x1536 .bf16) (x1 x2 : Vec Ideal S1x1x1536 .f32) (x3 : Vec Ideal S1536x3072 .i8)
  (x4 x5 : Vec Ideal S1x3072 .f32) (x6 : Vec Ideal S1x1536 .f32) (x7 x8 : Vec Ideal S1x512x64 .f32)

/-- The cosines of a block, one a lane. -/
def cosines : FVec Ideal S512x128 .f32 := k0_pay23 x7

/-- The sines of a block, one a lane, negated on the even lanes. -/
def sines : FVec Ideal S512x128 .f32 := k0_pay26 (iota .tc S512x128 32 [1] iota_S512x128_d1_w32) k0_pay21 (k0_pay24 x8) k0_pay25 128#32

/-- A head's row of the block of keys. -/
def keyAt (r : Fin 512) (h : Fin 12) (j : Fin 128) : EReal :=
  spun r (cosines x7) (sines x8) (k0_pay27 (proj x0 x2 x1 x3 x4 x5)) (k0_pay28 x6) (k0_pay29 (proj x0 x2 x1 x3 x4 x5)) h j

/-- A head's row of the block of values. -/
def valueAt (r : Fin 512) (h : Fin 12) (j : Fin 128) : EReal :=
  proj x0 x2 x1 x3 x4 x5 (ix2 r ⟨1536 + (chan h j).val, by omega⟩)

theorem keyAt_eq (r : Fin 512) (h : Fin 12) (j : Fin 128) : keyAt x0 x1 x2 x3 x4 x5 x6 x7 x8 r h j
    = key (row x0 x2 x1 r) (fun k e => x3 (ix2 k e)) (fun e => x4 (ix2 0 e)) (fun e => x5 (ix2 0 e)) (fun e => x6 (ix2 0 e))
        (fun p => x7 (ix3 0 r p)) (fun p => x8 (ix3 0 r p)) h j := by
  have hr : ∀ e : Fin 12, ∀ j : Fin 128, headRow r (k0_pay27 (proj x0 x2 x1 x3 x4 x5)) (k0_pay28 x6) (k0_pay29 (proj x0 x2 x1 x3 x4 x5)) e j
      = gained (keyRow (row x0 x2 x1 r) (fun k e => x3 (ix2 k e)) (fun e => x4 (ix2 0 e)) (fun e => x5 (ix2 0 e))) (fun e => x6 (ix2 0 e)) (chan e j) := by
    intro e j
    have hk : (fun e : Fin 1536 => proj x0 x2 x1 x3 x4 x5 (ix2 r ⟨e.val, by omega⟩))
        = keyRow (row x0 x2 x1 r) (fun k e => x3 (ix2 k e)) (fun e => x4 (ix2 0 e)) (fun e => x5 (ix2 0 e)) :=
      funext fun e => proj_apply ..
    unfold headRow gained
    rw [keys_apply, gains_apply, root_apply, hk, ← hk]
  unfold keyAt spun cosines sines
  rw [hr, hr, cos_apply, sin_apply]
  exact turned_eq (fun j => gained (keyRow (row x0 x2 x1 r) (fun k e => x3 (ix2 k e)) (fun e => x4 (ix2 0 e)) (fun e => x5 (ix2 0 e)))
    (fun e => x6 (ix2 0 e)) (chan h j)) (fun p => x7 (ix3 0 r p)) (fun p => x8 (ix3 0 r p)) j

theorem valueAt_eq (r : Fin 512) (h : Fin 12) (j : Fin 128) : valueAt x0 x1 x2 x3 x4 x5 r h j
    = valueRow (row x0 x2 x1 r) (fun k e => x3 (ix2 k e)) (fun e => x4 (ix2 0 e)) (fun e => x5 (ix2 0 e)) (chan h j) := by
  unfold valueAt
  rw [proj_apply]
  rfl

theorem emb_head (h : Fin 12) (inb : ∀ a, (![0, h.val, 0, 0] : Fin 4 → ℕ) a + S1x1x512x128.size a ≤ S1x12x512x128.size a) (r : Fin 512) (j : Fin 128) :
    (Rect.unit (s := S1x12x512x128) ![0, h.val, 0, 0] S1x1x512x128.size inb).emb (ix4 0 0 r j) = ix4 0 h r j := by
  funext a
  apply Fin.ext
  fin_cases a
  · rfl
  · show h.val + 1 * 0 = h.val
    omega
  · show 0 + 1 * r.val = r.val
    omega
  · show 0 + 1 * j.val = j.val
    omega

/-- A store of one head, read where it lies in the block. -/
theorem piece (h : Fin 12) (inb : ∀ a, (![0, h.val, 0, 0] : Fin 4 → ℕ) a + S1x1x512x128.size a ≤ S1x12x512x128.size a) (p : FVec Ideal S1x1x512x128 .f32)
    (g : Fin 512 → Fin 12 → Fin 128 → EReal) (e : ∀ r j, p (ix4 0 0 r j) = g r h j) (x : S1x1x512x128.Idx) :
    p x = (fun i : S1x12x512x128.Idx => g (i 2) (i 1) (i 3)) ((Rect.unit (s := S1x12x512x128) ![0, h.val, 0, 0] S1x1x512x128.size inb).emb x) := by
  have x0 : (x 0).val < 1 := (x 0).isLt
  have x1 : (x 1).val < 1 := (x 1).isLt
  have hx : x = ix4 0 0 (x 2) (x 3) := by
    refine (eq_ix4 x).trans ?_
    rw [show x 0 = (0 : Fin 1) from Fin.ext (by show (x 0).val = 0; omega), show x 1 = (0 : Fin 1) from Fin.ext (by show (x 1).val = 0; omega)]
    rfl
  rw [hx]
  exact (e (x 2) (x 3)).trans (congrArg (fun i : S1x12x512x128.Idx => g (i 2) (i 1) (i 3)) (emb_head h inb (x 2) (x 3)).symm)

/-- The stores of the keys, the last first. -/
def keyPieces : List (View.Piece (Elt Ideal) S1x12x512x128 .f32) :=
  [
    ⟨Rect.unit (s := S1x12x512x128) ![0, 11, 0, 0] S1x1x512x128.size inb_S1x12x512x128_S1x1x512x128_0_11_0_0, k0_pay129 (k0_pay50 (cosines x7) (sines x8) (k0_pay27 (proj x0 x2 x1 x3 x4 x5)) (k0_pay28 x6) (k0_pay29 (proj x0 x2 x1 x3 x4 x5)))⟩,
    ⟨Rect.unit (s := S1x12x512x128) ![0, 10, 0, 0] S1x1x512x128.size inb_S1x12x512x128_S1x1x512x128_0_10_0_0, k0_pay122 (k0_pay49 (cosines x7) (sines x8) (k0_pay47 (k0_pay27 (proj x0 x2 x1 x3 x4 x5)) (k0_pay28 x6) (k0_pay29 (proj x0 x2 x1 x3 x4 x5))) k0_pay48)⟩,
    ⟨Rect.unit (s := S1x12x512x128) ![0, 9, 0, 0] S1x1x512x128.size inb_S1x12x512x128_S1x1x512x128_0_9_0_0, k0_pay115 (k0_pay46 (cosines x7) (sines x8) (k0_pay27 (proj x0 x2 x1 x3 x4 x5)) (k0_pay28 x6) (k0_pay29 (proj x0 x2 x1 x3 x4 x5)))⟩,
    ⟨Rect.unit (s := S1x12x512x128) ![0, 8, 0, 0] S1x1x512x128.size inb_S1x12x512x128_S1x1x512x128_0_8_0_0, k0_pay108 (k0_pay45 (cosines x7) (sines x8) (k0_pay43 (k0_pay27 (proj x0 x2 x1 x3 x4 x5)) (k0_pay29 (proj x0 x2 x1 x3 x4 x5))) (k0_pay44 (k0_pay28 x6)))⟩,
    ⟨Rect.unit (s := S1x12x512x128) ![0, 7, 0, 0] S1x1x512x128.size inb_S1x12x512x128_S1x1x512x128_0_7_0_0, k0_pay101 (k0_pay42 (cosines x7) (sines x8) (k0_pay27 (proj x0 x2 x1 x3 x4 x5)) (k0_pay28 x6) (k0_pay29 (proj x0 x2 x1 x3 x4 x5)))⟩,
    ⟨Rect.unit (s := S1x12x512x128) ![0, 6, 0, 0] S1x1x512x128.size inb_S1x12x512x128_S1x1x512x128_0_6_0_0, k0_pay94 (k0_pay41 (cosines x7) (sines x8) (k0_pay27 (proj x0 x2 x1 x3 x4 x5)) (k0_pay28 x6) (k0_pay29 (proj x0 x2 x1 x3 x4 x5)))⟩,
    ⟨Rect.unit (s := S1x12x512x128) ![0, 5, 0, 0] S1x1x512x128.size inb_S1x12x512x128_S1x1x512x128_0_5_0_0, k0_pay87 (k0_pay40 (cosines x7) (sines x8) (k0_pay37 (k0_pay27 (proj x0 x2 x1 x3 x4 x5)) (k0_pay28 x6) (k0_pay29 (proj x0 x2 x1 x3 x4 x5))) k0_pay38 k0_pay39 128#32)⟩,
    ⟨Rect.unit (s := S1x12x512x128) ![0, 4, 0, 0] S1x1x512x128.size inb_S1x12x512x128_S1x1x512x128_0_4_0_0, k0_pay80 (k0_pay36 (cosines x7) (sines x8) (k0_pay27 (proj x0 x2 x1 x3 x4 x5)) (k0_pay28 x6) (k0_pay29 (proj x0 x2 x1 x3 x4 x5)))⟩,
    ⟨Rect.unit (s := S1x12x512x128) ![0, 3, 0, 0] S1x1x512x128.size inb_S1x12x512x128_S1x1x512x128_0_3_0_0, k0_pay73 (k0_pay35 (cosines x7) (sines x8) (k0_pay27 (proj x0 x2 x1 x3 x4 x5)) (k0_pay28 x6) (k0_pay29 (proj x0 x2 x1 x3 x4 x5)))⟩,
    ⟨Rect.unit (s := S1x12x512x128) ![0, 2, 0, 0] S1x1x512x128.size inb_S1x12x512x128_S1x1x512x128_0_2_0_0, k0_pay66 (k0_pay34 (cosines x7) (sines x8) (k0_pay27 (proj x0 x2 x1 x3 x4 x5)) (k0_pay28 x6) (k0_pay29 (proj x0 x2 x1 x3 x4 x5)))⟩,
    ⟨Rect.unit (s := S1x12x512x128) ![0, 1, 0, 0] S1x1x512x128.size inb_S1x12x512x128_S1x1x512x128_0_1_0_0, k0_pay59 (k0_pay33 (cosines x7) (sines x8) (k0_pay27 (proj x0 x2 x1 x3 x4 x5)) (k0_pay28 x6) (k0_pay29 (proj x0 x2 x1 x3 x4 x5)))⟩,
    ⟨Rect.unit (s := S1x12x512x128) ![0, 0, 0, 0] S1x1x512x128.size inb_S1x12x512x128_S1x1x512x128_0_0_0_0, k0_pay52 (k0_pay32 (cosines x7) (sines x8) (k0_pay30 (proj x0 x2 x1 x3 x4 x5) x6) (iota .tc S512x128 32 [1] iota_S512x128_d1_w32) k0_pay31)⟩]

/-- The stores of the values, the last first. -/
def valuePieces : List (View.Piece (Elt Ideal) S1x12x512x128 .f32) :=
  [
    ⟨Rect.unit (s := S1x12x512x128) ![0, 11, 0, 0] S1x1x512x128.size inb_S1x12x512x128_S1x1x512x128_0_11_0_0, k0_pay1 (k0_pay128 (proj x0 x2 x1 x3 x4 x5))⟩,
    ⟨Rect.unit (s := S1x12x512x128) ![0, 10, 0, 0] S1x1x512x128.size inb_S1x12x512x128_S1x1x512x128_0_10_0_0, k0_pay123 (proj x0 x2 x1 x3 x4 x5)⟩,
    ⟨Rect.unit (s := S1x12x512x128) ![0, 9, 0, 0] S1x1x512x128.size inb_S1x12x512x128_S1x1x512x128_0_9_0_0, k0_pay116 (k0_pay114 (proj x0 x2 x1 x3 x4 x5))⟩,
    ⟨Rect.unit (s := S1x12x512x128) ![0, 8, 0, 0] S1x1x512x128.size inb_S1x12x512x128_S1x1x512x128_0_8_0_0, k0_pay109 (proj x0 x2 x1 x3 x4 x5)⟩,
    ⟨Rect.unit (s := S1x12x512x128) ![0, 7, 0, 0] S1x1x512x128.size inb_S1x12x512x128_S1x1x512x128_0_7_0_0, k0_pay102 (k0_pay100 (proj x0 x2 x1 x3 x4 x5))⟩,
    ⟨Rect.unit (s := S1x12x512x128) ![0, 6, 0, 0] S1x1x512x128.size inb_S1x12x512x128_S1x1x512x128_0_6_0_0, k0_pay95 (proj x0 x2 x1 x3 x4 x5)⟩,
    ⟨Rect.unit (s := S1x12x512x128) ![0, 5, 0, 0] S1x1x512x128.size inb_S1x12x512x128_S1x1x512x128_0_5_0_0, k0_pay88 (k0_pay86 (proj x0 x2 x1 x3 x4 x5))⟩,
    ⟨Rect.unit (s := S1x12x512x128) ![0, 4, 0, 0] S1x1x512x128.size inb_S1x12x512x128_S1x1x512x128_0_4_0_0, k0_pay81 (proj x0 x2 x1 x3 x4 x5)⟩,
    ⟨Rect.unit (s := S1x12x512x128) ![0, 3, 0, 0] S1x1x512x128.size inb_S1x12x512x128_S1x1x512x128_0_3_0_0, k0_pay74 (k0_pay72 (proj x0 x2 x1 x3 x4 x5))⟩,
    ⟨Rect.unit (s := S1x12x512x128) ![0, 2, 0, 0] S1x1x512x128.size inb_S1x12x512x128_S1x1x512x128_0_2_0_0, k0_pay67 (proj x0 x2 x1 x3 x4 x5)⟩,
    ⟨Rect.unit (s := S1x12x512x128) ![0, 1, 0, 0] S1x1x512x128.size inb_S1x12x512x128_S1x1x512x128_0_1_0_0, k0_pay60 (k0_pay58 (proj x0 x2 x1 x3 x4 x5))⟩,
    ⟨Rect.unit (s := S1x12x512x128) ![0, 0, 0, 0] S1x1x512x128.size inb_S1x12x512x128_S1x1x512x128_0_0_0_0, k0_pay53 (proj x0 x2 x1 x3 x4 x5)⟩]

theorem keyPieces_apply : ∀ p ∈ keyPieces x0 x1 x2 x3 x4 x5 x6 x7 x8, ∀ x,
    p.2 x = (fun i : S1x12x512x128.Idx => keyAt x0 x1 x2 x3 x4 x5 x6 x7 x8 (i 2) (i 1) (i 3)) (p.1.emb x) := by
  unfold keyPieces
  simp only [List.forall_mem_cons]
  exact ⟨piece 11 inb_S1x12x512x128_S1x1x512x128_0_11_0_0 _ (keyAt x0 x1 x2 x3 x4 x5 x6 x7 x8) fun r j => head11 ..,
    piece 10 inb_S1x12x512x128_S1x1x512x128_0_10_0_0 _ (keyAt x0 x1 x2 x3 x4 x5 x6 x7 x8) fun r j => head10 ..,
    piece 9 inb_S1x12x512x128_S1x1x512x128_0_9_0_0 _ (keyAt x0 x1 x2 x3 x4 x5 x6 x7 x8) fun r j => head9 ..,
    piece 8 inb_S1x12x512x128_S1x1x512x128_0_8_0_0 _ (keyAt x0 x1 x2 x3 x4 x5 x6 x7 x8) fun r j => head8 ..,
    piece 7 inb_S1x12x512x128_S1x1x512x128_0_7_0_0 _ (keyAt x0 x1 x2 x3 x4 x5 x6 x7 x8) fun r j => head7 ..,
    piece 6 inb_S1x12x512x128_S1x1x512x128_0_6_0_0 _ (keyAt x0 x1 x2 x3 x4 x5 x6 x7 x8) fun r j => head6 ..,
    piece 5 inb_S1x12x512x128_S1x1x512x128_0_5_0_0 _ (keyAt x0 x1 x2 x3 x4 x5 x6 x7 x8) fun r j => head5 ..,
    piece 4 inb_S1x12x512x128_S1x1x512x128_0_4_0_0 _ (keyAt x0 x1 x2 x3 x4 x5 x6 x7 x8) fun r j => head4 ..,
    piece 3 inb_S1x12x512x128_S1x1x512x128_0_3_0_0 _ (keyAt x0 x1 x2 x3 x4 x5 x6 x7 x8) fun r j => head3 ..,
    piece 2 inb_S1x12x512x128_S1x1x512x128_0_2_0_0 _ (keyAt x0 x1 x2 x3 x4 x5 x6 x7 x8) fun r j => head2 ..,
    piece 1 inb_S1x12x512x128_S1x1x512x128_0_1_0_0 _ (keyAt x0 x1 x2 x3 x4 x5 x6 x7 x8) fun r j => head1 ..,
    piece 0 inb_S1x12x512x128_S1x1x512x128_0_0_0_0 _ (keyAt x0 x1 x2 x3 x4 x5 x6 x7 x8) fun r j => head0 ..,
    fun p hp => absurd hp List.not_mem_nil⟩

theorem valuePieces_apply : ∀ p ∈ valuePieces x0 x1 x2 x3 x4 x5, ∀ x,
    p.2 x = (fun i : S1x12x512x128.Idx => valueAt x0 x1 x2 x3 x4 x5 (i 2) (i 1) (i 3)) (p.1.emb x) := by
  unfold valuePieces
  simp only [List.forall_mem_cons]
  exact ⟨piece 11 inb_S1x12x512x128_S1x1x512x128_0_11_0_0 _ (valueAt x0 x1 x2 x3 x4 x5) fun r j => value11 ..,
    piece 10 inb_S1x12x512x128_S1x1x512x128_0_10_0_0 _ (valueAt x0 x1 x2 x3 x4 x5) fun r j => value10 ..,
    piece 9 inb_S1x12x512x128_S1x1x512x128_0_9_0_0 _ (valueAt x0 x1 x2 x3 x4 x5) fun r j => value9 ..,
    piece 8 inb_S1x12x512x128_S1x1x512x128_0_8_0_0 _ (valueAt x0 x1 x2 x3 x4 x5) fun r j => value8 ..,
    piece 7 inb_S1x12x512x128_S1x1x512x128_0_7_0_0 _ (valueAt x0 x1 x2 x3 x4 x5) fun r j => value7 ..,
    piece 6 inb_S1x12x512x128_S1x1x512x128_0_6_0_0 _ (valueAt x0 x1 x2 x3 x4 x5) fun r j => value6 ..,
    piece 5 inb_S1x12x512x128_S1x1x512x128_0_5_0_0 _ (valueAt x0 x1 x2 x3 x4 x5) fun r j => value5 ..,
    piece 4 inb_S1x12x512x128_S1x1x512x128_0_4_0_0 _ (valueAt x0 x1 x2 x3 x4 x5) fun r j => value4 ..,
    piece 3 inb_S1x12x512x128_S1x1x512x128_0_3_0_0 _ (valueAt x0 x1 x2 x3 x4 x5) fun r j => value3 ..,
    piece 2 inb_S1x12x512x128_S1x1x512x128_0_2_0_0 _ (valueAt x0 x1 x2 x3 x4 x5) fun r j => value2 ..,
    piece 1 inb_S1x12x512x128_S1x1x512x128_0_1_0_0 _ (valueAt x0 x1 x2 x3 x4 x5) fun r j => value1 ..,
    piece 0 inb_S1x12x512x128_S1x1x512x128_0_0_0_0 _ (valueAt x0 x1 x2 x3 x4 x5) fun r j => value0 ..,
    fun p hp => absurd hp List.not_mem_nil⟩

end Pieces

end Cert.LnKvIdeal.Rows

end
-- ==== Proof.LnBlock.lean ====
/-
  The four blocks that a run of the body of the normalisation and projection leaves, in both of its cases.
-/
module

public import proofs.«01_k».proof.Proof.LnPieces

@[expose] public section

set_option maxRecDepth 16384

noncomputable section

namespace Cert.LnKvIdeal.Rows

open Cert.LnKvIdeal Cert.LnKvIdeal.Gen Cert.Quant Cert.LnMath Idealize.ShloMosaic Idealize.ShloMosaic.TcCoe Idealize.SL.Sem

section Block

variable (c : Dev nD) (i : grid0.Coords) (arg2 : Memref sig .tc .vmem S1x512x1536 .bf16) (harg2 : arg2.IsWhole) (arg3 : Memref sig .tc .vmem S1x1x1536 .f32) (harg3 : arg3.IsWhole) (arg4 : Memref sig .tc .vmem S1x1x1536 .f32) (harg4 : arg4.IsWhole) (arg5 : Memref sig .tc .vmem S1536x3072 .i8) (harg5 : arg5.IsWhole) (arg6 : Memref sig .tc .vmem S1x3072 .f32) (harg6 : arg6.IsWhole) (arg7 : Memref sig .tc .vmem S1x3072 .f32) (harg7 : arg7.IsWhole) (arg8 : Memref sig .tc .vmem S1x1536 .f32) (harg8 : arg8.IsWhole) (arg9 : Memref sig .tc .vmem S1x512x64 .f32) (harg9 : arg9.IsWhole) (arg10 : Memref sig .tc .vmem S1x512x64 .f32) (harg10 : arg10.IsWhole) (arg11 : Memref sig .tc .vmem S1x512x1536 .i8) (harg11 : arg11.IsWhole) (arg12 : Memref sig .tc .vmem S1x1x512 .f32) (harg12 : arg12.IsWhole) (arg13 : Memref sig .tc .vmem S1x12x512x128 .f32) (harg13 : arg13.IsWhole) (arg14 : Memref sig .tc .vmem S1x12x512x128 .f32) (harg14 : arg14.IsWhole) (arg15 : Memref sig .tc .vmem S1x12x128 .f32) (harg15 : arg15.IsWhole) (arg16 : Memref sig .tc .vmem S1x12x128 .f32) (harg16 : arg16.IsWhole) (arg17 : Memref sig .tc .vmem S1x12x128 .f32) (harg17 : arg17.IsWhole) (arg18 : Memref sig .tc .vmem S1x12x128 .f32) (harg18 : arg18.IsWhole)

variable (x0 : Vec Ideal S1x512x1536 .bf16) (x1 x2 : Vec Ideal S1x1x1536 .f32) (x3 : Vec Ideal S1536x3072 .i8)
  (x4 x5 : Vec Ideal S1x3072 .f32) (x6 : Vec Ideal S1x1536 .f32) (x7 x8 : Vec Ideal S1x512x64 .f32)
  (xo13 xo14 xo15 xo16 : Vec Ideal S1x12x128 .f32)

set_option maxHeartbeats 8000000 in
/-- What a point that starts a batch entry stores. -/
theorem run_A (hc0 : cond0_0 i) (hc1 : ¬cond0_1 i) (b0 : Vec Ideal S1x512x1536 .bf16) (b1 b2 : Vec Ideal S1x1x1536 .f32) (b3 : Vec Ideal S1536x3072 .i8)
    (b4 b5 : Vec Ideal S1x3072 .f32) (b6 : Vec Ideal S1x1536 .f32) (b7 b8 : Vec Ideal S1x512x64 .f32)
    (e0 : arg2.view.readAt (Elt Ideal) (Rect.unit (s := S1x512x1536) ![0, 0, 0] S1x512x1536.size inb_S1x512x1536_S1x512x1536_0_0_0).toLoadRect (harg2.unread x0) = b0)
    (e1 : arg3.view.readAt (Elt Ideal) (Rect.unit (s := S1x1x1536) ![0, 0, 0] S1x1x1536.size inb_S1x1x1536_S1x1x1536_0_0_0).toLoadRect (harg3.unread x1) = b1)
    (e2 : arg4.view.readAt (Elt Ideal) (Rect.unit (s := S1x1x1536) ![0, 0, 0] S1x1x1536.size inb_S1x1x1536_S1x1x1536_0_0_0).toLoadRect (harg4.unread x2) = b2)
    (e3 : arg5.view.readAt (Elt Ideal) (Rect.unit (s := S1536x3072) ![0, 0] S1536x3072.size inb_S1536x3072_S1536x3072_0_0).toLoadRect (harg5.unread x3) = b3)
    (e4 : arg6.view.readAt (Elt Ideal) (Rect.unit (s := S1x3072) ![0, 0] S1x3072.size inb_S1x3072_S1x3072_0_0).toLoadRect (harg6.unread x4) = b4)
    (e5 : arg7.view.readAt (Elt Ideal) (Rect.unit (s := S1x3072) ![0, 0] S1x3072.size inb_S1x3072_S1x3072_0_0).toLoadRect (harg7.unread x5) = b5)
    (e6 : arg8.view.readAt (Elt Ideal) (Rect.unit (s := S1x1536) ![0, 0] S1x1536.size inb_S1x1536_S1x1536_0_0).toLoadRect (harg8.unread x6) = b6)
    (e7 : arg9.view.readAt (Elt Ideal) (Rect.unit (s := S1x512x64) ![0, 0, 0] S1x512x64.size inb_S1x512x64_S1x512x64_0_0_0).toLoadRect (harg9.unread x7) = b7)
    (e8 : arg10.view.readAt (Elt Ideal) (Rect.unit (s := S1x512x64) ![0, 0, 0] S1x512x64.size inb_S1x512x64_S1x512x64_0_0_0).toLoadRect (harg10.unread x8) = b8) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).1 = [⟨Rect.unit (s := S1x512x1536) ![0, 0, 0] S1x512x1536.size inb_S1x512x1536_S1x512x1536_0_0_0, k0_pay18 (k0_pay14 b0 b2 b1) (k0_pay16 b0 b2 b1)⟩]
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.1 = [⟨Rect.unit (s := S1x1x512) ![0, 0, 0] S1x1x512.size inb_S1x1x512_S1x1x512_0_0_0, k0_pay19 (k0_pay15 b0 b2 b1)⟩]
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.1 = keyPieces b0 b1 b2 b3 b4 b5 b6 b7 b8
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.1 = valuePieces b0 b1 b2 b3 b4 b5 := by
  subst e0 e1 e2 e3 e4 e5 e6 e7 e8
  unfold kernelRun0_A
  exact ⟨rfl, rfl, rfl, rfl⟩

theorem byte_A (hc0 : cond0_0 i) (hc1 : ¬cond0_1 i) (r : Fin 512) (j : Fin 1536) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 (ix3 0 r j) = rowByte (row x0 x2 x1 r) j := by
  obtain ⟨h, -⟩ := run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 _ _ _ _ _ _ _ _ _ (readAt_whole harg2 x0 _) (readAt_whole harg3 x1 _) (readAt_whole harg4 x2 _) (readAt_whole harg5 x3 _) (readAt_whole harg6 x4 _) (readAt_whole harg7 x5 _) (readAt_whole harg8 x6 _) (readAt_whole harg9 x7 _) (readAt_whole harg10 x8 _)
  unfold out0_A_9
  rw [h]
  exact (congrFun (View.read_writes_full VO0_9 _ _ _ _) _).trans (byte_apply ..)

theorem scale_A (hc0 : cond0_0 i) (hc1 : ¬cond0_1 i) (r : Fin 512) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 (ix3 0 0 r) = rowScale (row x0 x2 x1 r) := by
  obtain ⟨-, h, -⟩ := run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 _ _ _ _ _ _ _ _ _ (readAt_whole harg2 x0 _) (readAt_whole harg3 x1 _) (readAt_whole harg4 x2 _) (readAt_whole harg5 x3 _) (readAt_whole harg6 x4 _) (readAt_whole harg7 x5 _) (readAt_whole harg8 x6 _) (readAt_whole harg9 x7 _) (readAt_whole harg10 x8 _)
  unfold out0_A_10
  rw [h]
  exact (congrFun (View.read_writes_full VO0_10 _ _ _ _) _).trans (line_apply ..)

theorem key_A (hc0 : cond0_0 i) (hc1 : ¬cond0_1 i) (y : S1x12x512x128.Idx) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y = keyAt x0 x1 x2 x3 x4 x5 x6 x7 x8 (y 2) (y 1) (y 3) := by
  obtain ⟨-, -, h, -⟩ := run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 _ _ _ _ _ _ _ _ _ (readAt_whole harg2 x0 _) (readAt_whole harg3 x1 _) (readAt_whole harg4 x2 _) (readAt_whole harg5 x3 _) (readAt_whole harg6 x4 _) (readAt_whole harg7 x5 _) (readAt_whole harg8 x6 _) (readAt_whole harg9 x7 _) (readAt_whole harg10 x8 _)
  exact View.read_writes_apply_of_pieces VO0_11 _ (fun i : S1x12x512x128.Idx => keyAt x0 x1 x2 x3 x4 x5 x6 x7 x8 (i 2) (i 1) (i 3)) _ (by rw [h]; exact keyPieces_apply x0 x1 x2 x3 x4 x5 x6 x7 x8) y
    (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y)

theorem value_A (hc0 : cond0_0 i) (hc1 : ¬cond0_1 i) (y : S1x12x512x128.Idx) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y = valueAt x0 x1 x2 x3 x4 x5 (y 2) (y 1) (y 3) := by
  obtain ⟨-, -, -, h⟩ := run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 hc0 hc1 _ _ _ _ _ _ _ _ _ (readAt_whole harg2 x0 _) (readAt_whole harg3 x1 _) (readAt_whole harg4 x2 _) (readAt_whole harg5 x3 _) (readAt_whole harg6 x4 _) (readAt_whole harg7 x5 _) (readAt_whole harg8 x6 _) (readAt_whole harg9 x7 _) (readAt_whole harg10 x8 _)
  exact View.read_writes_apply_of_pieces VO0_12 _ (fun i : S1x12x512x128.Idx => valueAt x0 x1 x2 x3 x4 x5 (i 2) (i 1) (i 3)) _ (by rw [h]; exact valuePieces_apply x0 x1 x2 x3 x4 x5) y
    (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 y)

set_option maxHeartbeats 8000000 in
/-- What a point after the first of a batch entry stores. -/
theorem run_B (hc0 : ¬cond0_0 i) (hc1 : cond0_1 i) (b0 : Vec Ideal S1x512x1536 .bf16) (b1 b2 : Vec Ideal S1x1x1536 .f32) (b3 : Vec Ideal S1536x3072 .i8)
    (b4 b5 : Vec Ideal S1x3072 .f32) (b6 : Vec Ideal S1x1536 .f32) (b7 b8 : Vec Ideal S1x512x64 .f32)
    (e0 : arg2.view.readAt (Elt Ideal) (Rect.unit (s := S1x512x1536) ![0, 0, 0] S1x512x1536.size inb_S1x512x1536_S1x512x1536_0_0_0).toLoadRect (harg2.unread x0) = b0)
    (e1 : arg3.view.readAt (Elt Ideal) (Rect.unit (s := S1x1x1536) ![0, 0, 0] S1x1x1536.size inb_S1x1x1536_S1x1x1536_0_0_0).toLoadRect (harg3.unread x1) = b1)
    (e2 : arg4.view.readAt (Elt Ideal) (Rect.unit (s := S1x1x1536) ![0, 0, 0] S1x1x1536.size inb_S1x1x1536_S1x1x1536_0_0_0).toLoadRect (harg4.unread x2) = b2)
    (e3 : arg5.view.readAt (Elt Ideal) (Rect.unit (s := S1536x3072) ![0, 0] S1536x3072.size inb_S1536x3072_S1536x3072_0_0).toLoadRect (harg5.unread x3) = b3)
    (e4 : arg6.view.readAt (Elt Ideal) (Rect.unit (s := S1x3072) ![0, 0] S1x3072.size inb_S1x3072_S1x3072_0_0).toLoadRect (harg6.unread x4) = b4)
    (e5 : arg7.view.readAt (Elt Ideal) (Rect.unit (s := S1x3072) ![0, 0] S1x3072.size inb_S1x3072_S1x3072_0_0).toLoadRect (harg7.unread x5) = b5)
    (e6 : arg8.view.readAt (Elt Ideal) (Rect.unit (s := S1x1536) ![0, 0] S1x1536.size inb_S1x1536_S1x1536_0_0).toLoadRect (harg8.unread x6) = b6)
    (e7 : arg9.view.readAt (Elt Ideal) (Rect.unit (s := S1x512x64) ![0, 0, 0] S1x512x64.size inb_S1x512x64_S1x512x64_0_0_0).toLoadRect (harg9.unread x7) = b7)
    (e8 : arg10.view.readAt (Elt Ideal) (Rect.unit (s := S1x512x64) ![0, 0, 0] S1x512x64.size inb_S1x512x64_S1x512x64_0_0_0).toLoadRect (harg10.unread x8) = b8) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16).1 = [⟨Rect.unit (s := S1x512x1536) ![0, 0, 0] S1x512x1536.size inb_S1x512x1536_S1x512x1536_0_0_0, k0_pay18 (k0_pay14 b0 b2 b1) (k0_pay16 b0 b2 b1)⟩]
    ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16).2.1 = [⟨Rect.unit (s := S1x1x512) ![0, 0, 0] S1x1x512.size inb_S1x1x512_S1x1x512_0_0_0, k0_pay19 (k0_pay15 b0 b2 b1)⟩]
    ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16).2.2.1 = keyPieces b0 b1 b2 b3 b4 b5 b6 b7 b8
    ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16).2.2.2.1 = valuePieces b0 b1 b2 b3 b4 b5 := by
  subst e0 e1 e2 e3 e4 e5 e6 e7 e8
  unfold kernelRun0_B
  exact ⟨rfl, rfl, rfl, rfl⟩

theorem byte_B (hc0 : ¬cond0_0 i) (hc1 : cond0_1 i) (r : Fin 512) (j : Fin 1536) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16 (ix3 0 r j) = rowByte (row x0 x2 x1 r) j := by
  obtain ⟨h, -⟩ := run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xo13 xo14 xo15 xo16 hc0 hc1 _ _ _ _ _ _ _ _ _ (readAt_whole harg2 x0 _) (readAt_whole harg3 x1 _) (readAt_whole harg4 x2 _) (readAt_whole harg5 x3 _) (readAt_whole harg6 x4 _) (readAt_whole harg7 x5 _) (readAt_whole harg8 x6 _) (readAt_whole harg9 x7 _) (readAt_whole harg10 x8 _)
  unfold out0_B_9
  rw [h]
  exact (congrFun (View.read_writes_full VO0_9 _ _ _ _) _).trans (byte_apply ..)

theorem scale_B (hc0 : ¬cond0_0 i) (hc1 : cond0_1 i) (r : Fin 512) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16 (ix3 0 0 r) = rowScale (row x0 x2 x1 r) := by
  obtain ⟨-, h, -⟩ := run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xo13 xo14 xo15 xo16 hc0 hc1 _ _ _ _ _ _ _ _ _ (readAt_whole harg2 x0 _) (readAt_whole harg3 x1 _) (readAt_whole harg4 x2 _) (readAt_whole harg5 x3 _) (readAt_whole harg6 x4 _) (readAt_whole harg7 x5 _) (readAt_whole harg8 x6 _) (readAt_whole harg9 x7 _) (readAt_whole harg10 x8 _)
  unfold out0_B_10
  rw [h]
  exact (congrFun (View.read_writes_full VO0_10 _ _ _ _) _).trans (line_apply ..)

theorem key_B (hc0 : ¬cond0_0 i) (hc1 : cond0_1 i) (y : S1x12x512x128.Idx) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16 y = keyAt x0 x1 x2 x3 x4 x5 x6 x7 x8 (y 2) (y 1) (y 3) := by
  obtain ⟨-, -, h, -⟩ := run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xo13 xo14 xo15 xo16 hc0 hc1 _ _ _ _ _ _ _ _ _ (readAt_whole harg2 x0 _) (readAt_whole harg3 x1 _) (readAt_whole harg4 x2 _) (readAt_whole harg5 x3 _) (readAt_whole harg6 x4 _) (readAt_whole harg7 x5 _) (readAt_whole harg8 x6 _) (readAt_whole harg9 x7 _) (readAt_whole harg10 x8 _)
  exact View.read_writes_apply_of_pieces VO0_11 _ (fun i : S1x12x512x128.Idx => keyAt x0 x1 x2 x3 x4 x5 x6 x7 x8 (i 2) (i 1) (i 3)) _ (by rw [h]; exact keyPieces_apply x0 x1 x2 x3 x4 x5 x6 x7 x8) y
    (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16 y)

theorem value_B (hc0 : ¬cond0_0 i) (hc1 : cond0_1 i) (y : S1x12x512x128.Idx) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16 y = valueAt x0 x1 x2 x3 x4 x5 (y 2) (y 1) (y 3) := by
  obtain ⟨-, -, -, h⟩ := run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 xo13 xo14 xo15 xo16 hc0 hc1 _ _ _ _ _ _ _ _ _ (readAt_whole harg2 x0 _) (readAt_whole harg3 x1 _) (readAt_whole harg4 x2 _) (readAt_whole harg5 x3 _) (readAt_whole harg6 x4 _) (readAt_whole harg7 x5 _) (readAt_whole harg8 x6 _) (readAt_whole harg9 x7 _) (readAt_whole harg10 x8 _)
  exact View.read_writes_apply_of_pieces VO0_12 _ (fun i : S1x12x512x128.Idx => valueAt x0 x1 x2 x3 x4 x5 (i 2) (i 1) (i 3)) _ (by rw [h]; exact valuePieces_apply x0 x1 x2 x3 x4 x5) y
    (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo13 xo14 xo15 xo16 y)

end Block

end Cert.LnKvIdeal.Rows

end
-- ==== Proof.LnInputs.lean ====
/-
  The blocks that the layer norm and the projection to keys and values read at a grid point, as parts of its arguments.
-/
module

public import proofs.«01_k».proof.Proof.LnBlock
public import proofs.«01_k».proof.Proof.Gen.LnKvIdeal.Value
public import Idealize.ShloMosaic.Lib.Claim

@[expose] public section

set_option maxRecDepth 16384

noncomputable section

namespace Cert.LnKvIdeal.Rows

open Cert.LnKvIdeal Cert.LnKvIdeal.Gen Cert.Quant Cert.LnMath Idealize.ShloMosaic Idealize.ShloMosaic.TcCoe Idealize.SL.Sem

variable (m : (ℓ : Loc nD τ sig) → Buf (Elt Ideal) ℓ) (c : Dev nD)

/-- The hidden states. -/
abbrev a0 : Vec Ideal S2x15360x1536 .bf16 := m ((c : Thread nD τ).loc main_arg0)

/-- The shift of the modulation. -/
abbrev a1 : Vec Ideal S2x1536 .f32 := m ((c : Thread nD τ).loc main_arg1)

/-- The scale of the modulation. -/
abbrev a2 : Vec Ideal S2x1536 .f32 := m ((c : Thread nD τ).loc main_arg2)

/-- The codes of the weights. -/
abbrev a3 : Vec Ideal S1536x3x12x128 .i8 := m ((c : Thread nD τ).loc main_arg3)

/-- The scales of the weights. -/
abbrev a4 : Vec Ideal S3x12x128 .f32 := m ((c : Thread nD τ).loc main_arg4)

/-- The bias. -/
abbrev a5 : Vec Ideal S3x12x128 .f32 := m ((c : Thread nD τ).loc main_arg5)

/-- The gain of the keys. -/
abbrev a6 : Vec Ideal S12x128 .f32 := m ((c : Thread nD τ).loc main_arg6)

/-- The cosines of the rotation. -/
abbrev a7 : Vec Ideal S2x15360x64 .f32 := m ((c : Thread nD τ).loc main_arg7)

/-- The sines of the rotation. -/
abbrev a8 : Vec Ideal S2x15360x64 .f32 := m ((c : Thread nD τ).loc main_arg8)

/-- The row of a token: its hidden states, normalised and modulated. -/
def tokenRow (b : Fin 2) (n : Fin 15360) : Fin 1536 → EReal :=
  normed (fun k => a0 m c (ix3 b n k)) (fun k => a2 m c (ix2 b k)) fun k => a1 m c (ix2 b k)

/-- The codes of the weights of the keys and the values, side by side. -/
def codesOf (k : Fin 1536) (e : Fin 3072) : BitVec 8 := a3 m c (ix4 k ⟨(1536 + e.val) / 1536, by omega⟩ ⟨(1536 + e.val) / 128 % 12, by omega⟩ ⟨(1536 + e.val) % 128, by omega⟩)

/-- The scales of those weights. -/
def scalesOf (e : Fin 3072) : EReal := a4 m c (ix3 ⟨(1536 + e.val) / 1536, by omega⟩ ⟨(1536 + e.val) / 128 % 12, by omega⟩ ⟨(1536 + e.val) % 128, by omega⟩)

/-- The bias of the keys and the values. -/
def biasOf (e : Fin 3072) : EReal := a5 m c (ix3 ⟨(1536 + e.val) / 1536, by omega⟩ ⟨(1536 + e.val) / 128 % 12, by omega⟩ ⟨(1536 + e.val) % 128, by omega⟩)

/-- The gain of the keys, one a channel. -/
def gainOf (e : Fin 1536) : EReal := a6 m c (ix2 ⟨e.val / 128, by omega⟩ ⟨e.val % 128, by omega⟩)

/-- A token's key. -/
def keyOf (b : Fin 2) (n : Fin 15360) (h : Fin 12) (j : Fin 128) : EReal :=
  key (tokenRow m c b n) (codesOf m c) (scalesOf m c) (biasOf m c) (gainOf m c) (fun p => a7 m c (ix3 b n p)) (fun p => a8 m c (ix3 b n p)) h j

/-- A token's value. -/
def valueOf (b : Fin 2) (n : Fin 15360) (h : Fin 12) (j : Fin 128) : EReal :=
  valueRow (tokenRow m c b n) (codesOf m c) (scalesOf m c) (biasOf m c) (chan h j)

theorem shift_apply (i : Fin 2) (j : Fin 1536) : (V m c main_v3 : Vec Ideal S2x1x1536 .f32) (ix3 i 0 j) = a1 m c (ix2 i j) := by
  entry_read
  pointwise

theorem mscale_apply (i : Fin 2) (j : Fin 1536) : (V m c main_v4 : Vec Ideal S2x1x1536 .f32) (ix3 i 0 j) = a2 m c (ix2 i j) := by
  entry_read
  pointwise

theorem weight_apply (k : Fin 1536) (e : Fin 3072) : (V m c main_v5 : Vec Ideal S1536x3072 .i8) (ix2 k e) = codesOf m c k e := by
  unfold codesOf
  entry_read
  pointwise

theorem wscale_apply (e : Fin 3072) : (V m c main_v6 : Vec Ideal S1x3072 .f32) (ix2 0 e) = scalesOf m c e := by
  unfold scalesOf
  entry_read
  pointwise

theorem bias_apply (e : Fin 3072) : (V m c main_v7 : Vec Ideal S1x3072 .f32) (ix2 0 e) = biasOf m c e := by
  unfold biasOf
  entry_read
  pointwise

theorem gain_apply (e : Fin 1536) : (V m c main_v8 : Vec Ideal S1x1536 .f32) (ix2 0 e) = gainOf m c e := by
  unfold gainOf
  entry_read
  pointwise

theorem index0 : ∀ t : Fin cfg0.N, cc0_transform_0 (grid0.coords t) = ![t.val / 30, t.val % 30, 0] := by
  decide +kernel

theorem index1 : ∀ t : Fin cfg0.N, cc0_transform_1 (grid0.coords t) = ![t.val / 30, 0, 0] := by
  decide +kernel

theorem index2 : ∀ t : Fin cfg0.N, cc0_transform_2 (grid0.coords t) = ![t.val / 30, 0, 0] := by
  decide +kernel

theorem index3 : ∀ t : Fin cfg0.N, cc0_transform_3 (grid0.coords t) = ![0, 0] := by
  decide +kernel

theorem index4 : ∀ t : Fin cfg0.N, cc0_transform_4 (grid0.coords t) = ![0, 0] := by
  decide +kernel

theorem index5 : ∀ t : Fin cfg0.N, cc0_transform_5 (grid0.coords t) = ![0, 0] := by
  decide +kernel

theorem index6 : ∀ t : Fin cfg0.N, cc0_transform_6 (grid0.coords t) = ![0, 0] := by
  decide +kernel

theorem index7 : ∀ t : Fin cfg0.N, cc0_transform_7 (grid0.coords t) = ![t.val / 30, t.val % 30, 0] := by
  decide +kernel

theorem index8 : ∀ t : Fin cfg0.N, cc0_transform_8 (grid0.coords t) = ![t.val / 30, t.val % 30, 0] := by
  decide +kernel

theorem index9 : ∀ t : Fin cfg0.N, cc0_transform_9 (grid0.coords t) = ![t.val / 30, t.val % 30, 0] := by
  decide +kernel

theorem index10 : ∀ t : Fin cfg0.N, cc0_transform_10 (grid0.coords t) = ![t.val / 30, 0, t.val % 30] := by
  decide +kernel

theorem index11 : ∀ t : Fin cfg0.N, cc0_transform_11 (grid0.coords t) = ![t.val / 30, 0, t.val % 30, 0] := by
  decide +kernel

theorem index12 : ∀ t : Fin cfg0.N, cc0_transform_12 (grid0.coords t) = ![t.val / 30, 0, t.val % 30, 0] := by
  decide +kernel

theorem lt_60 (t : Fin cfg0.N) : t.val < 60 := lt_of_lt_of_eq t.isLt (show cfg0.N = 60 from N_0)

/-- The batch entry of a point. -/
abbrev entry (t : Fin cfg0.N) : Fin 2 := ⟨t.val / 30, by have := lt_60 t; omega⟩

/-- The token of a point and a row of its block. -/
abbrev token (t : Fin cfg0.N) (r : Fin 512) : Fin 15360 := ⟨512 * (t.val % 30) + r.val, by omega⟩

theorem iblk0 (t : Fin cfg0.N) (r : Fin 512) (j : Fin 1536) :
    (iblk m c 0 t : Vec Ideal S1x512x1536 .bf16) (ix3 0 r j) = (V m c main_arg0 : Vec Ideal S2x15360x1536 .bf16) (ix3 (entry t) (token t r) j) := by
  unfold iblk
  rw [View.read_apply]
  show V m c main_arg0 _ = V m c main_arg0 _
  congr 1
  funext ax
  apply Fin.ext
  match ax with
  | ⟨0, _⟩ =>
    have h : win0_0.index t 0 = _ := congrFun (index0 t) 0
    show win0_0.index t 0 * 1 + 1 * 0 = (_ : ℕ)
    rw [h]
    simp
    try omega
  | ⟨1, _⟩ =>
    have h : win0_0.index t 1 = _ := congrFun (index0 t) 1
    show win0_0.index t 1 * 512 + 1 * r.val = (_ : ℕ)
    rw [h]
    simp
    try omega
  | ⟨2, _⟩ =>
    have h : win0_0.index t 2 = _ := congrFun (index0 t) 2
    show win0_0.index t 2 * 1536 + 1 * j.val = (_ : ℕ)
    rw [h]
    simp
    try omega

theorem iblk7 (t : Fin cfg0.N) (r : Fin 512) (j : Fin 64) :
    (iblk m c 7 t : Vec Ideal S1x512x64 .f32) (ix3 0 r j) = (V m c main_arg7 : Vec Ideal S2x15360x64 .f32) (ix3 (entry t) (token t r) j) := by
  unfold iblk
  rw [View.read_apply]
  show V m c main_arg7 _ = V m c main_arg7 _
  congr 1
  funext ax
  apply Fin.ext
  match ax with
  | ⟨0, _⟩ =>
    have h : win0_7.index t 0 = _ := congrFun (index7 t) 0
    show win0_7.index t 0 * 1 + 1 * 0 = (_ : ℕ)
    rw [h]
    simp
    try omega
  | ⟨1, _⟩ =>
    have h : win0_7.index t 1 = _ := congrFun (index7 t) 1
    show win0_7.index t 1 * 512 + 1 * r.val = (_ : ℕ)
    rw [h]
    simp
    try omega
  | ⟨2, _⟩ =>
    have h : win0_7.index t 2 = _ := congrFun (index7 t) 2
    show win0_7.index t 2 * 64 + 1 * j.val = (_ : ℕ)
    rw [h]
    simp
    try omega

theorem iblk8 (t : Fin cfg0.N) (r : Fin 512) (j : Fin 64) :
    (iblk m c 8 t : Vec Ideal S1x512x64 .f32) (ix3 0 r j) = (V m c main_arg8 : Vec Ideal S2x15360x64 .f32) (ix3 (entry t) (token t r) j) := by
  unfold iblk
  rw [View.read_apply]
  show V m c main_arg8 _ = V m c main_arg8 _
  congr 1
  funext ax
  apply Fin.ext
  match ax with
  | ⟨0, _⟩ =>
    have h : win0_8.index t 0 = _ := congrFun (index8 t) 0
    show win0_8.index t 0 * 1 + 1 * 0 = (_ : ℕ)
    rw [h]
    simp
    try omega
  | ⟨1, _⟩ =>
    have h : win0_8.index t 1 = _ := congrFun (index8 t) 1
    show win0_8.index t 1 * 512 + 1 * r.val = (_ : ℕ)
    rw [h]
    simp
    try omega
  | ⟨2, _⟩ =>
    have h : win0_8.index t 2 = _ := congrFun (index8 t) 2
    show win0_8.index t 2 * 64 + 1 * j.val = (_ : ℕ)
    rw [h]
    simp
    try omega

theorem iblk1 (t : Fin cfg0.N) (j : Fin 1536) :
    (iblk m c 1 t : Vec Ideal S1x1x1536 .f32) (ix3 0 0 j) = (V m c main_v3 : Vec Ideal S2x1x1536 .f32) (ix3 (entry t) 0 j) := by
  unfold iblk
  rw [View.read_apply]
  show V m c main_v3 _ = V m c main_v3 _
  congr 1
  funext ax
  apply Fin.ext
  match ax with
  | ⟨0, _⟩ =>
    have h : win0_1.index t 0 = _ := congrFun (index1 t) 0
    show win0_1.index t 0 * 1 + 1 * 0 = (_ : ℕ)
    rw [h]
    simp
    try omega
  | ⟨1, _⟩ =>
    have h : win0_1.index t 1 = _ := congrFun (index1 t) 1
    show win0_1.index t 1 * 1 + 1 * 0 = (_ : ℕ)
    rw [h]
    simp
    try omega
  | ⟨2, _⟩ =>
    have h : win0_1.index t 2 = _ := congrFun (index1 t) 2
    show win0_1.index t 2 * 1536 + 1 * j.val = (_ : ℕ)
    rw [h]
    simp
    try omega

theorem iblk2 (t : Fin cfg0.N) (j : Fin 1536) :
    (iblk m c 2 t : Vec Ideal S1x1x1536 .f32) (ix3 0 0 j) = (V m c main_v4 : Vec Ideal S2x1x1536 .f32) (ix3 (entry t) 0 j) := by
  unfold iblk
  rw [View.read_apply]
  show V m c main_v4 _ = V m c main_v4 _
  congr 1
  funext ax
  apply Fin.ext
  match ax with
  | ⟨0, _⟩ =>
    have h : win0_2.index t 0 = _ := congrFun (index2 t) 0
    show win0_2.index t 0 * 1 + 1 * 0 = (_ : ℕ)
    rw [h]
    simp
    try omega
  | ⟨1, _⟩ =>
    have h : win0_2.index t 1 = _ := congrFun (index2 t) 1
    show win0_2.index t 1 * 1 + 1 * 0 = (_ : ℕ)
    rw [h]
    simp
    try omega
  | ⟨2, _⟩ =>
    have h : win0_2.index t 2 = _ := congrFun (index2 t) 2
    show win0_2.index t 2 * 1536 + 1 * j.val = (_ : ℕ)
    rw [h]
    simp
    try omega

theorem iblk3 (t : Fin cfg0.N) (k : Fin 1536) (e : Fin 3072) :
    (iblk m c 3 t : Vec Ideal S1536x3072 .i8) (ix2 k e) = (V m c main_v5 : Vec Ideal S1536x3072 .i8) (ix2 k e) := by
  unfold iblk
  rw [View.read_apply]
  show V m c main_v5 _ = V m c main_v5 _
  congr 1
  funext ax
  apply Fin.ext
  match ax with
  | ⟨0, _⟩ =>
    have h : win0_3.index t 0 = _ := congrFun (index3 t) 0
    show win0_3.index t 0 * 1536 + 1 * k.val = (_ : ℕ)
    rw [h]
    simp
    try omega
  | ⟨1, _⟩ =>
    have h : win0_3.index t 1 = _ := congrFun (index3 t) 1
    show win0_3.index t 1 * 3072 + 1 * e.val = (_ : ℕ)
    rw [h]
    simp
    try omega

theorem iblk4 (t : Fin cfg0.N) (j : Fin 3072) :
    (iblk m c 4 t : Vec Ideal S1x3072 .f32) (ix2 0 j) = (V m c main_v6 : Vec Ideal S1x3072 .f32) (ix2 0 j) := by
  unfold iblk
  rw [View.read_apply]
  show V m c main_v6 _ = V m c main_v6 _
  congr 1
  funext ax
  apply Fin.ext
  match ax with
  | ⟨0, _⟩ =>
    have h : win0_4.index t 0 = _ := congrFun (index4 t) 0
    show win0_4.index t 0 * 1 + 1 * 0 = (_ : ℕ)
    rw [h]
    simp
    try omega
  | ⟨1, _⟩ =>
    have h : win0_4.index t 1 = _ := congrFun (index4 t) 1
    show win0_4.index t 1 * 3072 + 1 * j.val = (_ : ℕ)
    rw [h]
    simp
    try omega

theorem iblk5 (t : Fin cfg0.N) (j : Fin 3072) :
    (iblk m c 5 t : Vec Ideal S1x3072 .f32) (ix2 0 j) = (V m c main_v7 : Vec Ideal S1x3072 .f32) (ix2 0 j) := by
  unfold iblk
  rw [View.read_apply]
  show V m c main_v7 _ = V m c main_v7 _
  congr 1
  funext ax
  apply Fin.ext
  match ax with
  | ⟨0, _⟩ =>
    have h : win0_5.index t 0 = _ := congrFun (index5 t) 0
    show win0_5.index t 0 * 1 + 1 * 0 = (_ : ℕ)
    rw [h]
    simp
    try omega
  | ⟨1, _⟩ =>
    have h : win0_5.index t 1 = _ := congrFun (index5 t) 1
    show win0_5.index t 1 * 3072 + 1 * j.val = (_ : ℕ)
    rw [h]
    simp
    try omega

theorem iblk6 (t : Fin cfg0.N) (j : Fin 1536) :
    (iblk m c 6 t : Vec Ideal S1x1536 .f32) (ix2 0 j) = (V m c main_v8 : Vec Ideal S1x1536 .f32) (ix2 0 j) := by
  unfold iblk
  rw [View.read_apply]
  show V m c main_v8 _ = V m c main_v8 _
  congr 1
  funext ax
  apply Fin.ext
  match ax with
  | ⟨0, _⟩ =>
    have h : win0_6.index t 0 = _ := congrFun (index6 t) 0
    show win0_6.index t 0 * 1 + 1 * 0 = (_ : ℕ)
    rw [h]
    simp
    try omega
  | ⟨1, _⟩ =>
    have h : win0_6.index t 1 = _ := congrFun (index6 t) 1
    show win0_6.index t 1 * 1536 + 1 * j.val = (_ : ℕ)
    rw [h]
    simp
    try omega

theorem row_eq (t : Fin cfg0.N) (r : Fin 512) : row (iblk m c 0 t) (iblk m c 2 t) (iblk m c 1 t) r = tokenRow m c (entry t) (token t r) := by
  have e0 : (fun k => (iblk m c 0 t : Vec Ideal S1x512x1536 .bf16) (ix3 0 r k)) = fun k => a0 m c (ix3 (entry t) (token t r) k) :=
    funext fun k => by rw [iblk0, V_main_arg0]
  have e1 : (fun k => (iblk m c 1 t : Vec Ideal S1x1x1536 .f32) (ix3 0 0 k)) = fun k => a1 m c (ix2 (entry t) k) :=
    funext fun k => (iblk1 m c t k).trans (shift_apply m c _ k)
  have e2 : (fun k => (iblk m c 2 t : Vec Ideal S1x1x1536 .f32) (ix3 0 0 k)) = fun k => a2 m c (ix2 (entry t) k) :=
    funext fun k => (iblk2 m c t k).trans (mscale_apply m c _ k)
  unfold row tokenRow
  rw [e0, e1, e2]

theorem codes_eq (t : Fin cfg0.N) : (fun k e => (iblk m c 3 t : Vec Ideal S1536x3072 .i8) (ix2 k e)) = codesOf m c :=
  funext fun k => funext fun e => (iblk3 m c t k e).trans (weight_apply m c k e)

theorem scales_eq (t : Fin cfg0.N) : (fun e => (iblk m c 4 t : Vec Ideal S1x3072 .f32) (ix2 0 e)) = scalesOf m c :=
  funext fun e => (iblk4 m c t e).trans (wscale_apply m c e)

theorem bias_eq (t : Fin cfg0.N) : (fun e => (iblk m c 5 t : Vec Ideal S1x3072 .f32) (ix2 0 e)) = biasOf m c :=
  funext fun e => (iblk5 m c t e).trans (bias_apply m c e)

theorem gain_eq (t : Fin cfg0.N) : (fun e => (iblk m c 6 t : Vec Ideal S1x1536 .f32) (ix2 0 e)) = gainOf m c :=
  funext fun e => (iblk6 m c t e).trans (gain_apply m c e)

theorem key_at (t : Fin cfg0.N) (r : Fin 512) (h : Fin 12) (j : Fin 128) :
    keyAt (iblk m c 0 t) (iblk m c 1 t) (iblk m c 2 t) (iblk m c 3 t) (iblk m c 4 t) (iblk m c 5 t) (iblk m c 6 t) (iblk m c 7 t) (iblk m c 8 t) r h j = keyOf m c (entry t) (token t r) h j := by
  have e7 : (fun p => (iblk m c 7 t : Vec Ideal S1x512x64 .f32) (ix3 0 r p)) = fun p => a7 m c (ix3 (entry t) (token t r) p) :=
    funext fun p => by rw [iblk7, V_main_arg7]
  have e8 : (fun p => (iblk m c 8 t : Vec Ideal S1x512x64 .f32) (ix3 0 r p)) = fun p => a8 m c (ix3 (entry t) (token t r) p) :=
    funext fun p => by rw [iblk8, V_main_arg8]
  rw [keyAt_eq, row_eq, codes_eq, scales_eq, bias_eq, gain_eq, e7, e8, keyOf]

theorem value_at (t : Fin cfg0.N) (r : Fin 512) (h : Fin 12) (j : Fin 128) :
    valueAt (iblk m c 0 t) (iblk m c 1 t) (iblk m c 2 t) (iblk m c 3 t) (iblk m c 4 t) (iblk m c 5 t) r h j = valueOf m c (entry t) (token t r) h j := by
  rw [valueAt_eq, row_eq, codes_eq, scales_eq, bias_eq, valueOf]

end Cert.LnKvIdeal.Rows

end
-- ==== Proof.LnFinal.lean ====
/-
  The codes, the scales, the keys and the values after the whole grid.
-/
module

public import proofs.«01_k».proof.Proof.LnInputs

@[expose] public section

set_option maxRecDepth 16384

noncomputable section

namespace Cert.LnKvIdeal.Rows

open Cert.LnKvIdeal Cert.LnKvIdeal.Gen Cert.Quant Cert.LnMath Idealize.ShloMosaic Idealize.ShloMosaic.TcCoe Idealize.SL.Sem

variable (m : (ℓ : Loc nD τ sig) → Buf (Elt Ideal) ℓ) (c : Dev nD)

/-- The codes of the normalised rows as one array. -/
def arrByte : Vec Ideal S2x15360x1536 .i8 := fun i => rowByte (tokenRow m c (i 0) (i 1)) (i 2)

/-- The scales of the normalised rows as one array. -/
def arrScale : Vec Ideal S2x1x15360 .f32 := fun i => rowScale (tokenRow m c (i 0) (i 2))

/-- The keys as one array. -/
def arrKey : Vec Ideal S2x12x15360x128 .f32 := fun i => keyOf m c (i 0) (i 2) (i 1) (i 3)

/-- The values as one array. -/
def arrValue : Vec Ideal S2x12x15360x128 .f32 := fun i => valueOf m c (i 0) (i 2) (i 1) (i 3)

theorem exists_point (b n : ℕ) (hb : b < 2) (hn : n < 15360) : ∃ t : Fin cfg0.N, t.val = 30 * b + n / 512 :=
  ⟨⟨30 * b + n / 512, by rw [show cfg0.N = 60 from N_0]; omega⟩, rfl⟩

theorem cut_byte (t : Fin cfg0.N) (X : Vec Ideal S1x512x1536 .i8) (hX : ∀ r j, X (ix3 0 r j) = rowByte (tokenRow m c (entry t) (token t r)) j) :
    (cfg0.win 9).cut (grid0.coords t) X = ((cfg0.win 9).blk t).view.read (Elt Ideal) (arrByte m c) := by
  have ht := lt_60 t
  funext y
  rw [View.read_apply]
  have h0 : win0_9.index t 0 = _ := congrFun (index9 t) 0
  have e0 : (((win0_9.rect t).emb y 0 : Fin _) : ℕ) = _ := win0_9.rect_emb_val t y 0
  have y0 : (y 0).val < 1 := (y 0).isLt
  rw [h0] at e0
  have h1 : win0_9.index t 1 = _ := congrFun (index9 t) 1
  have e1 : (((win0_9.rect t).emb y 1 : Fin _) : ℕ) = _ := win0_9.rect_emb_val t y 1
  have y1 : (y 1).val < 512 := (y 1).isLt
  rw [h1] at e1
  have h2 : win0_9.index t 2 = _ := congrFun (index9 t) 2
  have e2 : (((win0_9.rect t).emb y 2 : Fin _) : ℕ) = _ := win0_9.rect_emb_val t y 2
  have y2 : (y 2).val < 1536 := (y 2).isLt
  rw [h2] at e2
  have f0 : entry t = ((win0_9.rect t).emb y 0 : Fin _) := by
    refine Fin.ext (Eq.trans ?_ e0.symm)
    show t.val / 30 = t.val / 30 * 1 + (y 0).val
    omega
  have f1 : token t (y 1) = ((win0_9.rect t).emb y 1 : Fin _) := by
    refine Fin.ext (Eq.trans ?_ e1.symm)
    show 512 * (t.val % 30) + (y 1).val = t.val % 30 * 512 + (y 1).val
    omega
  have f2 : (y 2 : Fin 1536) = ((win0_9.rect t).emb y 2 : Fin _) := by
    refine Fin.ext (Eq.trans ?_ e2.symm)
    show (y 2).val = 0 * 1536 + (y 2).val
    omega
  show X y = arrByte m c ((win0_9.rect t).emb y)
  have hy : y = ix3 0 (y 1) (y 2) := (eq_ix3 y).trans (congrArg (ix3 · (y 1) (y 2)) (Fin.ext (by show (y 0).val = 0; omega)))
  rw [hy]
  refine (hX _ _).trans ?_
  rw [← hy]
  exact congr (congrArg₂ (fun b n => rowByte (tokenRow m c b n)) f0 f1) f2

theorem flushed_byte (t : Fin cfg0.N) (_ : (cfg0.win 9).flush t = true) :
    (dats m 0 c).flushed 9 t = ((cfg0.win 9).blk t).view.read (Elt Ideal) (arrByte m c) := by
  rcases Nat.eq_zero_or_pos (t.val % 30) with e | e
  · rw [Value.flushed9_A m c t e (by omega)]
    exact cut_byte m c t _ fun r j => (byte_A ..).trans (by rw [row_eq])
  · rw [Value.flushed9_B m c t (by omega) e]
    exact cut_byte m c t _ fun r j => (byte_B ..).trans (by rw [row_eq])

theorem cover_byte (i : S2x15360x1536.Idx) : ∃ t : Fin cfg0.N, (cfg0.win 9).flush t = true ∧ i ∈ ((cfg0.win 9).blk t).view.set := by
  have i0 : (i 0).val < 2 := (i 0).isLt
  have i1 : (i 1).val < 15360 := (i 1).isLt
  have i2 : (i 2).val < 1536 := (i 2).isLt
  obtain ⟨t, ht⟩ := exists_point (i 0).val (i 1).val i0 i1
  refine ⟨t, flush0_9 t, ?_⟩
  show i ∈ ((View.whole main_v9_0).slice (win0_9.rect t)).set
  rw [View.set_slice_whole, Rect.mem_set_unit]
  have h0 : win0_9.index t 0 = _ := congrFun (index9 t) 0
  have h1 : win0_9.index t 1 = _ := congrFun (index9 t) 1
  have h2 : win0_9.index t 2 = _ := congrFun (index9 t) 2
  simp only [ht] at h0 h1 h2
  intro ax
  match ax with
  | ⟨0, _⟩ =>
    show win0_9.index t 0 * 1 ≤ (i 0).val ∧ (i 0).val < win0_9.index t 0 * 1 + 1
    rw [h0]
    simp
    omega
  | ⟨1, _⟩ =>
    show win0_9.index t 1 * 512 ≤ (i 1).val ∧ (i 1).val < win0_9.index t 1 * 512 + 512
    rw [h1]
    simp
    omega
  | ⟨2, _⟩ =>
    show win0_9.index t 2 * 1536 ≤ (i 2).val ∧ (i 2).val < win0_9.index t 2 * 1536 + 1536
    rw [h2]
    simp
    omega

theorem final_byte : (dats m 0 c).arrAt 9 cfg0.N = arrByte m c :=
  (dats m 0 c).arrAt_eq_of_cover 9 (arrByte m c) (flushed_byte m c) cover_byte

theorem cut_scale (t : Fin cfg0.N) (X : Vec Ideal S1x1x512 .f32) (hX : ∀ r, X (ix3 0 0 r) = rowScale (tokenRow m c (entry t) (token t r))) :
    (cfg0.win 10).cut (grid0.coords t) X = ((cfg0.win 10).blk t).view.read (Elt Ideal) (arrScale m c) := by
  have ht := lt_60 t
  funext y
  rw [View.read_apply]
  have h0 : win0_10.index t 0 = _ := congrFun (index10 t) 0
  have e0 : (((win0_10.rect t).emb y 0 : Fin _) : ℕ) = _ := win0_10.rect_emb_val t y 0
  have y0 : (y 0).val < 1 := (y 0).isLt
  rw [h0] at e0
  have h1 : win0_10.index t 1 = _ := congrFun (index10 t) 1
  have e1 : (((win0_10.rect t).emb y 1 : Fin _) : ℕ) = _ := win0_10.rect_emb_val t y 1
  have y1 : (y 1).val < 1 := (y 1).isLt
  rw [h1] at e1
  have h2 : win0_10.index t 2 = _ := congrFun (index10 t) 2
  have e2 : (((win0_10.rect t).emb y 2 : Fin _) : ℕ) = _ := win0_10.rect_emb_val t y 2
  have y2 : (y 2).val < 512 := (y 2).isLt
  rw [h2] at e2
  have f0 : entry t = ((win0_10.rect t).emb y 0 : Fin _) := by
    refine Fin.ext (Eq.trans ?_ e0.symm)
    show t.val / 30 = t.val / 30 * 1 + (y 0).val
    omega
  have f2 : token t (y 2) = ((win0_10.rect t).emb y 2 : Fin _) := by
    refine Fin.ext (Eq.trans ?_ e2.symm)
    show 512 * (t.val % 30) + (y 2).val = t.val % 30 * 512 + (y 2).val
    omega
  show X y = arrScale m c ((win0_10.rect t).emb y)
  have hy : y = ix3 0 0 (y 2) := (eq_ix3 y).trans (congrArg₂ (ix3 · · (y 2)) (Fin.ext (by show (y 0).val = 0; omega)) (Fin.ext (by show (y 1).val = 0; omega)))
  rw [hy]
  refine (hX _).trans ?_
  rw [← hy]
  exact congrArg₂ (fun b n => rowScale (tokenRow m c b n)) f0 f2

theorem flushed_scale (t : Fin cfg0.N) (_ : (cfg0.win 10).flush t = true) :
    (dats m 0 c).flushed 10 t = ((cfg0.win 10).blk t).view.read (Elt Ideal) (arrScale m c) := by
  rcases Nat.eq_zero_or_pos (t.val % 30) with e | e
  · rw [Value.flushed10_A m c t e (by omega)]
    exact cut_scale m c t _ fun r => (scale_A ..).trans (by rw [row_eq])
  · rw [Value.flushed10_B m c t (by omega) e]
    exact cut_scale m c t _ fun r => (scale_B ..).trans (by rw [row_eq])

theorem cover_scale (i : S2x1x15360.Idx) : ∃ t : Fin cfg0.N, (cfg0.win 10).flush t = true ∧ i ∈ ((cfg0.win 10).blk t).view.set := by
  have i0 : (i 0).val < 2 := (i 0).isLt
  have i1 : (i 1).val < 1 := (i 1).isLt
  have i2 : (i 2).val < 15360 := (i 2).isLt
  obtain ⟨t, ht⟩ := exists_point (i 0).val (i 2).val i0 i2
  refine ⟨t, flush0_10 t, ?_⟩
  show i ∈ ((View.whole main_v9_1).slice (win0_10.rect t)).set
  rw [View.set_slice_whole, Rect.mem_set_unit]
  have h0 : win0_10.index t 0 = _ := congrFun (index10 t) 0
  have h1 : win0_10.index t 1 = _ := congrFun (index10 t) 1
  have h2 : win0_10.index t 2 = _ := congrFun (index10 t) 2
  simp only [ht] at h0 h1 h2
  intro ax
  match ax with
  | ⟨0, _⟩ =>
    show win0_10.index t 0 * 1 ≤ (i 0).val ∧ (i 0).val < win0_10.index t 0 * 1 + 1
    rw [h0]
    simp
    omega
  | ⟨1, _⟩ =>
    show win0_10.index t 1 * 1 ≤ (i 1).val ∧ (i 1).val < win0_10.index t 1 * 1 + 1
    rw [h1]
    simp
    omega
  | ⟨2, _⟩ =>
    show win0_10.index t 2 * 512 ≤ (i 2).val ∧ (i 2).val < win0_10.index t 2 * 512 + 512
    rw [h2]
    simp
    omega

theorem final_scale : (dats m 0 c).arrAt 10 cfg0.N = arrScale m c :=
  (dats m 0 c).arrAt_eq_of_cover 10 (arrScale m c) (flushed_scale m c) cover_scale

theorem cut_key (t : Fin cfg0.N) (X : Vec Ideal S1x12x512x128 .f32) (hX : ∀ y : S1x12x512x128.Idx, X y = keyOf m c (entry t) (token t (y 2)) (y 1) (y 3)) :
    (cfg0.win 11).cut (grid0.coords t) X = ((cfg0.win 11).blk t).view.read (Elt Ideal) (arrKey m c) := by
  have ht := lt_60 t
  funext y
  rw [View.read_apply]
  have h0 : win0_11.index t 0 = _ := congrFun (index11 t) 0
  have e0 : (((win0_11.rect t).emb y 0 : Fin _) : ℕ) = _ := win0_11.rect_emb_val t y 0
  have y0 : (y 0).val < 1 := (y 0).isLt
  rw [h0] at e0
  have h1 : win0_11.index t 1 = _ := congrFun (index11 t) 1
  have e1 : (((win0_11.rect t).emb y 1 : Fin _) : ℕ) = _ := win0_11.rect_emb_val t y 1
  have y1 : (y 1).val < 12 := (y 1).isLt
  rw [h1] at e1
  have h2 : win0_11.index t 2 = _ := congrFun (index11 t) 2
  have e2 : (((win0_11.rect t).emb y 2 : Fin _) : ℕ) = _ := win0_11.rect_emb_val t y 2
  have y2 : (y 2).val < 512 := (y 2).isLt
  rw [h2] at e2
  have h3 : win0_11.index t 3 = _ := congrFun (index11 t) 3
  have e3 : (((win0_11.rect t).emb y 3 : Fin _) : ℕ) = _ := win0_11.rect_emb_val t y 3
  have y3 : (y 3).val < 128 := (y 3).isLt
  rw [h3] at e3
  have f0 : entry t = ((win0_11.rect t).emb y 0 : Fin _) := by
    refine Fin.ext (Eq.trans ?_ e0.symm)
    show t.val / 30 = t.val / 30 * 1 + (y 0).val
    omega
  have f1 : (y 1 : Fin 12) = ((win0_11.rect t).emb y 1 : Fin _) := by
    refine Fin.ext (Eq.trans ?_ e1.symm)
    show (y 1).val = 0 * 12 + (y 1).val
    omega
  have f2 : token t (y 2) = ((win0_11.rect t).emb y 2 : Fin _) := by
    refine Fin.ext (Eq.trans ?_ e2.symm)
    show 512 * (t.val % 30) + (y 2).val = t.val % 30 * 512 + (y 2).val
    omega
  have f3 : (y 3 : Fin 128) = ((win0_11.rect t).emb y 3 : Fin _) := by
    refine Fin.ext (Eq.trans ?_ e3.symm)
    show (y 3).val = 0 * 128 + (y 3).val
    omega
  show X y = arrKey m c ((win0_11.rect t).emb y)
  exact (hX y).trans (congr (congr (congr (congrArg (keyOf m c) f0) f2) f1) f3)

theorem flushed_key (t : Fin cfg0.N) (_ : (cfg0.win 11).flush t = true) :
    (dats m 0 c).flushed 11 t = ((cfg0.win 11).blk t).view.read (Elt Ideal) (arrKey m c) := by
  rcases Nat.eq_zero_or_pos (t.val % 30) with e | e
  · rw [Value.flushed11_A m c t e (by omega)]
    exact cut_key m c t _ fun y => (key_A ..).trans (key_at m c t (y 2) (y 1) (y 3))
  · rw [Value.flushed11_B m c t (by omega) e]
    exact cut_key m c t _ fun y => (key_B ..).trans (key_at m c t (y 2) (y 1) (y 3))

theorem cover_key (i : S2x12x15360x128.Idx) : ∃ t : Fin cfg0.N, (cfg0.win 11).flush t = true ∧ i ∈ ((cfg0.win 11).blk t).view.set := by
  have i0 : (i 0).val < 2 := (i 0).isLt
  have i1 : (i 1).val < 12 := (i 1).isLt
  have i2 : (i 2).val < 15360 := (i 2).isLt
  have i3 : (i 3).val < 128 := (i 3).isLt
  obtain ⟨t, ht⟩ := exists_point (i 0).val (i 2).val i0 i2
  refine ⟨t, flush0_11 t, ?_⟩
  show i ∈ ((View.whole main_v9_2).slice (win0_11.rect t)).set
  rw [View.set_slice_whole, Rect.mem_set_unit]
  have h0 : win0_11.index t 0 = _ := congrFun (index11 t) 0
  have h1 : win0_11.index t 1 = _ := congrFun (index11 t) 1
  have h2 : win0_11.index t 2 = _ := congrFun (index11 t) 2
  have h3 : win0_11.index t 3 = _ := congrFun (index11 t) 3
  simp only [ht] at h0 h1 h2 h3
  intro ax
  match ax with
  | ⟨0, _⟩ =>
    show win0_11.index t 0 * 1 ≤ (i 0).val ∧ (i 0).val < win0_11.index t 0 * 1 + 1
    rw [h0]
    simp
    omega
  | ⟨1, _⟩ =>
    show win0_11.index t 1 * 12 ≤ (i 1).val ∧ (i 1).val < win0_11.index t 1 * 12 + 12
    rw [h1]
    simp
    omega
  | ⟨2, _⟩ =>
    show win0_11.index t 2 * 512 ≤ (i 2).val ∧ (i 2).val < win0_11.index t 2 * 512 + 512
    rw [h2]
    simp
    omega
  | ⟨3, _⟩ =>
    show win0_11.index t 3 * 128 ≤ (i 3).val ∧ (i 3).val < win0_11.index t 3 * 128 + 128
    rw [h3]
    simp
    omega

theorem final_key : (dats m 0 c).arrAt 11 cfg0.N = arrKey m c :=
  (dats m 0 c).arrAt_eq_of_cover 11 (arrKey m c) (flushed_key m c) cover_key

theorem cut_value (t : Fin cfg0.N) (X : Vec Ideal S1x12x512x128 .f32) (hX : ∀ y : S1x12x512x128.Idx, X y = valueOf m c (entry t) (token t (y 2)) (y 1) (y 3)) :
    (cfg0.win 12).cut (grid0.coords t) X = ((cfg0.win 12).blk t).view.read (Elt Ideal) (arrValue m c) := by
  have ht := lt_60 t
  funext y
  rw [View.read_apply]
  have h0 : win0_12.index t 0 = _ := congrFun (index12 t) 0
  have e0 : (((win0_12.rect t).emb y 0 : Fin _) : ℕ) = _ := win0_12.rect_emb_val t y 0
  have y0 : (y 0).val < 1 := (y 0).isLt
  rw [h0] at e0
  have h1 : win0_12.index t 1 = _ := congrFun (index12 t) 1
  have e1 : (((win0_12.rect t).emb y 1 : Fin _) : ℕ) = _ := win0_12.rect_emb_val t y 1
  have y1 : (y 1).val < 12 := (y 1).isLt
  rw [h1] at e1
  have h2 : win0_12.index t 2 = _ := congrFun (index12 t) 2
  have e2 : (((win0_12.rect t).emb y 2 : Fin _) : ℕ) = _ := win0_12.rect_emb_val t y 2
  have y2 : (y 2).val < 512 := (y 2).isLt
  rw [h2] at e2
  have h3 : win0_12.index t 3 = _ := congrFun (index12 t) 3
  have e3 : (((win0_12.rect t).emb y 3 : Fin _) : ℕ) = _ := win0_12.rect_emb_val t y 3
  have y3 : (y 3).val < 128 := (y 3).isLt
  rw [h3] at e3
  have f0 : entry t = ((win0_12.rect t).emb y 0 : Fin _) := by
    refine Fin.ext (Eq.trans ?_ e0.symm)
    show t.val / 30 = t.val / 30 * 1 + (y 0).val
    omega
  have f1 : (y 1 : Fin 12) = ((win0_12.rect t).emb y 1 : Fin _) := by
    refine Fin.ext (Eq.trans ?_ e1.symm)
    show (y 1).val = 0 * 12 + (y 1).val
    omega
  have f2 : token t (y 2) = ((win0_12.rect t).emb y 2 : Fin _) := by
    refine Fin.ext (Eq.trans ?_ e2.symm)
    show 512 * (t.val % 30) + (y 2).val = t.val % 30 * 512 + (y 2).val
    omega
  have f3 : (y 3 : Fin 128) = ((win0_12.rect t).emb y 3 : Fin _) := by
    refine Fin.ext (Eq.trans ?_ e3.symm)
    show (y 3).val = 0 * 128 + (y 3).val
    omega
  show X y = arrValue m c ((win0_12.rect t).emb y)
  exact (hX y).trans (congr (congr (congr (congrArg (valueOf m c) f0) f2) f1) f3)

theorem flushed_value (t : Fin cfg0.N) (_ : (cfg0.win 12).flush t = true) :
    (dats m 0 c).flushed 12 t = ((cfg0.win 12).blk t).view.read (Elt Ideal) (arrValue m c) := by
  rcases Nat.eq_zero_or_pos (t.val % 30) with e | e
  · rw [Value.flushed12_A m c t e (by omega)]
    exact cut_value m c t _ fun y => (value_A ..).trans (value_at m c t (y 2) (y 1) (y 3))
  · rw [Value.flushed12_B m c t (by omega) e]
    exact cut_value m c t _ fun y => (value_B ..).trans (value_at m c t (y 2) (y 1) (y 3))

theorem cover_value (i : S2x12x15360x128.Idx) : ∃ t : Fin cfg0.N, (cfg0.win 12).flush t = true ∧ i ∈ ((cfg0.win 12).blk t).view.set := by
  have i0 : (i 0).val < 2 := (i 0).isLt
  have i1 : (i 1).val < 12 := (i 1).isLt
  have i2 : (i 2).val < 15360 := (i 2).isLt
  have i3 : (i 3).val < 128 := (i 3).isLt
  obtain ⟨t, ht⟩ := exists_point (i 0).val (i 2).val i0 i2
  refine ⟨t, flush0_12 t, ?_⟩
  show i ∈ ((View.whole main_v9_3).slice (win0_12.rect t)).set
  rw [View.set_slice_whole, Rect.mem_set_unit]
  have h0 : win0_12.index t 0 = _ := congrFun (index12 t) 0
  have h1 : win0_12.index t 1 = _ := congrFun (index12 t) 1
  have h2 : win0_12.index t 2 = _ := congrFun (index12 t) 2
  have h3 : win0_12.index t 3 = _ := congrFun (index12 t) 3
  simp only [ht] at h0 h1 h2 h3
  intro ax
  match ax with
  | ⟨0, _⟩ =>
    show win0_12.index t 0 * 1 ≤ (i 0).val ∧ (i 0).val < win0_12.index t 0 * 1 + 1
    rw [h0]
    simp
    omega
  | ⟨1, _⟩ =>
    show win0_12.index t 1 * 12 ≤ (i 1).val ∧ (i 1).val < win0_12.index t 1 * 12 + 12
    rw [h1]
    simp
    omega
  | ⟨2, _⟩ =>
    show win0_12.index t 2 * 512 ≤ (i 2).val ∧ (i 2).val < win0_12.index t 2 * 512 + 512
    rw [h2]
    simp
    omega
  | ⟨3, _⟩ =>
    show win0_12.index t 3 * 128 ≤ (i 3).val ∧ (i 3).val < win0_12.index t 3 * 128 + 128
    rw [h3]
    simp
    omega

theorem final_value : (dats m 0 c).arrAt 12 cfg0.N = arrValue m c :=
  (dats m 0 c).arrAt_eq_of_cover 12 (arrValue m c) (flushed_value m c) cover_value

end Cert.LnKvIdeal.Rows

end
-- ==== Proof.LnRefBody.lean ====
/-
  The reference of the normalisation and projection: its body's values, and its four results.
-/
module

public import proofs.«01_k».proof.Proof.Gen.LnKvReferenceIdeal.Frame
public import proofs.«01_k».proof.Proof.LnMath
public import Idealize.ShloMosaic.Lib.Pipeline.Value

@[expose] public section

set_option maxRecDepth 16384

noncomputable section

namespace Cert.LnKvReferenceIdeal.Rows

open Cert.LnKvReferenceIdeal Cert.LnKvReferenceIdeal.Gen Cert.Quant Cert.LnMath Idealize.ShloMosaic Idealize.ShloMosaic.TcCoe Idealize.SL.Sem

section Body

variable (x : Vec Ideal S2x15360x1536 .bf16) (ms sh : Vec Ideal S2x1x1536 .f32)

/-- The normalised row of a token. -/
def row (i : Fin 2) (r : Fin 15360) : Fin 1536 → EReal :=
  normed (fun k => x (ix3 i r k)) (fun k => ms (ix3 i 0 k)) fun k => sh (ix3 i 0 k)

theorem norm_apply (i : Fin 2) (r : Fin 15360) (j : Fin 1536) : k0_pay3 x ms sh (ix3 i r j) = row x ms sh i r j := by
  pointwise [k0_pay3]
  rfl

theorem scale_of (a : FVec Ideal S2x15360 .f32) (i : Fin 2) (r : Fin 15360) :
    select (cmpf .oeq (shapeCast S2x15360x1 a shapeCasts_S2x15360_S2x15360x1) (broadcast S2x15360x1 (Scalar.ofBits .f32 0x00000000#32)))
      (broadcast S2x15360x1 (Scalar.ofBits .f32 0x3F800000#32))
      (divf (shapeCast S2x15360x1 a shapeCasts_S2x15360_S2x15360x1) (broadcast S2x15360x1 (Scalar.ofBits .f32 0x42FE0000#32))) (ix3 i r 0)
      = scale (Ideal.ofBits .f32 0x42FE0000#32) (a (ix2 i r)) := by
  pointwise []
  rfl

theorem scale_apply (i : Fin 2) (r : Fin 15360) : k0_pay4 x ms sh (ix3 i r 0) = rowScale (row x ms sh i r) := by
  rw [k0_pay4]
  refine (scale_of _ i r).trans (congrArg (scale _) ?_)
  refine (amax3_apply (k0_pay3 x ms sh) _ _ _ i r).trans (congrArg amax ?_)
  exact funext fun j => norm_apply x ms sh i r j

theorem quotient_of (y : FVec Ideal S2x15360x1536 .f32) (sc : FVec Ideal S2x15360x1 .f32) (i : Fin 2) (r : Fin 15360) (j : Fin 1536) :
    roundeven (divf y (broadcastTo S2x15360x1536 sc broadcasts_S2x15360x1_S2x15360x1536)) (ix3 i r j)
      = Ideal.liftRound Ideal.roundHalfEven (Ideal.div (y (ix3 i r j)) (sc (ix3 i r 0))) := by
  pointwise []

theorem quotient_apply (i : Fin 2) (r : Fin 15360) (j : Fin 1536) :
    k0_pay5 x ms sh (ix3 i r j) = Ideal.liftRound Ideal.roundHalfEven (Ideal.div (row x ms sh i r j) (rowScale (row x ms sh i r))) := by
  rw [k0_pay5, quotient_of, norm_apply, scale_apply]

theorem byte_of (y : FVec Ideal S2x15360x1536 .f32) (i : Fin 2) (r : Fin 15360) (j : Fin 1536) :
    k0_pay6 y (Scalar.ofBits .f32 0xC2FE0000#32) (ix3 i r j)
      = FloatOps.fptosi (F := Ideal) (φ := .f32) 8 (min (Ideal.ofBits .f32 0x42FE0000#32) (max (Ideal.ofBits .f32 0xC2FE0000#32) (y (ix3 i r j)))) := by
  pointwise [k0_pay6]

theorem byte_apply (i : Fin 2) (r : Fin 15360) (j : Fin 1536) :
    k0_pay6 (k0_pay5 x ms sh) (Scalar.ofBits .f32 0xC2FE0000#32) (ix3 i r j) = rowByte (row x ms sh i r) j := by
  rw [byte_of, quotient_apply]
  rfl

theorem line_of (a : FVec Ideal S2x15360x1 .f32) (i : Fin 2) (r : Fin 15360) : k0_pay7 a (ix3 i 0 r) = a (ix3 i r 0) := by
  pointwise [k0_pay7]

theorem line_apply (i : Fin 2) (r : Fin 15360) : k0_pay7 (k0_pay4 x ms sh) (ix3 i 0 r) = rowScale (row x ms sh i r) :=
  (line_of _ i r).trans (scale_apply ..)

variable (w : Vec Ideal S1536x3072 .i8) (s b : Vec Ideal S1x1x3072 .f32)

theorem project_of (cd : IVec S2x15360x1536 8) (sc : FVec Ideal S2x15360x1 .f32) (i : Fin 2) (r : Fin 15360) (e : Fin 3072) :
    addf (mulf (mulf (matmul dot_S2x15360x1536_S1536x3072_S2x15360x3072_2_0_01_1_n_n none (sitofp .bf16 cd)
          (sitofp .bf16 (shapeCast S1536x3072 w shapeCasts_S1536x3072_S1536x3072)) (constant S2x15360x3072 .f32 0x00000000#32))
        (broadcastTo S2x15360x3072 sc broadcasts_S2x15360x1_S2x15360x3072))
        (broadcastTo S2x15360x3072 (shapeCast S1x1x3072 s shapeCasts_S1x1x3072_S1x1x3072) broadcasts_S1x1x3072_S2x15360x3072))
      (broadcastTo S2x15360x3072 (shapeCast S1x1x3072 b shapeCasts_S1x1x3072_S1x1x3072) broadcasts_S1x1x3072_S2x15360x3072) (ix3 i r e)
      = (∑ k : Fin 1536, FloatOps.sitofp (F := Ideal) .bf16 (cd (ix3 i r k)) * FloatOps.sitofp (F := Ideal) .bf16 (w (ix2 k e))) * sc (ix3 i r 0)
        * s (ix3 0 0 e) + b (ix3 0 0 e) := by
  pointwise []

/-- The projection of every token. -/
def proj : FVec Ideal S2x15360x3072 .f32 :=
  k0_pay8 (k0_pay4 x ms sh) (k0_pay5 x ms sh) (Scalar.ofBits .f32 0xC2FE0000#32) w s b

theorem proj_apply (i : Fin 2) (r : Fin 15360) (e : Fin 3072) : proj x ms sh w s b (ix3 i r e)
    = project (row x ms sh i r) (fun k => w (ix2 k e)) (s (ix3 0 0 e)) (b (ix3 0 0 e)) := by
  rw [proj, k0_pay8]
  refine (project_of w s b (k0_pay6 (k0_pay5 x ms sh) (Scalar.ofBits .f32 0xC2FE0000#32)) (k0_pay4 x ms sh) i r e).trans ?_
  rw [scale_apply]
  simp only [byte_apply, byte_rowCode]
  rfl

theorem values_of (a : FVec Ideal S2x15360x3072 .f32) (i : Fin 2) (r : Fin 15360) (e : Fin 1536) :
    extractStridedSlice S2x15360x1536 ![0, 0, 1536] a slices_S2x15360x3072_o0_0_1536_S2x15360x1536 (ix3 i r e) = a (ix3 i r ⟨1536 + e.val, by omega⟩) := by
  pointwise []

theorem keys_of (a : FVec Ideal S2x15360x3072 .f32) (i : Fin 2) (r : Fin 15360) (e : Fin 1536) :
    extractStridedSlice S2x15360x1536 ![0, 0, 0] a slices_S2x15360x3072_o0_0_0_S2x15360x1536 (ix3 i r e) = a (ix3 i r ⟨e.val, by omega⟩) := by
  pointwise []

theorem root_of (b : FVec Ideal S2x15360x1536 .f32) (i : Fin 2) (r : Fin 15360) (e : Fin 1536) :
    divf b (broadcastTo S2x15360x1536 (sqrt (addf (divf (shapeCast S2x15360x1 (multiReduction .add [2] S2x15360 (mulf b b) 0x00000000#32
        reduces_S2x15360x1536_S2x15360 (.inl rfl) rfl) shapeCasts_S2x15360_S2x15360x1)
      (broadcast S2x15360x1 (Scalar.ofBits .f32 0x44C00000#32))) (broadcast S2x15360x1 (Scalar.ofBits .f32 0x358637BD#32))))
      broadcasts_S2x15360x1_S2x15360x1536) (ix3 i r e)
      = Ideal.div (b (ix3 i r e)) (root fun e => b (ix3 i r e)) := by
  pointwise []
  rfl

theorem heads_of (a : FVec Ideal S2x15360x1536 .f32) (i : Fin 2) (h : Fin 12) (r : Fin 15360) (j : Fin 128) :
    k0_pay2 a (ix4 i h r j) = a (ix3 i r (chan h j)) := by
  pointwise [k0_pay2]
  exact congrArg (fun u => a (ix3 i r u)) (Fin.ext (by simp; omega))

end Body

end Cert.LnKvReferenceIdeal.Rows

end
-- ==== Proof.LnRefTurn.lean ====
/-
  The rotation of the reference of the normalisation and projection, read at an index.
-/
module

public import proofs.«01_k».proof.Proof.Gen.LnKvReferenceIdeal.Skeleton
public import proofs.«01_k».proof.Proof.LnMath

@[expose] public section

set_option maxRecDepth 16384

noncomputable section

namespace Cert.LnKvReferenceIdeal.Rows

open Cert.LnKvReferenceIdeal Cert.LnKvReferenceIdeal.Gen Cert.Quant Cert.LnMath Idealize.ShloMosaic Idealize.ShloMosaic.TcCoe Idealize.SL.Sem

theorem even_of (y : FVec Ideal S2x15360x1536 .f32) (i : Fin 2) (r : Fin 15360) (h : Fin 12) (p : Fin 64) :
    shapeCast S2x15360x12x64 (extractStridedSlice S2x15360x12x64x1 ![0, 0, 0, 0, 0] (shapeCast S2x15360x12x64x2 y shapeCasts_S2x15360x1536_S2x15360x12x64x2)
      slices_S2x15360x12x64x2_o0_0_0_0_0_S2x15360x12x64x1) shapeCasts_S2x15360x12x64x1_S2x15360x12x64 (ix4 i r h p)
      = y (ix3 i r ⟨128 * h.val + 2 * p.val, by omega⟩) := by
  pointwise []
  exact congrArg (fun u => y (ix3 i r u)) (Fin.ext (by simp; omega))

theorem odd_of (y : FVec Ideal S2x15360x1536 .f32) (i : Fin 2) (r : Fin 15360) (h : Fin 12) (p : Fin 64) :
    shapeCast S2x15360x12x64 (extractStridedSlice S2x15360x12x64x1 ![0, 0, 0, 0, 1] (shapeCast S2x15360x12x64x2 y shapeCasts_S2x15360x1536_S2x15360x12x64x2)
      slices_S2x15360x12x64x2_o0_0_0_0_1_S2x15360x12x64x1) shapeCasts_S2x15360x12x64x1_S2x15360x12x64 (ix4 i r h p)
      = y (ix3 i r ⟨128 * h.val + 2 * p.val + 1, by omega⟩) := by
  pointwise []
  exact congrArg (fun u => y (ix3 i r u)) (Fin.ext (by simp; omega))

theorem angle_of (v : Vec Ideal S2x15360x64 .f32) (i : Fin 2) (r : Fin 15360) (h : Fin 12) (p : Fin 64) :
    broadcastTo S2x15360x12x64 (shapeCast S2x15360x1x64 v shapeCasts_S2x15360x64_S2x15360x1x64) broadcasts_S2x15360x1x64_S2x15360x12x64 (ix4 i r h p) = v (ix3 i r p) := by
  pointwise []

theorem joined_of (u v : FVec Ideal S2x15360x12x64 .f32) (i : Fin 2) (r : Fin 15360) (h : Fin 12) (p : Fin 64) (q : Fin 2) :
    concatenate S2x15360x12x64x2 4 [⟨S2x15360x12x64x1, shapeCast S2x15360x12x64x1 u shapeCasts_S2x15360x12x64_S2x15360x12x64x1⟩,
      ⟨S2x15360x12x64x1, shapeCast S2x15360x12x64x1 v shapeCasts_S2x15360x12x64_S2x15360x12x64x1⟩]
      concatenates_S2x15360x12x64x1_S2x15360x12x64x1_S2x15360x12x64x2_d4 (ix5 i r h p q) = if q.val = 0 then u (ix4 i r h p) else v (ix4 i r h p) := by
  pointwise []
  have e : q.val < 1 ↔ q.val = 0 := by omega
  simp only [e, dite_eq_ite]

theorem laid_of (z : FVec Ideal S2x15360x12x64x2 .f32) (i : Fin 2) (h : Fin 12) (r : Fin 15360) (j : Fin 128) :
    transpose S2x12x15360x128 [0, 2, 1, 3] (shapeCast S2x15360x12x128 z shapeCasts_S2x15360x12x64x2_S2x15360x12x128)
      transposes_S2x15360x12x128_p0_2_1_3_S2x12x15360x128 (ix4 i h r j) = z (ix5 i r h (pair j) ⟨j.val % 2, by omega⟩) := by
  pointwise []
  rfl

theorem gain_of (a : FVec Ideal S2x15360x1536 .f32) (g : Vec Ideal S1x1x1536 .f32) (i : Fin 2) (r : Fin 15360) (e : Fin 1536) :
    mulf a (broadcastTo S2x15360x1536 (shapeCast S1x1x1536 g shapeCasts_S1x1x1536_S1x1x1536) broadcasts_S1x1x1536_S2x15360x1536) (ix3 i r e) = a (ix3 i r e) * g (ix3 0 0 e) := by
  pointwise []

theorem turned_of (a : FVec Ideal S2x15360x1536 .f32) (g : Vec Ideal S1x1x1536 .f32) (cs sn : Vec Ideal S2x15360x64 .f32)
    (i : Fin 2) (h : Fin 12) (r : Fin 15360) (j : Fin 128) :
    k0_pay1 a g cs sn (ix4 i h r j)
      = turned (fun j => a (ix3 i r (chan h j)) * g (ix3 0 0 (chan h j))) (fun p => cs (ix3 i r p)) (fun p => sn (ix3 i r p)) j := by
  rw [k0_pay1]
  refine (laid_of _ i h r j).trans ((joined_of _ _ i r h (pair j) _).trans ?_)
  unfold turned
  by_cases e : j.val % 2 = 0
  · have h0 : (⟨128 * h.val + 2 * (pair j).val, by omega⟩ : Fin 1536) = chan h j :=
      Fin.ext (by show 128 * h.val + 2 * (j.val / 2) = 128 * h.val + j.val; omega)
    have h1 : (⟨128 * h.val + 2 * (pair j).val + 1, by omega⟩ : Fin 1536) = chan h (partner j) :=
      Fin.ext (by show 128 * h.val + 2 * (j.val / 2) + 1 = 128 * h.val + (if j.val % 2 = 0 then j.val + 1 else j.val - 1); rw [if_pos e]; omega)
    rw [if_pos e, if_pos e]
    refine (congrArg₂ (fun p q : EReal => p - q) (congrArg₂ (fun p q : EReal => p * q) (even_of _ i r h (pair j)) (angle_of cs i r h (pair j)))
      (congrArg₂ (fun p q : EReal => p * q) (odd_of _ i r h (pair j)) (angle_of sn i r h (pair j)))).trans ?_
    rw [gain_of, gain_of, h0, h1]
  · have h0 : (⟨128 * h.val + 2 * (pair j).val, by omega⟩ : Fin 1536) = chan h (partner j) :=
      Fin.ext (by show 128 * h.val + 2 * (j.val / 2) = 128 * h.val + (if j.val % 2 = 0 then j.val + 1 else j.val - 1); rw [if_neg e]; omega)
    have h1 : (⟨128 * h.val + 2 * (pair j).val + 1, by omega⟩ : Fin 1536) = chan h j :=
      Fin.ext (by show 128 * h.val + 2 * (j.val / 2) + 1 = 128 * h.val + j.val; omega)
    rw [if_neg e, if_neg e]
    refine (congrArg₂ (fun p q : EReal => p + q) (congrArg₂ (fun p q : EReal => p * q) (even_of _ i r h (pair j)) (angle_of sn i r h (pair j)))
      (congrArg₂ (fun p q : EReal => p * q) (odd_of _ i r h (pair j)) (angle_of cs i r h (pair j)))).trans ?_
    rw [gain_of, gain_of, h0, h1]

end Cert.LnKvReferenceIdeal.Rows

end
-- ==== Proof.LnRef.lean ====
/-
  What the reference of the layer norm and the projection to keys and values computes, result by result.
-/
module

public import proofs.«01_k».proof.Proof.LnRefBody
public import proofs.«01_k».proof.Proof.LnRefTurn

@[expose] public section

set_option maxRecDepth 16384

noncomputable section

namespace Cert.LnKvReferenceIdeal.Rows

open Cert.LnKvReferenceIdeal Cert.LnKvReferenceIdeal.Gen Cert.Quant Cert.LnMath Idealize.ShloMosaic Idealize.ShloMosaic.TcCoe Idealize.SL.Sem

theorem origin2 : (![0, 0] : Fin 2 → ℕ) = fun _ => 0 := funext fun a => by fin_cases a <;> rfl

theorem origin3 : (![0, 0, 0] : Fin 3 → ℕ) = fun _ => 0 := funext fun a => by fin_cases a <;> rfl

theorem origin4 : (![0, 0, 0, 0] : Fin 4 → ℕ) = fun _ => 0 := funext fun a => by fin_cases a <;> rfl

section Results

variable (x0 : Vec Ideal S2x15360x1536 .bf16) (x1 x2 : Vec Ideal S2x1x1536 .f32) (x3 : Vec Ideal S1536x3072 .i8)
  (x4 x5 : Vec Ideal S1x1x3072 .f32) (x6 : Vec Ideal S1x1x1536 .f32) (x7 x8 : Vec Ideal S2x15360x64 .f32)

theorem quotient_key (i : Fin 2) (r : Fin 15360) (e : Fin 1536) :
    k0_pay10 (k0_pay4 x0 x2 x1) (k0_pay5 x0 x2 x1) (Scalar.ofBits .f32 0xC2FE0000#32) x3 x4 x5 (ix3 i r e)
      = Ideal.div (keyRow (row x0 x2 x1 i r) (fun k e => x3 (ix2 k e)) (fun e => x4 (ix3 0 0 e)) (fun e => x5 (ix3 0 0 e)) e)
          (root (keyRow (row x0 x2 x1 i r) (fun k e => x3 (ix2 k e)) (fun e => x4 (ix3 0 0 e)) (fun e => x5 (ix3 0 0 e)))) := by
  have hk : (fun e => extractStridedSlice S2x15360x1536 ![0, 0, 0] (proj x0 x2 x1 x3 x4 x5) slices_S2x15360x3072_o0_0_0_S2x15360x1536 (ix3 i r e))
      = keyRow (row x0 x2 x1 i r) (fun k e => x3 (ix2 k e)) (fun e => x4 (ix3 0 0 e)) (fun e => x5 (ix3 0 0 e)) :=
    funext fun e => (keys_of _ i r e).trans (proj_apply ..)
  rw [k0_pay10]
  exact (root_of _ i r e).trans (congrArg₂ Ideal.div (congrFun hk e) (congrArg root hk))

theorem value_row (i : Fin 2) (r : Fin 15360) (e : Fin 1536) :
    k0_pay9 (k0_pay4 x0 x2 x1) (k0_pay5 x0 x2 x1) (Scalar.ofBits .f32 0xC2FE0000#32) x3 x4 x5 (ix3 i r e)
      = valueRow (row x0 x2 x1 i r) (fun k e => x3 (ix2 k e)) (fun e => x4 (ix3 0 0 e)) (fun e => x5 (ix3 0 0 e)) e := by
  rw [k0_pay9]
  exact (values_of _ i r e).trans (proj_apply ..)

theorem out9_apply (i : Fin 2) (r : Fin 15360) (j : Fin 1536) :
    out0_9 x0 x1 x2 x3 x4 x5 x6 x7 x8 (ix3 i r j) = rowByte (row x0 x2 x1 i r) j := by
  unfold out0_9 k0_pay12
  rw [View.canon_unit_zero origin3, View.ld_unit_zero origin3 _ x0, View.ld_unit_zero origin3 _ x1, View.ld_unit_zero origin3 _ x2]
  exact byte_apply ..

theorem out10_apply (i : Fin 2) (r : Fin 15360) :
    out0_10 x0 x1 x2 x3 x4 x5 x6 x7 x8 (ix3 i 0 r) = rowScale (row x0 x2 x1 i r) := by
  unfold out0_10 k0_pay11
  rw [View.canon_unit_zero origin3, View.ld_unit_zero origin3 _ x0, View.ld_unit_zero origin3 _ x1, View.ld_unit_zero origin3 _ x2]
  exact line_apply ..

theorem out11_apply (i : Fin 2) (h : Fin 12) (r : Fin 15360) (j : Fin 128) :
    out0_11 x0 x1 x2 x3 x4 x5 x6 x7 x8 (ix4 i h r j)
      = key (row x0 x2 x1 i r) (fun k e => x3 (ix2 k e)) (fun e => x4 (ix3 0 0 e)) (fun e => x5 (ix3 0 0 e)) (fun e => x6 (ix3 0 0 e))
          (fun p => x7 (ix3 i r p)) (fun p => x8 (ix3 i r p)) h j := by
  unfold out0_11 k0_pay12 k0_pay11
  rw [View.canon_unit_zero origin4, View.ld_unit_zero origin3 _ x0, View.ld_unit_zero origin3 _ x1, View.ld_unit_zero origin3 _ x2,
    View.ld_unit_zero origin2 _ x3, View.ld_unit_zero origin3 _ x4, View.ld_unit_zero origin3 _ x5, View.ld_unit_zero origin3 _ x6,
    View.ld_unit_zero origin3 _ x7, View.ld_unit_zero origin3 _ x8]
  refine (turned_of _ x6 x7 x8 i h r j).trans ?_
  unfold key
  refine congrArg (fun y => turned y _ _ j) (funext fun j => ?_)
  rw [quotient_key, gained]

theorem out12_apply (i : Fin 2) (h : Fin 12) (r : Fin 15360) (j : Fin 128) :
    out0_12 x0 x1 x2 x3 x4 x5 x6 x7 x8 (ix4 i h r j)
      = valueRow (row x0 x2 x1 i r) (fun k e => x3 (ix2 k e)) (fun e => x4 (ix3 0 0 e)) (fun e => x5 (ix3 0 0 e)) (chan h j) := by
  unfold out0_12 k0_pay12 k0_pay11
  rw [View.canon_unit_zero origin4, View.ld_unit_zero origin3 _ x0, View.ld_unit_zero origin3 _ x1, View.ld_unit_zero origin3 _ x2,
    View.ld_unit_zero origin2 _ x3, View.ld_unit_zero origin3 _ x4, View.ld_unit_zero origin3 _ x5]
  exact (heads_of _ i h r j).trans (value_row ..)

end Results

end Cert.LnKvReferenceIdeal.Rows

end
-- ==== Proof.LnRefRun.lean ====
/-
  The run of the reference of the layer norm and the projection to keys and values, and the operands that it lays out before its call.
-/
module

public import proofs.«01_k».proof.Proof.LnRef
public import proofs.«01_k».proof.Proof.Gen.LnKvReferenceIdeal.Value
public import Idealize.ShloMosaic.Lib.Claim

@[expose] public section

set_option maxRecDepth 16384

noncomputable section

namespace Cert.LnKvReferenceIdeal.Rows

open Cert.LnKvReferenceIdeal Cert.LnKvReferenceIdeal.Gen Cert.Quant Cert.LnMath Idealize.ShloMosaic Idealize.ShloMosaic.TcCoe Idealize.SL.Sem

variable (m : (ℓ : Loc nD τ sig) → Buf (Elt Ideal) ℓ) (ρ : Dev nD → PrngReg) (c : Dev nD)

theorem shift_apply (i : Fin 2) (j : Fin 1536) : (V m c main_v0 : Vec Ideal S2x1x1536 .f32) (ix3 i 0 j)
    = (m ((c : Thread nD τ).loc main_arg1) : Vec Ideal S2x1536 .f32) (ix2 i j) := by
  entry_read
  pointwise

theorem mscale_apply (i : Fin 2) (j : Fin 1536) : (V m c main_v1 : Vec Ideal S2x1x1536 .f32) (ix3 i 0 j)
    = (m ((c : Thread nD τ).loc main_arg2) : Vec Ideal S2x1536 .f32) (ix2 i j) := by
  entry_read
  pointwise

theorem weight_apply (k : Fin 1536) (e : Fin 3072) : (V m c main_v3 : Vec Ideal S1536x3072 .i8) (ix2 k e)
    = (m ((c : Thread nD τ).loc main_arg3) : Vec Ideal S1536x3x12x128 .i8) (ix4 k ⟨(1536 + e.val) / 1536, by omega⟩ ⟨(1536 + e.val) / 128 % 12, by omega⟩ ⟨(1536 + e.val) % 128, by omega⟩) := by
  entry_read
  pointwise

theorem wscale_apply (e : Fin 3072) : (V m c main_v5 : Vec Ideal S1x1x3072 .f32) (ix3 0 0 e)
    = (m ((c : Thread nD τ).loc main_arg4) : Vec Ideal S3x12x128 .f32) (ix3 ⟨(1536 + e.val) / 1536, by omega⟩ ⟨(1536 + e.val) / 128 % 12, by omega⟩ ⟨(1536 + e.val) % 128, by omega⟩) := by
  entry_read
  pointwise

theorem bias_apply (e : Fin 3072) : (V m c main_v7 : Vec Ideal S1x1x3072 .f32) (ix3 0 0 e)
    = (m ((c : Thread nD τ).loc main_arg5) : Vec Ideal S3x12x128 .f32) (ix3 ⟨(1536 + e.val) / 1536, by omega⟩ ⟨(1536 + e.val) / 128 % 12, by omega⟩ ⟨(1536 + e.val) % 128, by omega⟩) := by
  entry_read
  pointwise

theorem gain_apply (e : Fin 1536) : (V m c main_v8 : Vec Ideal S1x1x1536 .f32) (ix3 0 0 e)
    = (m ((c : Thread nD τ).loc main_arg6) : Vec Ideal S12x128 .f32) (ix2 ⟨e.val / 128, by omega⟩ ⟨e.val % 128, by omega⟩) := by
  entry_read
  pointwise

theorem emb0 (t : Fin cfg0.N) (j : S2x15360x1536.Idx) : ((cfg0.win 0).blk t).view.emb j = j :=
  funext fun a => Fin.ext (win0_0.rect_emb_val_of_index_zero t a rfl j)

theorem iblk0 (t : Fin cfg0.N) : (iblk m c 0 t : Vec Ideal S2x15360x1536 .bf16) = V m c main_arg0 := by
  funext j
  show V m c main_arg0 (((cfg0.win 0).blk t).view.emb j) = V m c main_arg0 j
  rw [emb0]

theorem emb1 (t : Fin cfg0.N) (j : S2x1x1536.Idx) : ((cfg0.win 1).blk t).view.emb j = j :=
  funext fun a => Fin.ext (win0_1.rect_emb_val_of_index_zero t a rfl j)

theorem iblk1 (t : Fin cfg0.N) : (iblk m c 1 t : Vec Ideal S2x1x1536 .f32) = V m c main_v0 := by
  funext j
  show V m c main_v0 (((cfg0.win 1).blk t).view.emb j) = V m c main_v0 j
  rw [emb1]

theorem emb2 (t : Fin cfg0.N) (j : S2x1x1536.Idx) : ((cfg0.win 2).blk t).view.emb j = j :=
  funext fun a => Fin.ext (win0_2.rect_emb_val_of_index_zero t a rfl j)

theorem iblk2 (t : Fin cfg0.N) : (iblk m c 2 t : Vec Ideal S2x1x1536 .f32) = V m c main_v1 := by
  funext j
  show V m c main_v1 (((cfg0.win 2).blk t).view.emb j) = V m c main_v1 j
  rw [emb2]

theorem emb3 (t : Fin cfg0.N) (j : S1536x3072.Idx) : ((cfg0.win 3).blk t).view.emb j = j :=
  funext fun a => Fin.ext (win0_3.rect_emb_val_of_index_zero t a rfl j)

theorem iblk3 (t : Fin cfg0.N) : (iblk m c 3 t : Vec Ideal S1536x3072 .i8) = V m c main_v3 := by
  funext j
  show V m c main_v3 (((cfg0.win 3).blk t).view.emb j) = V m c main_v3 j
  rw [emb3]

theorem emb4 (t : Fin cfg0.N) (j : S1x1x3072.Idx) : ((cfg0.win 4).blk t).view.emb j = j :=
  funext fun a => Fin.ext (win0_4.rect_emb_val_of_index_zero t a rfl j)

theorem iblk4 (t : Fin cfg0.N) : (iblk m c 4 t : Vec Ideal S1x1x3072 .f32) = V m c main_v5 := by
  funext j
  show V m c main_v5 (((cfg0.win 4).blk t).view.emb j) = V m c main_v5 j
  rw [emb4]

theorem emb5 (t : Fin cfg0.N) (j : S1x1x3072.Idx) : ((cfg0.win 5).blk t).view.emb j = j :=
  funext fun a => Fin.ext (win0_5.rect_emb_val_of_index_zero t a rfl j)

theorem iblk5 (t : Fin cfg0.N) : (iblk m c 5 t : Vec Ideal S1x1x3072 .f32) = V m c main_v7 := by
  funext j
  show V m c main_v7 (((cfg0.win 5).blk t).view.emb j) = V m c main_v7 j
  rw [emb5]

theorem emb6 (t : Fin cfg0.N) (j : S1x1x1536.Idx) : ((cfg0.win 6).blk t).view.emb j = j :=
  funext fun a => Fin.ext (win0_6.rect_emb_val_of_index_zero t a rfl j)

theorem iblk6 (t : Fin cfg0.N) : (iblk m c 6 t : Vec Ideal S1x1x1536 .f32) = V m c main_v8 := by
  funext j
  show V m c main_v8 (((cfg0.win 6).blk t).view.emb j) = V m c main_v8 j
  rw [emb6]

theorem emb7 (t : Fin cfg0.N) (j : S2x15360x64.Idx) : ((cfg0.win 7).blk t).view.emb j = j :=
  funext fun a => Fin.ext (win0_7.rect_emb_val_of_index_zero t a rfl j)

theorem iblk7 (t : Fin cfg0.N) : (iblk m c 7 t : Vec Ideal S2x15360x64 .f32) = V m c main_arg7 := by
  funext j
  show V m c main_arg7 (((cfg0.win 7).blk t).view.emb j) = V m c main_arg7 j
  rw [emb7]

theorem emb8 (t : Fin cfg0.N) (j : S2x15360x64.Idx) : ((cfg0.win 8).blk t).view.emb j = j :=
  funext fun a => Fin.ext (win0_8.rect_emb_val_of_index_zero t a rfl j)

theorem iblk8 (t : Fin cfg0.N) : (iblk m c 8 t : Vec Ideal S2x15360x64 .f32) = V m c main_arg8 := by
  funext j
  show V m c main_arg8 (((cfg0.win 8).blk t).view.emb j) = V m c main_arg8 j
  rw [emb8]

theorem emb9 (t : Fin cfg0.N) (j : S2x15360x1536.Idx) : ((cfg0.win 9).blk t).view.emb j = j :=
  funext fun a => Fin.ext (win0_9.rect_emb_val_of_index_zero t a rfl j)

theorem emb10 (t : Fin cfg0.N) (j : S2x1x15360.Idx) : ((cfg0.win 10).blk t).view.emb j = j :=
  funext fun a => Fin.ext (win0_10.rect_emb_val_of_index_zero t a rfl j)

theorem emb11 (t : Fin cfg0.N) (j : S2x12x15360x128.Idx) : ((cfg0.win 11).blk t).view.emb j = j :=
  funext fun a => Fin.ext (win0_11.rect_emb_val_of_index_zero t a rfl j)

theorem emb12 (t : Fin cfg0.N) (j : S2x12x15360x128.Idx) : ((cfg0.win 12).blk t).view.emb j = j :=
  funext fun a => Fin.ext (win0_12.rect_emb_val_of_index_zero t a rfl j)

theorem final9 : (dats m 0 c).arrAt 9 cfg0.N = (out0_9 (V m c main_arg0) (V m c main_v0) (V m c main_v1) (V m c main_v3) (V m c main_v5) (V m c main_v7) (V m c main_v8) (V m c main_arg7) (V m c main_arg8) : Vec Ideal S2x15360x1536 .i8) := by
  refine (dats m 0 c).arrAt_eq_of_cover 9 _ (fun t _ => ?_) fun i => ⟨t0_0, flush0_9 _, ?_⟩
  · show (cfg0.win 9).cut (grid0.coords t) ((dats m 0 c).after 9 t) = _
    rw [after0_9, iblk0, iblk1, iblk2, iblk3, iblk4, iblk5, iblk6, iblk7, iblk8]
    generalize (out0_9 (V m c main_arg0) (V m c main_v0) (V m c main_v1) (V m c main_v3) (V m c main_v5) (V m c main_v7) (V m c main_v8) (V m c main_arg7) (V m c main_arg8) : Vec Ideal S2x15360x1536 .i8) = X
    funext j
    show X j = X (((cfg0.win 9).blk t).view.emb j)
    rw [emb9]
  · have h := ((cfg0.win 9).blk t0_0).view.emb_mem_set i
    rwa [emb9] at h

theorem final10 : (dats m 0 c).arrAt 10 cfg0.N = (out0_10 (V m c main_arg0) (V m c main_v0) (V m c main_v1) (V m c main_v3) (V m c main_v5) (V m c main_v7) (V m c main_v8) (V m c main_arg7) (V m c main_arg8) : Vec Ideal S2x1x15360 .f32) := by
  refine (dats m 0 c).arrAt_eq_of_cover 10 _ (fun t _ => ?_) fun i => ⟨t0_0, flush0_10 _, ?_⟩
  · show (cfg0.win 10).cut (grid0.coords t) ((dats m 0 c).after 10 t) = _
    rw [after0_10, iblk0, iblk1, iblk2, iblk3, iblk4, iblk5, iblk6, iblk7, iblk8]
    generalize (out0_10 (V m c main_arg0) (V m c main_v0) (V m c main_v1) (V m c main_v3) (V m c main_v5) (V m c main_v7) (V m c main_v8) (V m c main_arg7) (V m c main_arg8) : Vec Ideal S2x1x15360 .f32) = X
    funext j
    show X j = X (((cfg0.win 10).blk t).view.emb j)
    rw [emb10]
  · have h := ((cfg0.win 10).blk t0_0).view.emb_mem_set i
    rwa [emb10] at h

theorem final11 : (dats m 0 c).arrAt 11 cfg0.N = (out0_11 (V m c main_arg0) (V m c main_v0) (V m c main_v1) (V m c main_v3) (V m c main_v5) (V m c main_v7) (V m c main_v8) (V m c main_arg7) (V m c main_arg8) : Vec Ideal S2x12x15360x128 .f32) := by
  refine (dats m 0 c).arrAt_eq_of_cover 11 _ (fun t _ => ?_) fun i => ⟨t0_0, flush0_11 _, ?_⟩
  · show (cfg0.win 11).cut (grid0.coords t) ((dats m 0 c).after 11 t) = _
    rw [after0_11, iblk0, iblk1, iblk2, iblk3, iblk4, iblk5, iblk6, iblk7, iblk8]
    generalize (out0_11 (V m c main_arg0) (V m c main_v0) (V m c main_v1) (V m c main_v3) (V m c main_v5) (V m c main_v7) (V m c main_v8) (V m c main_arg7) (V m c main_arg8) : Vec Ideal S2x12x15360x128 .f32) = X
    funext j
    show X j = X (((cfg0.win 11).blk t).view.emb j)
    rw [emb11]
  · have h := ((cfg0.win 11).blk t0_0).view.emb_mem_set i
    rwa [emb11] at h

theorem final12 : (dats m 0 c).arrAt 12 cfg0.N = (out0_12 (V m c main_arg0) (V m c main_v0) (V m c main_v1) (V m c main_v3) (V m c main_v5) (V m c main_v7) (V m c main_v8) (V m c main_arg7) (V m c main_arg8) : Vec Ideal S2x12x15360x128 .f32) := by
  refine (dats m 0 c).arrAt_eq_of_cover 12 _ (fun t _ => ?_) fun i => ⟨t0_0, flush0_12 _, ?_⟩
  · show (cfg0.win 12).cut (grid0.coords t) ((dats m 0 c).after 12 t) = _
    rw [after0_12, iblk0, iblk1, iblk2, iblk3, iblk4, iblk5, iblk6, iblk7, iblk8]
    generalize (out0_12 (V m c main_arg0) (V m c main_v0) (V m c main_v1) (V m c main_v3) (V m c main_v5) (V m c main_v7) (V m c main_v8) (V m c main_arg7) (V m c main_arg8) : Vec Ideal S2x12x15360x128 .f32) = X
    funext j
    show X j = X (((cfg0.win 12).blk t).view.emb j)
    rw [emb12]
  · have h := ((cfg0.win 12).blk t0_0).view.emb_mem_set i
    rwa [emb12] at h

end Cert.LnKvReferenceIdeal.Rows

end
-- ==== Proof.LnMatch.lean ====
/-
  The results of the layer norm and the projection to keys and values, and its reference's: the same functions of the arguments.
-/
module

public import proofs.«01_k».proof.Proof.LnFinal
public import proofs.«01_k».proof.Proof.LnRefRun

@[expose] public section

set_option maxRecDepth 16384

noncomputable section

namespace Cert.LnMatch

open Cert.Quant Cert.LnMath Idealize.ShloMosaic Idealize.ShloMosaic.TcCoe Idealize.SL.Sem

open Cert.LnKvIdeal.Rows (a0 a1 a2 a3 a4 a5 a6 a7 a8 tokenRow codesOf scalesOf biasOf gainOf keyOf valueOf arrByte arrScale arrKey arrValue)

open Cert.LnKvReferenceIdeal (main_arg0 main_arg1 main_arg2 main_arg3 main_arg4 main_arg5 main_arg6 main_arg7 main_arg8 main_v0 main_v1 main_v3 main_v5 main_v7 main_v8)

open Cert.LnKvReferenceIdeal.Gen (V out0_9 out0_10 out0_11 out0_12)

variable (m : (ℓ : Loc Cert.LnKvIdeal.nD Cert.LnKvIdeal.τ Cert.LnKvIdeal.sig) → Buf (Elt Ideal) ℓ) (c : Dev Cert.LnKvIdeal.nD)
  (m' : (ℓ : Loc Cert.LnKvReferenceIdeal.nD Cert.LnKvReferenceIdeal.τ Cert.LnKvReferenceIdeal.sig) → Buf (Elt Ideal) ℓ) (c' : Dev Cert.LnKvReferenceIdeal.nD)
  (h0 : (m' ((c' : Thread Cert.LnKvReferenceIdeal.nD Cert.LnKvReferenceIdeal.τ).loc main_arg0) : Vec Ideal Cert.LnKvIdeal.S2x15360x1536 .bf16) = a0 m c)
  (h1 : (m' ((c' : Thread Cert.LnKvReferenceIdeal.nD Cert.LnKvReferenceIdeal.τ).loc main_arg1) : Vec Ideal Cert.LnKvIdeal.S2x1536 .f32) = a1 m c)
  (h2 : (m' ((c' : Thread Cert.LnKvReferenceIdeal.nD Cert.LnKvReferenceIdeal.τ).loc main_arg2) : Vec Ideal Cert.LnKvIdeal.S2x1536 .f32) = a2 m c)
  (h3 : (m' ((c' : Thread Cert.LnKvReferenceIdeal.nD Cert.LnKvReferenceIdeal.τ).loc main_arg3) : Vec Ideal Cert.LnKvIdeal.S1536x3x12x128 .i8) = a3 m c)
  (h4 : (m' ((c' : Thread Cert.LnKvReferenceIdeal.nD Cert.LnKvReferenceIdeal.τ).loc main_arg4) : Vec Ideal Cert.LnKvIdeal.S3x12x128 .f32) = a4 m c)
  (h5 : (m' ((c' : Thread Cert.LnKvReferenceIdeal.nD Cert.LnKvReferenceIdeal.τ).loc main_arg5) : Vec Ideal Cert.LnKvIdeal.S3x12x128 .f32) = a5 m c)
  (h6 : (m' ((c' : Thread Cert.LnKvReferenceIdeal.nD Cert.LnKvReferenceIdeal.τ).loc main_arg6) : Vec Ideal Cert.LnKvIdeal.S12x128 .f32) = a6 m c)
  (h7 : (m' ((c' : Thread Cert.LnKvReferenceIdeal.nD Cert.LnKvReferenceIdeal.τ).loc main_arg7) : Vec Ideal Cert.LnKvIdeal.S2x15360x64 .f32) = a7 m c)
  (h8 : (m' ((c' : Thread Cert.LnKvReferenceIdeal.nD Cert.LnKvReferenceIdeal.τ).loc main_arg8) : Vec Ideal Cert.LnKvIdeal.S2x15360x64 .f32) = a8 m c)

include h0 h1 h2

theorem row_eq (i : Fin 2) (n : Fin 15360) :
    Cert.LnKvReferenceIdeal.Rows.row (V m' c' main_arg0) (V m' c' main_v1) (V m' c' main_v0) i n = tokenRow m c i n := by
  have e0 : (fun k => (V m' c' main_arg0 : Vec Ideal Cert.LnKvReferenceIdeal.S2x15360x1536 .bf16) (ix3 i n k)) = fun k => a0 m c (ix3 i n k) := by
    rw [Cert.LnKvReferenceIdeal.Gen.V_main_arg0]
    exact funext fun k => congrFun h0 _
  have e1 : (fun k => (V m' c' main_v0 : Vec Ideal Cert.LnKvReferenceIdeal.S2x1x1536 .f32) (ix3 i 0 k)) = fun k => a1 m c (ix2 i k) :=
    funext fun k => (Cert.LnKvReferenceIdeal.Rows.shift_apply m' c' i k).trans (congrFun h1 _)
  have e2 : (fun k => (V m' c' main_v1 : Vec Ideal Cert.LnKvReferenceIdeal.S2x1x1536 .f32) (ix3 i 0 k)) = fun k => a2 m c (ix2 i k) :=
    funext fun k => (Cert.LnKvReferenceIdeal.Rows.mscale_apply m' c' i k).trans (congrFun h2 _)
  unfold Cert.LnKvReferenceIdeal.Rows.row tokenRow
  rw [e0, e1, e2]

theorem byte_eq (i : Fin 2) (n : Fin 15360) (j : Fin 1536) : rowByte (tokenRow m c i n) j = out0_9 (V m' c' main_arg0) (V m' c' main_v0) (V m' c' main_v1) (V m' c' main_v3) (V m' c' main_v5) (V m' c' main_v7) (V m' c' main_v8) (V m' c' main_arg7) (V m' c' main_arg8) (ix3 i n j) := by
  rw [Cert.LnKvReferenceIdeal.Rows.out9_apply, row_eq m c m' c' h0 h1 h2]

theorem scale_eq (i : Fin 2) (n : Fin 15360) : rowScale (tokenRow m c i n) = out0_10 (V m' c' main_arg0) (V m' c' main_v0) (V m' c' main_v1) (V m' c' main_v3) (V m' c' main_v5) (V m' c' main_v7) (V m' c' main_v8) (V m' c' main_arg7) (V m' c' main_arg8) (ix3 i 0 n) := by
  rw [Cert.LnKvReferenceIdeal.Rows.out10_apply, row_eq m c m' c' h0 h1 h2]

/-- The codes of the normalised rows agree. -/
theorem arrByte_eq : arrByte m c = out0_9 (V m' c' main_arg0) (V m' c' main_v0) (V m' c' main_v1) (V m' c' main_v3) (V m' c' main_v5) (V m' c' main_v7) (V m' c' main_v8) (V m' c' main_arg7) (V m' c' main_arg8) := by
  funext i
  rw [eq_ix3 i]
  exact byte_eq m c m' c' h0 h1 h2 (i 0) (i 1) (i 2)

/-- The scales of the normalised rows agree. -/
theorem arrScale_eq : arrScale m c = out0_10 (V m' c' main_arg0) (V m' c' main_v0) (V m' c' main_v1) (V m' c' main_v3) (V m' c' main_v5) (V m' c' main_v7) (V m' c' main_v8) (V m' c' main_arg7) (V m' c' main_arg8) := by
  funext i
  have hi : i = ix3 (i 0) 0 (i 2) := (eq_ix3 i).trans (congrArg (ix3 (i 0) · (i 2)) (Subsingleton.elim _ _))
  rw [hi]
  exact scale_eq m c m' c' h0 h1 h2 (i 0) (i 2)

omit h0 h1 h2

include h3 in
theorem codes_eq : (fun k e => (V m' c' main_v3 : Vec Ideal Cert.LnKvReferenceIdeal.S1536x3072 .i8) (ix2 k e)) = codesOf m c :=
  funext fun k => funext fun e => (Cert.LnKvReferenceIdeal.Rows.weight_apply m' c' k e).trans (congrFun h3 _)

include h4 in
theorem scales_eq : (fun e => (V m' c' main_v5 : Vec Ideal Cert.LnKvReferenceIdeal.S1x1x3072 .f32) (ix3 0 0 e)) = scalesOf m c :=
  funext fun e => (Cert.LnKvReferenceIdeal.Rows.wscale_apply m' c' e).trans (congrFun h4 _)

include h5 in
theorem bias_eq : (fun e => (V m' c' main_v7 : Vec Ideal Cert.LnKvReferenceIdeal.S1x1x3072 .f32) (ix3 0 0 e)) = biasOf m c :=
  funext fun e => (Cert.LnKvReferenceIdeal.Rows.bias_apply m' c' e).trans (congrFun h5 _)

include h6 in
theorem gain_eq : (fun e => (V m' c' main_v8 : Vec Ideal Cert.LnKvReferenceIdeal.S1x1x1536 .f32) (ix3 0 0 e)) = gainOf m c :=
  funext fun e => (Cert.LnKvReferenceIdeal.Rows.gain_apply m' c' e).trans (congrFun h6 _)

include h0 h1 h2 h3 h4 h5

theorem value_eq (i : Fin 2) (h : Fin 12) (n : Fin 15360) (j : Fin 128) : valueOf m c i n h j = out0_12 (V m' c' main_arg0) (V m' c' main_v0) (V m' c' main_v1) (V m' c' main_v3) (V m' c' main_v5) (V m' c' main_v7) (V m' c' main_v8) (V m' c' main_arg7) (V m' c' main_arg8) (ix4 i h n j) := by
  rw [Cert.LnKvReferenceIdeal.Rows.out12_apply, row_eq m c m' c' h0 h1 h2, codes_eq m c m' c' h3, scales_eq m c m' c' h4, bias_eq m c m' c' h5, valueOf]

/-- The values agree. -/
theorem arrValue_eq : arrValue m c = out0_12 (V m' c' main_arg0) (V m' c' main_v0) (V m' c' main_v1) (V m' c' main_v3) (V m' c' main_v5) (V m' c' main_v7) (V m' c' main_v8) (V m' c' main_arg7) (V m' c' main_arg8) := by
  funext i
  rw [eq_ix4 i]
  exact value_eq m c m' c' h0 h1 h2 h3 h4 h5 (i 0) (i 1) (i 2) (i 3)

include h6 h7 h8

theorem key_eq (i : Fin 2) (h : Fin 12) (n : Fin 15360) (j : Fin 128) : keyOf m c i n h j = out0_11 (V m' c' main_arg0) (V m' c' main_v0) (V m' c' main_v1) (V m' c' main_v3) (V m' c' main_v5) (V m' c' main_v7) (V m' c' main_v8) (V m' c' main_arg7) (V m' c' main_arg8) (ix4 i h n j) := by
  have e7 : (fun p => (V m' c' main_arg7 : Vec Ideal Cert.LnKvReferenceIdeal.S2x15360x64 .f32) (ix3 i n p)) = fun p => a7 m c (ix3 i n p) := by
    rw [Cert.LnKvReferenceIdeal.Gen.V_main_arg7]
    exact funext fun p => congrFun h7 _
  have e8 : (fun p => (V m' c' main_arg8 : Vec Ideal Cert.LnKvReferenceIdeal.S2x15360x64 .f32) (ix3 i n p)) = fun p => a8 m c (ix3 i n p) := by
    rw [Cert.LnKvReferenceIdeal.Gen.V_main_arg8]
    exact funext fun p => congrFun h8 _
  rw [Cert.LnKvReferenceIdeal.Rows.out11_apply, row_eq m c m' c' h0 h1 h2, codes_eq m c m' c' h3, scales_eq m c m' c' h4, bias_eq m c m' c' h5, gain_eq m c m' c' h6, e7, e8, keyOf]

/-- The keys agree. -/
theorem arrKey_eq : arrKey m c = out0_11 (V m' c' main_arg0) (V m' c' main_v0) (V m' c' main_v1) (V m' c' main_v3) (V m' c' main_v5) (V m' c' main_v7) (V m' c' main_v8) (V m' c' main_arg7) (V m' c' main_arg8) := by
  funext i
  rw [eq_ix4 i]
  exact key_eq m c m' c' h0 h1 h2 h3 h4 h5 h6 h7 h8 (i 0) (i 1) (i 2) (i 3)

end Cert.LnMatch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Match
public import proofs.«01_k».proof.Proof.OutMatch
public import proofs.«01_k».proof.Proof.LnMatch
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Skeleton
public import proofs.«01_k».proof.Proof.Gen.OutProjReferenceIdeal.Launch
public import proofs.«01_k».proof.Proof.Gen.OutProjReferenceIdeal.Points
public import proofs.«01_k».proof.Proof.Gen.OutProjReferenceIdeal.Frame
public import proofs.«01_k».proof.Proof.Gen.OutProjReferenceIdeal.Value
public import proofs.«01_k».proof.Proof.Gen.LnKv
public import proofs.«01_k».proof.Proof.Gen.LnKv.Skeleton
public import proofs.«01_k».proof.Proof.Gen.LnKv.Launch
public import proofs.«01_k».proof.Proof.Gen.LnKv.Points
public import proofs.«01_k».proof.Proof.Gen.LnKv.Frame
public import proofs.«01_k».proof.Proof.Gen.LnKvIdeal
public import proofs.«01_k».proof.Proof.Gen.LnKvIdeal.Skeleton
public import proofs.«01_k».proof.Proof.Gen.LnKvIdeal.Launch
public import proofs.«01_k».proof.Proof.Gen.LnKvIdeal.Points
public import proofs.«01_k».proof.Proof.Gen.LnKvIdeal.Frame
public import proofs.«01_k».proof.Proof.Gen.LnKvIdeal.Value
public import proofs.«01_k».proof.Proof.Gen.LnKvReferenceIdeal
public import proofs.«01_k».proof.Proof.Gen.LnKvReferenceIdeal.Skeleton
public import proofs.«01_k».proof.Proof.Gen.LnKvReferenceIdeal.Launch
public import proofs.«01_k».proof.Proof.Gen.LnKvReferenceIdeal.Points
public import proofs.«01_k».proof.Proof.Gen.LnKvReferenceIdeal.Frame
public import proofs.«01_k».proof.Proof.Gen.LnKvReferenceIdeal.Value
public import Idealize.ShloMosaic.Adequacy
public import Idealize.ShloMosaic.Init

@[expose] public section

noncomputable section

namespace Cert.Proof

open Idealize.ShloMosaic Idealize.SL.Sem Cert.Kernel

/-- The kernel's run and the reference's, from the same arguments, give the same three results and keep the arguments. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Att.arrO m c, fun c => Cert.KernelIdeal.Att.arrAttn m c, fun c => Cert.KernelIdeal.Att.arrLse m c, ?_, ?_⟩
  · exact (θ_run _ _ _).mono (fun r h c => ⟨(h c).1.trans (Cert.KernelIdeal.Att.final_o m c),
      (h c).2.1.trans (Cert.KernelIdeal.Att.final_attn m c), (h c).2.2.1.trans (Cert.KernelIdeal.Att.final_lse m c), (h c).2.2.2⟩)
      (Cert.KernelIdeal.Value.run_blocks m ρ)
  · refine (θ_run _ _ _).mono (fun r h c => ?_) (Cert.ReferenceIdeal.Att.run m' ρ')
    obtain ⟨h0, h1, h2, h3, h4, h5, h6, h7, h8⟩ := hagree c
    exact ⟨(h c).1.trans (Cert.Match.arrO_eq m c m' c h0 h1 h2 h3 h4 h5 h6).symm,
      (h c).2.1.trans (Cert.Match.arrAttn_eq m c m' c h0 h1 h2 h3 h4 h5 h6 h7).symm,
      (h c).2.2.1.trans (Cert.Match.arrLse_eq m c m' c h0 h1 h2 h3 h4 h8).symm, (h c).2.2.2⟩

/-- The output projection's run and its reference's, from the same arguments, give the same three results and keep the
    arguments. -/
theorem algebraic_out : Cert.algebraic_OutProjIdeal_OutProjReferenceIdeal (hOutProjIdeal := Cert.OutProjIdeal.Gen.facts)
    (hOutProjReferenceIdeal := Cert.OutProjReferenceIdeal.Gen.facts) := by
  intro m ρ m' ρ' _ hagree
  refine ⟨fun c => Cert.OutProjIdeal.Rows.arrHidden m c, fun c => Cert.OutProjIdeal.Rows.arrByte m c,
    fun c => Cert.OutProjIdeal.Rows.arrScale m c, ?_, ?_⟩
  · exact (θ_run _ _ _).mono (fun r h c => ⟨(h c).1.trans (Cert.OutProjIdeal.Rows.final_hidden m c),
      (h c).2.1.trans (Cert.OutProjIdeal.Rows.final_byte m c), (h c).2.2.1.trans (Cert.OutProjIdeal.Rows.final_scale m c), (h c).2.2.2⟩)
      (Cert.OutProjIdeal.Value.run_blocks m ρ)
  · refine (θ_run _ _ _).mono (fun r h c => ?_) (Cert.OutProjReferenceIdeal.Value.run_blocks m' ρ')
    obtain ⟨h0, h1, h2, h3, h4, h5⟩ := hagree c
    exact ⟨((h c).1.trans (Cert.OutProjReferenceIdeal.Rows.final6 m' c)).trans (Cert.OutMatch.arrHidden_eq m c m' c h0 h1 h2 h3 h4 h5).symm,
      ((h c).2.1.trans (Cert.OutProjReferenceIdeal.Rows.final7 m' c)).trans (Cert.OutMatch.arrByte_eq m c m' c h0).symm,
      ((h c).2.2.1.trans (Cert.OutProjReferenceIdeal.Rows.final8 m' c)).trans (Cert.OutMatch.arrScale_eq m c m' c h0).symm, (h c).2.2.2⟩

/-- The run of the layer norm and the projection to keys and values and its reference's, from the same arguments, give the same
    codes, scales, keys and values and keep the arguments. -/
theorem algebraic_ln : Cert.algebraic_LnKvIdeal_LnKvReferenceIdeal (hLnKvIdeal := Cert.LnKvIdeal.Gen.facts)
    (hLnKvReferenceIdeal := Cert.LnKvReferenceIdeal.Gen.facts) := by
  intro m ρ m' ρ' _ hagree
  refine ⟨fun c => Cert.LnKvIdeal.Rows.arrByte m c, fun c => Cert.LnKvIdeal.Rows.arrScale m c,
    fun c => Cert.LnKvIdeal.Rows.arrKey m c, fun c => Cert.LnKvIdeal.Rows.arrValue m c, ?_, ?_⟩
  · exact (θ_run _ _ _).mono (fun r h c => ⟨(h c).1.trans (Cert.LnKvIdeal.Rows.final_byte m c),
      (h c).2.1.trans (Cert.LnKvIdeal.Rows.final_scale m c), (h c).2.2.1.trans (Cert.LnKvIdeal.Rows.final_key m c),
      (h c).2.2.2.1.trans (Cert.LnKvIdeal.Rows.final_value m c), (h c).2.2.2.2.2.2.2.2⟩)
      (Cert.LnKvIdeal.Value.run_blocks m ρ)
  · refine (θ_run _ _ _).mono (fun r h c => ?_) (Cert.LnKvReferenceIdeal.Value.run_blocks m' ρ')
    obtain ⟨h0, h1, h2, h3, h4, h5, h6, h7, h8⟩ := hagree c
    exact ⟨((h c).1.trans (Cert.LnKvReferenceIdeal.Rows.final9 m' c)).trans (Cert.LnMatch.arrByte_eq m c m' c h0 h1 h2).symm,
      ((h c).2.1.trans (Cert.LnKvReferenceIdeal.Rows.final10 m' c)).trans (Cert.LnMatch.arrScale_eq m c m' c h0 h1 h2).symm,
      ((h c).2.2.1.trans (Cert.LnKvReferenceIdeal.Rows.final11 m' c)).trans (Cert.LnMatch.arrKey_eq m c m' c h0 h1 h2 h3 h4 h5 h6 h7 h8).symm,
      ((h c).2.2.2.1.trans (Cert.LnKvReferenceIdeal.Rows.final12 m' c)).trans (Cert.LnMatch.arrValue_eq m c m' c h0 h1 h2 h3 h4 h5).symm,
      (h c).2.2.2.2⟩

theorem claim : Cert.Claim := ⟨Cert.Kernel.Gen.facts, Cert.KernelIdeal.Gen.facts, Cert.ReferenceIdeal.Gen.facts,
  Cert.OutProj.Gen.facts, Cert.OutProjIdeal.Gen.facts, Cert.OutProjReferenceIdeal.Gen.facts,
  Cert.LnKv.Gen.facts, Cert.LnKvIdeal.Gen.facts, Cert.LnKvReferenceIdeal.Gen.facts,
  fun m ρ _ => Cert.Kernel.Gen.frame m ρ,
  fun m ρ _ => Cert.KernelIdeal.Gen.frame m ρ,
  fun m ρ _ => Cert.ReferenceIdeal.Gen.frame m ρ,
  fun m ρ _ => Cert.OutProj.Gen.frame m ρ,
  fun m ρ _ => Cert.OutProjIdeal.Gen.frame m ρ,
  fun m ρ _ => Cert.OutProjReferenceIdeal.Gen.frame m ρ,
  fun m ρ _ => Cert.LnKv.Gen.frame m ρ,
  fun m ρ _ => Cert.LnKvIdeal.Gen.frame m ρ,
  fun m ρ _ => Cert.LnKvReferenceIdeal.Gen.frame m ρ,
  IdealRules.named_const.statement Cert.KernelIdeal.κ "log2_e4m3_max" .f32 0x410CEAED#32
    (((Real.log 448) * (Real.log 2)⁻¹ : ℝ) : EReal) rfl,
  algebraic,
  trivial,
  algebraic_out,
  trivial,
  algebraic_ln⟩

end Cert.Proof

end
